-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8x256 : Shape := ⟨2, ![8, 256]⟩
abbrev S32x8x256 : Shape := ⟨3, ![32, 8, 256]⟩
abbrev S32 : Shape := ⟨1, ![32]⟩
abbrev S_ : Shape := ⟨0, ![]⟩
abbrev S128x256 : Shape := ⟨2, ![128, 256]⟩
abbrev S128x512 : Shape := ⟨2, ![128, 512]⟩
abbrev S16x8x256 : Shape := ⟨3, ![16, 8, 256]⟩
abbrev S1 : Shape := ⟨1, ![1]⟩
abbrev S1x8x256 : Shape := ⟨3, ![1, 8, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S8x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S8x256, .f32⟩
  | .local _ .vmem, ⟨8, _⟩ => ⟨S32x8x256, .bf16⟩
  | .local _ .vmem, ⟨9, _⟩ => ⟨S8x256, .bf16⟩
  | .local _ .vmem, ⟨10, _⟩ => ⟨S32x8x256, .bf16⟩
  | .local _ .vmem, ⟨11, _⟩ => ⟨S32x8x256, .bf16⟩
  | _, _ => ⟨S256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_290 : BitVec 32 := 0#32
  let v424 : BitVec 1 := Scalar.cmpi .ne v2 c0_i32_290
  let v425 : BitVec 32 := Scalar.extui v424
  let c0_i32_291 : BitVec 32 := 0#32
  let v426 : BitVec 1 := Scalar.cmpi .ne v425 c0_i32_291
  v426

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev32 : Nat :=
  let c0_i32_1353 : BitVec 32 := 0#32
  let c0_i32_1351 : BitVec 32 := 0#32
  let c1_i32_1352 : BitVec 32 := 1#32
  let v1992 : BitVec 32 := Scalar.muli c0_i32_1351 c1_i32_1352
  let v1993 : BitVec 32 := Scalar.addi c0_i32_1353 v1992
  v1993.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_292 : BitVec 32 := 1#32
  let v427 : BitVec 1 := Scalar.cmpi .ne v2 c1_i32_292
  let v428 : BitVec 32 := Scalar.extui v427
  let c0_i32_293 : BitVec 32 := 0#32
  let v429 : BitVec 1 := Scalar.cmpi .ne v428 c0_i32_293
  v429

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev33 : Nat :=
  let c0_i32_1353 : BitVec 32 := 0#32
  let c1_i32_1351 : BitVec 32 := 1#32
  let c1_i32_1352 : BitVec 32 := 1#32
  let v1992 : BitVec 32 := Scalar.muli c1_i32_1351 c1_i32_1352
  let v1993 : BitVec 32 := Scalar.addi c0_i32_1353 v1992
  v1993.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_294 : BitVec 32 := 2#32
  let v430 : BitVec 1 := Scalar.cmpi .ne v2 c2_i32_294
  let v431 : BitVec 32 := Scalar.extui v430
  let c0_i32_295 : BitVec 32 := 0#32
  let v432 : BitVec 1 := Scalar.cmpi .ne v431 c0_i32_295
  v432

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev34 : Nat :=
  let c0_i32_1353 : BitVec 32 := 0#32
  let c2_i32_1351 : BitVec 32 := 2#32
  let c1_i32_1352 : BitVec 32 := 1#32
  let v1992 : BitVec 32 := Scalar.muli c2_i32_1351 c1_i32_1352
  let v1993 : BitVec 32 := Scalar.addi c0_i32_1353 v1992
  v1993.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_296 : BitVec 32 := 3#32
  let v433 : BitVec 1 := Scalar.cmpi .ne v2 c3_i32_296
  let v434 : BitVec 32 := Scalar.extui v433
  let c0_i32_297 : BitVec 32 := 0#32
  let v435 : BitVec 1 := Scalar.cmpi .ne v434 c0_i32_297
  v435

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev35 : Nat :=
  let c0_i32_1353 : BitVec 32 := 0#32
  let c3_i32_1351 : BitVec 32 := 3#32
  let c1_i32_1352 : BitVec 32 := 1#32
  let v1992 : BitVec 32 := Scalar.muli c3_i32_1351 c1_i32_1352
  let v1993 : BitVec 32 := Scalar.addi c0_i32_1353 v1992
  v1993.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_298 : BitVec 32 := 4#32
  let v436 : BitVec 1 := Scalar.cmpi .ne v2 c4_i32_298
  let v437 : BitVec 32 := Scalar.extui v436
  let c0_i32_299 : BitVec 32 := 0#32
  let v438 : BitVec 1 := Scalar.cmpi .ne v437 c0_i32_299
  v438

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev36 : Nat :=
  let c0_i32_1353 : BitVec 32 := 0#32
  let c4_i32_1351 : BitVec 32 := 4#32
  let c1_i32_1352 : BitVec 32 := 1#32
  let v1992 : BitVec 32 := Scalar.muli c4_i32_1351 c1_i32_1352
  let v1993 : BitVec 32 := Scalar.addi c0_i32_1353 v1992
  v1993.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_300 : BitVec 32 := 5#32
  let v439 : BitVec 1 := Scalar.cmpi .ne v2 c5_i32_300
  let v440 : BitVec 32 := Scalar.extui v439
  let c0_i32_301 : BitVec 32 := 0#32
  let v441 : BitVec 1 := Scalar.cmpi .ne v440 c0_i32_301
  v441

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev37 : Nat :=
  let c0_i32_1353 : BitVec 32 := 0#32
  let c5_i32_1351 : BitVec 32 := 5#32
  let c1_i32_1352 : BitVec 32 := 1#32
  let v1992 : BitVec 32 := Scalar.muli c5_i32_1351 c1_i32_1352
  let v1993 : BitVec 32 := Scalar.addi c0_i32_1353 v1992
  v1993.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_302 : BitVec 32 := 6#32
  let v442 : BitVec 1 := Scalar.cmpi .ne v2 c6_i32_302
  let v443 : BitVec 32 := Scalar.extui v442
  let c0_i32_303 : BitVec 32 := 0#32
  let v444 : BitVec 1 := Scalar.cmpi .ne v443 c0_i32_303
  v444

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev38 : Nat :=
  let c0_i32_1353 : BitVec 32 := 0#32
  let c6_i32_1351 : BitVec 32 := 6#32
  let c1_i32_1352 : BitVec 32 := 1#32
  let v1992 : BitVec 32 := Scalar.muli c6_i32_1351 c1_i32_1352
  let v1993 : BitVec 32 := Scalar.addi c0_i32_1353 v1992
  v1993.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_304 : BitVec 32 := 7#32
  let v445 : BitVec 1 := Scalar.cmpi .ne v2 c7_i32_304
  let v446 : BitVec 32 := Scalar.extui v445
  let c0_i32_305 : BitVec 32 := 0#32
  let v447 : BitVec 1 := Scalar.cmpi .ne v446 c0_i32_305
  v447

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev39 : Nat :=
  let c0_i32_1353 : BitVec 32 := 0#32
  let c7_i32_1351 : BitVec 32 := 7#32
  let c1_i32_1352 : BitVec 32 := 1#32
  let v1992 : BitVec 32 := Scalar.muli c7_i32_1351 c1_i32_1352
  let v1993 : BitVec 32 := Scalar.addi c0_i32_1353 v1992
  v1993.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_306 : BitVec 32 := 8#32
  let v448 : BitVec 1 := Scalar.cmpi .ne v2 c8_i32_306
  let v449 : BitVec 32 := Scalar.extui v448
  let c0_i32_307 : BitVec 32 := 0#32
  let v450 : BitVec 1 := Scalar.cmpi .ne v449 c0_i32_307
  v450

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev40 : Nat :=
  let c0_i32_1353 : BitVec 32 := 0#32
  let c8_i32_1351 : BitVec 32 := 8#32
  let c1_i32_1352 : BitVec 32 := 1#32
  let v1992 : BitVec 32 := Scalar.muli c8_i32_1351 c1_i32_1352
  let v1993 : BitVec 32 := Scalar.addi c0_i32_1353 v1992
  v1993.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_308 : BitVec 32 := 9#32
  let v451 : BitVec 1 := Scalar.cmpi .ne v2 c9_i32_308
  let v452 : BitVec 32 := Scalar.extui v451
  let c0_i32_309 : BitVec 32 := 0#32
  let v453 : BitVec 1 := Scalar.cmpi .ne v452 c0_i32_309
  v453

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev41 : Nat :=
  let c0_i32_1353 : BitVec 32 := 0#32
  let c9_i32_1351 : BitVec 32 := 9#32
  let c1_i32_1352 : BitVec 32 := 1#32
  let v1992 : BitVec 32 := Scalar.muli c9_i32_1351 c1_i32_1352
  let v1993 : BitVec 32 := Scalar.addi c0_i32_1353 v1992
  v1993.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_310 : BitVec 32 := 10#32
  let v454 : BitVec 1 := Scalar.cmpi .ne v2 c10_i32_310
  let v455 : BitVec 32 := Scalar.extui v454
  let c0_i32_311 : BitVec 32 := 0#32
  let v456 : BitVec 1 := Scalar.cmpi .ne v455 c0_i32_311
  v456

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev42 : Nat :=
  let c0_i32_1353 : BitVec 32 := 0#32
  let c10_i32_1351 : BitVec 32 := 10#32
  let c1_i32_1352 : BitVec 32 := 1#32
  let v1992 : BitVec 32 := Scalar.muli c10_i32_1351 c1_i32_1352
  let v1993 : BitVec 32 := Scalar.addi c0_i32_1353 v1992
  v1993.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_312 : BitVec 32 := 11#32
  let v457 : BitVec 1 := Scalar.cmpi .ne v2 c11_i32_312
  let v458 : BitVec 32 := Scalar.extui v457
  let c0_i32_313 : BitVec 32 := 0#32
  let v459 : BitVec 1 := Scalar.cmpi .ne v458 c0_i32_313
  v459

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev43 : Nat :=
  let c0_i32_1353 : BitVec 32 := 0#32
  let c11_i32_1351 : BitVec 32 := 11#32
  let c1_i32_1352 : BitVec 32 := 1#32
  let v1992 : BitVec 32 := Scalar.muli c11_i32_1351 c1_i32_1352
  let v1993 : BitVec 32 := Scalar.addi c0_i32_1353 v1992
  v1993.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_314 : BitVec 32 := 12#32
  let v460 : BitVec 1 := Scalar.cmpi .ne v2 c12_i32_314
  let v461 : BitVec 32 := Scalar.extui v460
  let c0_i32_315 : BitVec 32 := 0#32
  let v462 : BitVec 1 := Scalar.cmpi .ne v461 c0_i32_315
  v462

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev44 : Nat :=
  let c0_i32_1353 : BitVec 32 := 0#32
  let c12_i32_1351 : BitVec 32 := 12#32
  let c1_i32_1352 : BitVec 32 := 1#32
  let v1992 : BitVec 32 := Scalar.muli c12_i32_1351 c1_i32_1352
  let v1993 : BitVec 32 := Scalar.addi c0_i32_1353 v1992
  v1993.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_316 : BitVec 32 := 13#32
  let v463 : BitVec 1 := Scalar.cmpi .ne v2 c13_i32_316
  let v464 : BitVec 32 := Scalar.extui v463
  let c0_i32_317 : BitVec 32 := 0#32
  let v465 : BitVec 1 := Scalar.cmpi .ne v464 c0_i32_317
  v465

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev45 : Nat :=
  let c0_i32_1353 : BitVec 32 := 0#32
  let c13_i32_1351 : BitVec 32 := 13#32
  let c1_i32_1352 : BitVec 32 := 1#32
  let v1992 : BitVec 32 := Scalar.muli c13_i32_1351 c1_i32_1352
  let v1993 : BitVec 32 := Scalar.addi c0_i32_1353 v1992
  v1993.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_318 : BitVec 32 := 14#32
  let v466 : BitVec 1 := Scalar.cmpi .ne v2 c14_i32_318
  let v467 : BitVec 32 := Scalar.extui v466
  let c0_i32_319 : BitVec 32 := 0#32
  let v468 : BitVec 1 := Scalar.cmpi .ne v467 c0_i32_319
  v468

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev46 : Nat :=
  let c0_i32_1353 : BitVec 32 := 0#32
  let c14_i32_1351 : BitVec 32 := 14#32
  let c1_i32_1352 : BitVec 32 := 1#32
  let v1992 : BitVec 32 := Scalar.muli c14_i32_1351 c1_i32_1352
  let v1993 : BitVec 32 := Scalar.addi c0_i32_1353 v1992
  v1993.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_320 : BitVec 32 := 15#32
  let v469 : BitVec 1 := Scalar.cmpi .ne v2 c15_i32_320
  let v470 : BitVec 32 := Scalar.extui v469
  let c0_i32_321 : BitVec 32 := 0#32
  let v471 : BitVec 1 := Scalar.cmpi .ne v470 c0_i32_321
  v471

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev47 : Nat :=
  let c0_i32_1353 : BitVec 32 := 0#32
  let c15_i32_1351 : BitVec 32 := 15#32
  let c1_i32_1352 : BitVec 32 := 1#32
  let v1992 : BitVec 32 := Scalar.muli c15_i32_1351 c1_i32_1352
  let v1993 : BitVec 32 := Scalar.addi c0_i32_1353 v1992
  v1993.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_331 : BitVec 32 := 16#32
  let v487 : BitVec 1 := Scalar.cmpi .ne v2 c16_i32_331
  let v488 : BitVec 32 := Scalar.extui v487
  let c0_i32_332 : BitVec 32 := 0#32
  let v489 : BitVec 1 := Scalar.cmpi .ne v488 c0_i32_332
  v489

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev48 : Nat :=
  let c0_i32_1353 : BitVec 32 := 0#32
  let c16_i32_1351 : BitVec 32 := 16#32
  let c1_i32_1352 : BitVec 32 := 1#32
  let v1992 : BitVec 32 := Scalar.muli c16_i32_1351 c1_i32_1352
  let v1993 : BitVec 32 := Scalar.addi c0_i32_1353 v1992
  v1993.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_333 : BitVec 32 := 17#32
  let v490 : BitVec 1 := Scalar.cmpi .ne v2 c17_i32_333
  let v491 : BitVec 32 := Scalar.extui v490
  let c0_i32_334 : BitVec 32 := 0#32
  let v492 : BitVec 1 := Scalar.cmpi .ne v491 c0_i32_334
  v492

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev49 : Nat :=
  let c0_i32_1353 : BitVec 32 := 0#32
  let c17_i32_1351 : BitVec 32 := 17#32
  let c1_i32_1352 : BitVec 32 := 1#32
  let v1992 : BitVec 32 := Scalar.muli c17_i32_1351 c1_i32_1352
  let v1993 : BitVec 32 := Scalar.addi c0_i32_1353 v1992
  v1993.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_335 : BitVec 32 := 18#32
  let v493 : BitVec 1 := Scalar.cmpi .ne v2 c18_i32_335
  let v494 : BitVec 32 := Scalar.extui v493
  let c0_i32_336 : BitVec 32 := 0#32
  let v495 : BitVec 1 := Scalar.cmpi .ne v494 c0_i32_336
  v495

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev50 : Nat :=
  let c0_i32_1353 : BitVec 32 := 0#32
  let c18_i32_1351 : BitVec 32 := 18#32
  let c1_i32_1352 : BitVec 32 := 1#32
  let v1992 : BitVec 32 := Scalar.muli c18_i32_1351 c1_i32_1352
  let v1993 : BitVec 32 := Scalar.addi c0_i32_1353 v1992
  v1993.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_337 : BitVec 32 := 19#32
  let v496 : BitVec 1 := Scalar.cmpi .ne v2 c19_i32_337
  let v497 : BitVec 32 := Scalar.extui v496
  let c0_i32_338 : BitVec 32 := 0#32
  let v498 : BitVec 1 := Scalar.cmpi .ne v497 c0_i32_338
  v498

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev51 : Nat :=
  let c0_i32_1353 : BitVec 32 := 0#32
  let c19_i32_1351 : BitVec 32 := 19#32
  let c1_i32_1352 : BitVec 32 := 1#32
  let v1992 : BitVec 32 := Scalar.muli c19_i32_1351 c1_i32_1352
  let v1993 : BitVec 32 := Scalar.addi c0_i32_1353 v1992
  v1993.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_339 : BitVec 32 := 20#32
  let v499 : BitVec 1 := Scalar.cmpi .ne v2 c20_i32_339
  let v500 : BitVec 32 := Scalar.extui v499
  let c0_i32_340 : BitVec 32 := 0#32
  let v501 : BitVec 1 := Scalar.cmpi .ne v500 c0_i32_340
  v501

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev52 : Nat :=
  let c0_i32_1353 : BitVec 32 := 0#32
  let c20_i32_1351 : BitVec 32 := 20#32
  let c1_i32_1352 : BitVec 32 := 1#32
  let v1992 : BitVec 32 := Scalar.muli c20_i32_1351 c1_i32_1352
  let v1993 : BitVec 32 := Scalar.addi c0_i32_1353 v1992
  v1993.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_341 : BitVec 32 := 21#32
  let v502 : BitVec 1 := Scalar.cmpi .ne v2 c21_i32_341
  let v503 : BitVec 32 := Scalar.extui v502
  let c0_i32_342 : BitVec 32 := 0#32
  let v504 : BitVec 1 := Scalar.cmpi .ne v503 c0_i32_342
  v504

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev53 : Nat :=
  let c0_i32_1353 : BitVec 32 := 0#32
  let c21_i32_1351 : BitVec 32 := 21#32
  let c1_i32_1352 : BitVec 32 := 1#32
  let v1992 : BitVec 32 := Scalar.muli c21_i32_1351 c1_i32_1352
  let v1993 : BitVec 32 := Scalar.addi c0_i32_1353 v1992
  v1993.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_343 : BitVec 32 := 22#32
  let v505 : BitVec 1 := Scalar.cmpi .ne v2 c22_i32_343
  let v506 : BitVec 32 := Scalar.extui v505
  let c0_i32_344 : BitVec 32 := 0#32
  let v507 : BitVec 1 := Scalar.cmpi .ne v506 c0_i32_344
  v507

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev54 : Nat :=
  let c0_i32_1353 : BitVec 32 := 0#32
  let c22_i32_1351 : BitVec 32 := 22#32
  let c1_i32_1352 : BitVec 32 := 1#32
  let v1992 : BitVec 32 := Scalar.muli c22_i32_1351 c1_i32_1352
  let v1993 : BitVec 32 := Scalar.addi c0_i32_1353 v1992
  v1993.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_345 : BitVec 32 := 23#32
  let v508 : BitVec 1 := Scalar.cmpi .ne v2 c23_i32_345
  let v509 : BitVec 32 := Scalar.extui v508
  let c0_i32_346 : BitVec 32 := 0#32
  let v510 : BitVec 1 := Scalar.cmpi .ne v509 c0_i32_346
  v510

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev55 : Nat :=
  let c0_i32_1353 : BitVec 32 := 0#32
  let c23_i32_1351 : BitVec 32 := 23#32
  let c1_i32_1352 : BitVec 32 := 1#32
  let v1992 : BitVec 32 := Scalar.muli c23_i32_1351 c1_i32_1352
  let v1993 : BitVec 32 := Scalar.addi c0_i32_1353 v1992
  v1993.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_347 : BitVec 32 := 24#32
  let v511 : BitVec 1 := Scalar.cmpi .ne v2 c24_i32_347
  let v512 : BitVec 32 := Scalar.extui v511
  let c0_i32_348 : BitVec 32 := 0#32
  let v513 : BitVec 1 := Scalar.cmpi .ne v512 c0_i32_348
  v513

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev56 : Nat :=
  let c0_i32_1353 : BitVec 32 := 0#32
  let c24_i32_1351 : BitVec 32 := 24#32
  let c1_i32_1352 : BitVec 32 := 1#32
  let v1992 : BitVec 32 := Scalar.muli c24_i32_1351 c1_i32_1352
  let v1993 : BitVec 32 := Scalar.addi c0_i32_1353 v1992
  v1993.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_349 : BitVec 32 := 25#32
  let v514 : BitVec 1 := Scalar.cmpi .ne v2 c25_i32_349
  let v515 : BitVec 32 := Scalar.extui v514
  let c0_i32_350 : BitVec 32 := 0#32
  let v516 : BitVec 1 := Scalar.cmpi .ne v515 c0_i32_350
  v516

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev57 : Nat :=
  let c0_i32_1353 : BitVec 32 := 0#32
  let c25_i32_1351 : BitVec 32 := 25#32
  let c1_i32_1352 : BitVec 32 := 1#32
  let v1992 : BitVec 32 := Scalar.muli c25_i32_1351 c1_i32_1352
  let v1993 : BitVec 32 := Scalar.addi c0_i32_1353 v1992
  v1993.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_351 : BitVec 32 := 26#32
  let v517 : BitVec 1 := Scalar.cmpi .ne v2 c26_i32_351
  let v518 : BitVec 32 := Scalar.extui v517
  let c0_i32_352 : BitVec 32 := 0#32
  let v519 : BitVec 1 := Scalar.cmpi .ne v518 c0_i32_352
  v519

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev58 : Nat :=
  let c0_i32_1353 : BitVec 32 := 0#32
  let c26_i32_1351 : BitVec 32 := 26#32
  let c1_i32_1352 : BitVec 32 := 1#32
  let v1992 : BitVec 32 := Scalar.muli c26_i32_1351 c1_i32_1352
  let v1993 : BitVec 32 := Scalar.addi c0_i32_1353 v1992
  v1993.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_353 : BitVec 32 := 27#32
  let v520 : BitVec 1 := Scalar.cmpi .ne v2 c27_i32_353
  let v521 : BitVec 32 := Scalar.extui v520
  let c0_i32_354 : BitVec 32 := 0#32
  let v522 : BitVec 1 := Scalar.cmpi .ne v521 c0_i32_354
  v522

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev59 : Nat :=
  let c0_i32_1353 : BitVec 32 := 0#32
  let c27_i32_1351 : BitVec 32 := 27#32
  let c1_i32_1352 : BitVec 32 := 1#32
  let v1992 : BitVec 32 := Scalar.muli c27_i32_1351 c1_i32_1352
  let v1993 : BitVec 32 := Scalar.addi c0_i32_1353 v1992
  v1993.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_355 : BitVec 32 := 28#32
  let v523 : BitVec 1 := Scalar.cmpi .ne v2 c28_i32_355
  let v524 : BitVec 32 := Scalar.extui v523
  let c0_i32_356 : BitVec 32 := 0#32
  let v525 : BitVec 1 := Scalar.cmpi .ne v524 c0_i32_356
  v525

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev60 : Nat :=
  let c0_i32_1353 : BitVec 32 := 0#32
  let c28_i32_1351 : BitVec 32 := 28#32
  let c1_i32_1352 : BitVec 32 := 1#32
  let v1992 : BitVec 32 := Scalar.muli c28_i32_1351 c1_i32_1352
  let v1993 : BitVec 32 := Scalar.addi c0_i32_1353 v1992
  v1993.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_357 : BitVec 32 := 29#32
  let v526 : BitVec 1 := Scalar.cmpi .ne v2 c29_i32_357
  let v527 : BitVec 32 := Scalar.extui v526
  let c0_i32_358 : BitVec 32 := 0#32
  let v528 : BitVec 1 := Scalar.cmpi .ne v527 c0_i32_358
  v528

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev61 : Nat :=
  let c0_i32_1353 : BitVec 32 := 0#32
  let c29_i32_1351 : BitVec 32 := 29#32
  let c1_i32_1352 : BitVec 32 := 1#32
  let v1992 : BitVec 32 := Scalar.muli c29_i32_1351 c1_i32_1352
  let v1993 : BitVec 32 := Scalar.addi c0_i32_1353 v1992
  v1993.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_359 : BitVec 32 := 30#32
  let v529 : BitVec 1 := Scalar.cmpi .ne v2 c30_i32_359
  let v530 : BitVec 32 := Scalar.extui v529
  let c0_i32_360 : BitVec 32 := 0#32
  let v531 : BitVec 1 := Scalar.cmpi .ne v530 c0_i32_360
  v531

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev62 : Nat :=
  let c0_i32_1353 : BitVec 32 := 0#32
  let c30_i32_1351 : BitVec 32 := 30#32
  let c1_i32_1352 : BitVec 32 := 1#32
  let v1992 : BitVec 32 := Scalar.muli c30_i32_1351 c1_i32_1352
  let v1993 : BitVec 32 := Scalar.addi c0_i32_1353 v1992
  v1993.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_361 : BitVec 32 := 31#32
  let v532 : BitVec 1 := Scalar.cmpi .ne v2 c31_i32_361
  let v533 : BitVec 32 := Scalar.extui v532
  let c0_i32_362 : BitVec 32 := 0#32
  let v534 : BitVec 1 := Scalar.cmpi .ne v533 c0_i32_362
  v534

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev63 : Nat :=
  let c0_i32_1353 : BitVec 32 := 0#32
  let c31_i32_1351 : BitVec 32 := 31#32
  let c1_i32_1352 : BitVec 32 := 1#32
  let v1992 : BitVec 32 := Scalar.muli c31_i32_1351 c1_i32_1352
  let v1993 : BitVec 32 := Scalar.addi c0_i32_1353 v1992
  v1993.toNat
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v535 : Index := Scalar.indexCast v2
  let c0_363 : Index := 0#32
  let c0_364 : Index := 0#32
  ![v535.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_431 : BitVec 32 := 0#32
  let v638 : BitVec 1 := Scalar.cmpi .ne v2 c0_i32_431
  let v639 : BitVec 32 := Scalar.extui v638
  let c0_i32_432 : BitVec 32 := 0#32
  let v640 : BitVec 1 := Scalar.cmpi .ne v639 c0_i32_432
  v640

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_433 : BitVec 32 := 1#32
  let v641 : BitVec 1 := Scalar.cmpi .ne v2 c1_i32_433
  let v642 : BitVec 32 := Scalar.extui v641
  let c0_i32_434 : BitVec 32 := 0#32
  let v643 : BitVec 1 := Scalar.cmpi .ne v642 c0_i32_434
  v643

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_435 : BitVec 32 := 2#32
  let v644 : BitVec 1 := Scalar.cmpi .ne v2 c2_i32_435
  let v645 : BitVec 32 := Scalar.extui v644
  let c0_i32_436 : BitVec 32 := 0#32
  let v646 : BitVec 1 := Scalar.cmpi .ne v645 c0_i32_436
  v646

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_437 : BitVec 32 := 3#32
  let v647 : BitVec 1 := Scalar.cmpi .ne v2 c3_i32_437
  let v648 : BitVec 32 := Scalar.extui v647
  let c0_i32_438 : BitVec 32 := 0#32
  let v649 : BitVec 1 := Scalar.cmpi .ne v648 c0_i32_438
  v649

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_439 : BitVec 32 := 4#32
  let v650 : BitVec 1 := Scalar.cmpi .ne v2 c4_i32_439
  let v651 : BitVec 32 := Scalar.extui v650
  let c0_i32_440 : BitVec 32 := 0#32
  let v652 : BitVec 1 := Scalar.cmpi .ne v651 c0_i32_440
  v652

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_441 : BitVec 32 := 5#32
  let v653 : BitVec 1 := Scalar.cmpi .ne v2 c5_i32_441
  let v654 : BitVec 32 := Scalar.extui v653
  let c0_i32_442 : BitVec 32 := 0#32
  let v655 : BitVec 1 := Scalar.cmpi .ne v654 c0_i32_442
  v655

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_443 : BitVec 32 := 6#32
  let v656 : BitVec 1 := Scalar.cmpi .ne v2 c6_i32_443
  let v657 : BitVec 32 := Scalar.extui v656
  let c0_i32_444 : BitVec 32 := 0#32
  let v658 : BitVec 1 := Scalar.cmpi .ne v657 c0_i32_444
  v658

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_445 : BitVec 32 := 7#32
  let v659 : BitVec 1 := Scalar.cmpi .ne v2 c7_i32_445
  let v660 : BitVec 32 := Scalar.extui v659
  let c0_i32_446 : BitVec 32 := 0#32
  let v661 : BitVec 1 := Scalar.cmpi .ne v660 c0_i32_446
  v661

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_447 : BitVec 32 := 8#32
  let v662 : BitVec 1 := Scalar.cmpi .ne v2 c8_i32_447
  let v663 : BitVec 32 := Scalar.extui v662
  let c0_i32_448 : BitVec 32 := 0#32
  let v664 : BitVec 1 := Scalar.cmpi .ne v663 c0_i32_448
  v664

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_449 : BitVec 32 := 9#32
  let v665 : BitVec 1 := Scalar.cmpi .ne v2 c9_i32_449
  let v666 : BitVec 32 := Scalar.extui v665
  let c0_i32_450 : BitVec 32 := 0#32
  let v667 : BitVec 1 := Scalar.cmpi .ne v666 c0_i32_450
  v667

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_451 : BitVec 32 := 10#32
  let v668 : BitVec 1 := Scalar.cmpi .ne v2 c10_i32_451
  let v669 : BitVec 32 := Scalar.extui v668
  let c0_i32_452 : BitVec 32 := 0#32
  let v670 : BitVec 1 := Scalar.cmpi .ne v669 c0_i32_452
  v670

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_453 : BitVec 32 := 11#32
  let v671 : BitVec 1 := Scalar.cmpi .ne v2 c11_i32_453
  let v672 : BitVec 32 := Scalar.extui v671
  let c0_i32_454 : BitVec 32 := 0#32
  let v673 : BitVec 1 := Scalar.cmpi .ne v672 c0_i32_454
  v673

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_455 : BitVec 32 := 12#32
  let v674 : BitVec 1 := Scalar.cmpi .ne v2 c12_i32_455
  let v675 : BitVec 32 := Scalar.extui v674
  let c0_i32_456 : BitVec 32 := 0#32
  let v676 : BitVec 1 := Scalar.cmpi .ne v675 c0_i32_456
  v676

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_457 : BitVec 32 := 13#32
  let v677 : BitVec 1 := Scalar.cmpi .ne v2 c13_i32_457
  let v678 : BitVec 32 := Scalar.extui v677
  let c0_i32_458 : BitVec 32 := 0#32
  let v679 : BitVec 1 := Scalar.cmpi .ne v678 c0_i32_458
  v679

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_459 : BitVec 32 := 14#32
  let v680 : BitVec 1 := Scalar.cmpi .ne v2 c14_i32_459
  let v681 : BitVec 32 := Scalar.extui v680
  let c0_i32_460 : BitVec 32 := 0#32
  let v682 : BitVec 1 := Scalar.cmpi .ne v681 c0_i32_460
  v682

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_461 : BitVec 32 := 15#32
  let v683 : BitVec 1 := Scalar.cmpi .ne v2 c15_i32_461
  let v684 : BitVec 32 := Scalar.extui v683
  let c0_i32_462 : BitVec 32 := 0#32
  let v685 : BitVec 1 := Scalar.cmpi .ne v684 c0_i32_462
  v685

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_463 : BitVec 32 := 16#32
  let v686 : BitVec 1 := Scalar.cmpi .ne v2 c16_i32_463
  let v687 : BitVec 32 := Scalar.extui v686
  let c0_i32_464 : BitVec 32 := 0#32
  let v688 : BitVec 1 := Scalar.cmpi .ne v687 c0_i32_464
  v688

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_465 : BitVec 32 := 17#32
  let v689 : BitVec 1 := Scalar.cmpi .ne v2 c17_i32_465
  let v690 : BitVec 32 := Scalar.extui v689
  let c0_i32_466 : BitVec 32 := 0#32
  let v691 : BitVec 1 := Scalar.cmpi .ne v690 c0_i32_466
  v691

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_467 : BitVec 32 := 18#32
  let v692 : BitVec 1 := Scalar.cmpi .ne v2 c18_i32_467
  let v693 : BitVec 32 := Scalar.extui v692
  let c0_i32_468 : BitVec 32 := 0#32
  let v694 : BitVec 1 := Scalar.cmpi .ne v693 c0_i32_468
  v694

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_469 : BitVec 32 := 19#32
  let v695 : BitVec 1 := Scalar.cmpi .ne v2 c19_i32_469
  let v696 : BitVec 32 := Scalar.extui v695
  let c0_i32_470 : BitVec 32 := 0#32
  let v697 : BitVec 1 := Scalar.cmpi .ne v696 c0_i32_470
  v697

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_471 : BitVec 32 := 20#32
  let v698 : BitVec 1 := Scalar.cmpi .ne v2 c20_i32_471
  let v699 : BitVec 32 := Scalar.extui v698
  let c0_i32_472 : BitVec 32 := 0#32
  let v700 : BitVec 1 := Scalar.cmpi .ne v699 c0_i32_472
  v700

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_473 : BitVec 32 := 21#32
  let v701 : BitVec 1 := Scalar.cmpi .ne v2 c21_i32_473
  let v702 : BitVec 32 := Scalar.extui v701
  let c0_i32_474 : BitVec 32 := 0#32
  let v703 : BitVec 1 := Scalar.cmpi .ne v702 c0_i32_474
  v703

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_475 : BitVec 32 := 22#32
  let v704 : BitVec 1 := Scalar.cmpi .ne v2 c22_i32_475
  let v705 : BitVec 32 := Scalar.extui v704
  let c0_i32_476 : BitVec 32 := 0#32
  let v706 : BitVec 1 := Scalar.cmpi .ne v705 c0_i32_476
  v706

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_477 : BitVec 32 := 23#32
  let v707 : BitVec 1 := Scalar.cmpi .ne v2 c23_i32_477
  let v708 : BitVec 32 := Scalar.extui v707
  let c0_i32_478 : BitVec 32 := 0#32
  let v709 : BitVec 1 := Scalar.cmpi .ne v708 c0_i32_478
  v709

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_479 : BitVec 32 := 24#32
  let v710 : BitVec 1 := Scalar.cmpi .ne v2 c24_i32_479
  let v711 : BitVec 32 := Scalar.extui v710
  let c0_i32_480 : BitVec 32 := 0#32
  let v712 : BitVec 1 := Scalar.cmpi .ne v711 c0_i32_480
  v712

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_481 : BitVec 32 := 25#32
  let v713 : BitVec 1 := Scalar.cmpi .ne v2 c25_i32_481
  let v714 : BitVec 32 := Scalar.extui v713
  let c0_i32_482 : BitVec 32 := 0#32
  let v715 : BitVec 1 := Scalar.cmpi .ne v714 c0_i32_482
  v715

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_483 : BitVec 32 := 26#32
  let v716 : BitVec 1 := Scalar.cmpi .ne v2 c26_i32_483
  let v717 : BitVec 32 := Scalar.extui v716
  let c0_i32_484 : BitVec 32 := 0#32
  let v718 : BitVec 1 := Scalar.cmpi .ne v717 c0_i32_484
  v718

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_485 : BitVec 32 := 27#32
  let v719 : BitVec 1 := Scalar.cmpi .ne v2 c27_i32_485
  let v720 : BitVec 32 := Scalar.extui v719
  let c0_i32_486 : BitVec 32 := 0#32
  let v721 : BitVec 1 := Scalar.cmpi .ne v720 c0_i32_486
  v721

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_487 : BitVec 32 := 28#32
  let v722 : BitVec 1 := Scalar.cmpi .ne v2 c28_i32_487
  let v723 : BitVec 32 := Scalar.extui v722
  let c0_i32_488 : BitVec 32 := 0#32
  let v724 : BitVec 1 := Scalar.cmpi .ne v723 c0_i32_488
  v724

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_489 : BitVec 32 := 29#32
  let v725 : BitVec 1 := Scalar.cmpi .ne v2 c29_i32_489
  let v726 : BitVec 32 := Scalar.extui v725
  let c0_i32_490 : BitVec 32 := 0#32
  let v727 : BitVec 1 := Scalar.cmpi .ne v726 c0_i32_490
  v727

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_491 : BitVec 32 := 30#32
  let v728 : BitVec 1 := Scalar.cmpi .ne v2 c30_i32_491
  let v729 : BitVec 32 := Scalar.extui v728
  let c0_i32_492 : BitVec 32 := 0#32
  let v730 : BitVec 1 := Scalar.cmpi .ne v729 c0_i32_492
  v730

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_493 : BitVec 32 := 31#32
  let v731 : BitVec 1 := Scalar.cmpi .ne v2 c31_i32_493
  let v732 : BitVec 32 := Scalar.extui v731
  let c0_i32_494 : BitVec 32 := 0#32
  let v733 : BitVec 1 := Scalar.cmpi .ne v732 c0_i32_494
  v733

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_505 : BitVec 32 := 0#32
  let v746 : BitVec 1 := Scalar.cmpi .ne v2 c0_i32_505
  let v747 : BitVec 32 := Scalar.extui v746
  let c0_i32_506 : BitVec 32 := 0#32
  let v748 : BitVec 1 := Scalar.cmpi .ne v747 c0_i32_506
  v748

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev64 : Nat :=
  let c0_i32_1352 : BitVec 32 := 0#32
  let c0_i32_1350 : BitVec 32 := 0#32
  let c1_i32_1351 : BitVec 32 := 1#32
  let v1992 : BitVec 32 := Scalar.muli c0_i32_1350 c1_i32_1351
  let v1993 : BitVec 32 := Scalar.addi c0_i32_1352 v1992
  v1993.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_507 : BitVec 32 := 1#32
  let v749 : BitVec 1 := Scalar.cmpi .ne v2 c1_i32_507
  let v750 : BitVec 32 := Scalar.extui v749
  let c0_i32_508 : BitVec 32 := 0#32
  let v751 : BitVec 1 := Scalar.cmpi .ne v750 c0_i32_508
  v751

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev65 : Nat :=
  let c0_i32_1352 : BitVec 32 := 0#32
  let c1_i32_1350 : BitVec 32 := 1#32
  let c1_i32_1351 : BitVec 32 := 1#32
  let v1992 : BitVec 32 := Scalar.muli c1_i32_1350 c1_i32_1351
  let v1993 : BitVec 32 := Scalar.addi c0_i32_1352 v1992
  v1993.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_509 : BitVec 32 := 2#32
  let v752 : BitVec 1 := Scalar.cmpi .ne v2 c2_i32_509
  let v753 : BitVec 32 := Scalar.extui v752
  let c0_i32_510 : BitVec 32 := 0#32
  let v754 : BitVec 1 := Scalar.cmpi .ne v753 c0_i32_510
  v754

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev66 : Nat :=
  let c0_i32_1352 : BitVec 32 := 0#32
  let c2_i32_1350 : BitVec 32 := 2#32
  let c1_i32_1351 : BitVec 32 := 1#32
  let v1992 : BitVec 32 := Scalar.muli c2_i32_1350 c1_i32_1351
  let v1993 : BitVec 32 := Scalar.addi c0_i32_1352 v1992
  v1993.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_511 : BitVec 32 := 3#32
  let v755 : BitVec 1 := Scalar.cmpi .ne v2 c3_i32_511
  let v756 : BitVec 32 := Scalar.extui v755
  let c0_i32_512 : BitVec 32 := 0#32
  let v757 : BitVec 1 := Scalar.cmpi .ne v756 c0_i32_512
  v757

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev67 : Nat :=
  let c0_i32_1352 : BitVec 32 := 0#32
  let c3_i32_1350 : BitVec 32 := 3#32
  let c1_i32_1351 : BitVec 32 := 1#32
  let v1992 : BitVec 32 := Scalar.muli c3_i32_1350 c1_i32_1351
  let v1993 : BitVec 32 := Scalar.addi c0_i32_1352 v1992
  v1993.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_513 : BitVec 32 := 4#32
  let v758 : BitVec 1 := Scalar.cmpi .ne v2 c4_i32_513
  let v759 : BitVec 32 := Scalar.extui v758
  let c0_i32_514 : BitVec 32 := 0#32
  let v760 : BitVec 1 := Scalar.cmpi .ne v759 c0_i32_514
  v760

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev68 : Nat :=
  let c0_i32_1352 : BitVec 32 := 0#32
  let c4_i32_1350 : BitVec 32 := 4#32
  let c1_i32_1351 : BitVec 32 := 1#32
  let v1992 : BitVec 32 := Scalar.muli c4_i32_1350 c1_i32_1351
  let v1993 : BitVec 32 := Scalar.addi c0_i32_1352 v1992
  v1993.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_515 : BitVec 32 := 5#32
  let v761 : BitVec 1 := Scalar.cmpi .ne v2 c5_i32_515
  let v762 : BitVec 32 := Scalar.extui v761
  let c0_i32_516 : BitVec 32 := 0#32
  let v763 : BitVec 1 := Scalar.cmpi .ne v762 c0_i32_516
  v763

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev69 : Nat :=
  let c0_i32_1352 : BitVec 32 := 0#32
  let c5_i32_1350 : BitVec 32 := 5#32
  let c1_i32_1351 : BitVec 32 := 1#32
  let v1992 : BitVec 32 := Scalar.muli c5_i32_1350 c1_i32_1351
  let v1993 : BitVec 32 := Scalar.addi c0_i32_1352 v1992
  v1993.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_517 : BitVec 32 := 6#32
  let v764 : BitVec 1 := Scalar.cmpi .ne v2 c6_i32_517
  let v765 : BitVec 32 := Scalar.extui v764
  let c0_i32_518 : BitVec 32 := 0#32
  let v766 : BitVec 1 := Scalar.cmpi .ne v765 c0_i32_518
  v766

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev70 : Nat :=
  let c0_i32_1352 : BitVec 32 := 0#32
  let c6_i32_1350 : BitVec 32 := 6#32
  let c1_i32_1351 : BitVec 32 := 1#32
  let v1992 : BitVec 32 := Scalar.muli c6_i32_1350 c1_i32_1351
  let v1993 : BitVec 32 := Scalar.addi c0_i32_1352 v1992
  v1993.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_519 : BitVec 32 := 7#32
  let v767 : BitVec 1 := Scalar.cmpi .ne v2 c7_i32_519
  let v768 : BitVec 32 := Scalar.extui v767
  let c0_i32_520 : BitVec 32 := 0#32
  let v769 : BitVec 1 := Scalar.cmpi .ne v768 c0_i32_520
  v769

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev71 : Nat :=
  let c0_i32_1352 : BitVec 32 := 0#32
  let c7_i32_1350 : BitVec 32 := 7#32
  let c1_i32_1351 : BitVec 32 := 1#32
  let v1992 : BitVec 32 := Scalar.muli c7_i32_1350 c1_i32_1351
  let v1993 : BitVec 32 := Scalar.addi c0_i32_1352 v1992
  v1993.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_521 : BitVec 32 := 8#32
  let v770 : BitVec 1 := Scalar.cmpi .ne v2 c8_i32_521
  let v771 : BitVec 32 := Scalar.extui v770
  let c0_i32_522 : BitVec 32 := 0#32
  let v772 : BitVec 1 := Scalar.cmpi .ne v771 c0_i32_522
  v772

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev72 : Nat :=
  let c0_i32_1352 : BitVec 32 := 0#32
  let c8_i32_1350 : BitVec 32 := 8#32
  let c1_i32_1351 : BitVec 32 := 1#32
  let v1992 : BitVec 32 := Scalar.muli c8_i32_1350 c1_i32_1351
  let v1993 : BitVec 32 := Scalar.addi c0_i32_1352 v1992
  v1993.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_523 : BitVec 32 := 9#32
  let v773 : BitVec 1 := Scalar.cmpi .ne v2 c9_i32_523
  let v774 : BitVec 32 := Scalar.extui v773
  let c0_i32_524 : BitVec 32 := 0#32
  let v775 : BitVec 1 := Scalar.cmpi .ne v774 c0_i32_524
  v775

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev73 : Nat :=
  let c0_i32_1352 : BitVec 32 := 0#32
  let c9_i32_1350 : BitVec 32 := 9#32
  let c1_i32_1351 : BitVec 32 := 1#32
  let v1992 : BitVec 32 := Scalar.muli c9_i32_1350 c1_i32_1351
  let v1993 : BitVec 32 := Scalar.addi c0_i32_1352 v1992
  v1993.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_525 : BitVec 32 := 10#32
  let v776 : BitVec 1 := Scalar.cmpi .ne v2 c10_i32_525
  let v777 : BitVec 32 := Scalar.extui v776
  let c0_i32_526 : BitVec 32 := 0#32
  let v778 : BitVec 1 := Scalar.cmpi .ne v777 c0_i32_526
  v778

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev74 : Nat :=
  let c0_i32_1352 : BitVec 32 := 0#32
  let c10_i32_1350 : BitVec 32 := 10#32
  let c1_i32_1351 : BitVec 32 := 1#32
  let v1992 : BitVec 32 := Scalar.muli c10_i32_1350 c1_i32_1351
  let v1993 : BitVec 32 := Scalar.addi c0_i32_1352 v1992
  v1993.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_527 : BitVec 32 := 11#32
  let v779 : BitVec 1 := Scalar.cmpi .ne v2 c11_i32_527
  let v780 : BitVec 32 := Scalar.extui v779
  let c0_i32_528 : BitVec 32 := 0#32
  let v781 : BitVec 1 := Scalar.cmpi .ne v780 c0_i32_528
  v781

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev75 : Nat :=
  let c0_i32_1352 : BitVec 32 := 0#32
  let c11_i32_1350 : BitVec 32 := 11#32
  let c1_i32_1351 : BitVec 32 := 1#32
  let v1992 : BitVec 32 := Scalar.muli c11_i32_1350 c1_i32_1351
  let v1993 : BitVec 32 := Scalar.addi c0_i32_1352 v1992
  v1993.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_529 : BitVec 32 := 12#32
  let v782 : BitVec 1 := Scalar.cmpi .ne v2 c12_i32_529
  let v783 : BitVec 32 := Scalar.extui v782
  let c0_i32_530 : BitVec 32 := 0#32
  let v784 : BitVec 1 := Scalar.cmpi .ne v783 c0_i32_530
  v784

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev76 : Nat :=
  let c0_i32_1352 : BitVec 32 := 0#32
  let c12_i32_1350 : BitVec 32 := 12#32
  let c1_i32_1351 : BitVec 32 := 1#32
  let v1992 : BitVec 32 := Scalar.muli c12_i32_1350 c1_i32_1351
  let v1993 : BitVec 32 := Scalar.addi c0_i32_1352 v1992
  v1993.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_531 : BitVec 32 := 13#32
  let v785 : BitVec 1 := Scalar.cmpi .ne v2 c13_i32_531
  let v786 : BitVec 32 := Scalar.extui v785
  let c0_i32_532 : BitVec 32 := 0#32
  let v787 : BitVec 1 := Scalar.cmpi .ne v786 c0_i32_532
  v787

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev77 : Nat :=
  let c0_i32_1352 : BitVec 32 := 0#32
  let c13_i32_1350 : BitVec 32 := 13#32
  let c1_i32_1351 : BitVec 32 := 1#32
  let v1992 : BitVec 32 := Scalar.muli c13_i32_1350 c1_i32_1351
  let v1993 : BitVec 32 := Scalar.addi c0_i32_1352 v1992
  v1993.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_533 : BitVec 32 := 14#32
  let v788 : BitVec 1 := Scalar.cmpi .ne v2 c14_i32_533
  let v789 : BitVec 32 := Scalar.extui v788
  let c0_i32_534 : BitVec 32 := 0#32
  let v790 : BitVec 1 := Scalar.cmpi .ne v789 c0_i32_534
  v790

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev78 : Nat :=
  let c0_i32_1352 : BitVec 32 := 0#32
  let c14_i32_1350 : BitVec 32 := 14#32
  let c1_i32_1351 : BitVec 32 := 1#32
  let v1992 : BitVec 32 := Scalar.muli c14_i32_1350 c1_i32_1351
  let v1993 : BitVec 32 := Scalar.addi c0_i32_1352 v1992
  v1993.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_535 : BitVec 32 := 15#32
  let v791 : BitVec 1 := Scalar.cmpi .ne v2 c15_i32_535
  let v792 : BitVec 32 := Scalar.extui v791
  let c0_i32_536 : BitVec 32 := 0#32
  let v793 : BitVec 1 := Scalar.cmpi .ne v792 c0_i32_536
  v793

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev79 : Nat :=
  let c0_i32_1352 : BitVec 32 := 0#32
  let c15_i32_1350 : BitVec 32 := 15#32
  let c1_i32_1351 : BitVec 32 := 1#32
  let v1992 : BitVec 32 := Scalar.muli c15_i32_1350 c1_i32_1351
  let v1993 : BitVec 32 := Scalar.addi c0_i32_1352 v1992
  v1993.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_537 : BitVec 32 := 16#32
  let v794 : BitVec 1 := Scalar.cmpi .ne v2 c16_i32_537
  let v795 : BitVec 32 := Scalar.extui v794
  let c0_i32_538 : BitVec 32 := 0#32
  let v796 : BitVec 1 := Scalar.cmpi .ne v795 c0_i32_538
  v796

def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev80 : Nat :=
  let c0_i32_1352 : BitVec 32 := 0#32
  let c16_i32_1350 : BitVec 32 := 16#32
  let c1_i32_1351 : BitVec 32 := 1#32
  let v1992 : BitVec 32 := Scalar.muli c16_i32_1350 c1_i32_1351
  let v1993 : BitVec 32 := Scalar.addi c0_i32_1352 v1992
  v1993.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_539 : BitVec 32 := 17#32
  let v797 : BitVec 1 := Scalar.cmpi .ne v2 c17_i32_539
  let v798 : BitVec 32 := Scalar.extui v797
  let c0_i32_540 : BitVec 32 := 0#32
  let v799 : BitVec 1 := Scalar.cmpi .ne v798 c0_i32_540
  v799

def k0_off132 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev81 : Nat :=
  let c0_i32_1352 : BitVec 32 := 0#32
  let c17_i32_1350 : BitVec 32 := 17#32
  let c1_i32_1351 : BitVec 32 := 1#32
  let v1992 : BitVec 32 := Scalar.muli c17_i32_1350 c1_i32_1351
  let v1993 : BitVec 32 := Scalar.addi c0_i32_1352 v1992
  v1993.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_541 : BitVec 32 := 18#32
  let v800 : BitVec 1 := Scalar.cmpi .ne v2 c18_i32_541
  let v801 : BitVec 32 := Scalar.extui v800
  let c0_i32_542 : BitVec 32 := 0#32
  let v802 : BitVec 1 := Scalar.cmpi .ne v801 c0_i32_542
  v802

def k0_off134 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev82 : Nat :=
  let c0_i32_1352 : BitVec 32 := 0#32
  let c18_i32_1350 : BitVec 32 := 18#32
  let c1_i32_1351 : BitVec 32 := 1#32
  let v1992 : BitVec 32 := Scalar.muli c18_i32_1350 c1_i32_1351
  let v1993 : BitVec 32 := Scalar.addi c0_i32_1352 v1992
  v1993.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_543 : BitVec 32 := 19#32
  let v803 : BitVec 1 := Scalar.cmpi .ne v2 c19_i32_543
  let v804 : BitVec 32 := Scalar.extui v803
  let c0_i32_544 : BitVec 32 := 0#32
  let v805 : BitVec 1 := Scalar.cmpi .ne v804 c0_i32_544
  v805

def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev83 : Nat :=
  let c0_i32_1352 : BitVec 32 := 0#32
  let c19_i32_1350 : BitVec 32 := 19#32
  let c1_i32_1351 : BitVec 32 := 1#32
  let v1992 : BitVec 32 := Scalar.muli c19_i32_1350 c1_i32_1351
  let v1993 : BitVec 32 := Scalar.addi c0_i32_1352 v1992
  v1993.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_545 : BitVec 32 := 20#32
  let v806 : BitVec 1 := Scalar.cmpi .ne v2 c20_i32_545
  let v807 : BitVec 32 := Scalar.extui v806
  let c0_i32_546 : BitVec 32 := 0#32
  let v808 : BitVec 1 := Scalar.cmpi .ne v807 c0_i32_546
  v808

def k0_off138 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev84 : Nat :=
  let c0_i32_1352 : BitVec 32 := 0#32
  let c20_i32_1350 : BitVec 32 := 20#32
  let c1_i32_1351 : BitVec 32 := 1#32
  let v1992 : BitVec 32 := Scalar.muli c20_i32_1350 c1_i32_1351
  let v1993 : BitVec 32 := Scalar.addi c0_i32_1352 v1992
  v1993.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_547 : BitVec 32 := 21#32
  let v809 : BitVec 1 := Scalar.cmpi .ne v2 c21_i32_547
  let v810 : BitVec 32 := Scalar.extui v809
  let c0_i32_548 : BitVec 32 := 0#32
  let v811 : BitVec 1 := Scalar.cmpi .ne v810 c0_i32_548
  v811

def k0_off140 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev85 : Nat :=
  let c0_i32_1352 : BitVec 32 := 0#32
  let c21_i32_1350 : BitVec 32 := 21#32
  let c1_i32_1351 : BitVec 32 := 1#32
  let v1992 : BitVec 32 := Scalar.muli c21_i32_1350 c1_i32_1351
  let v1993 : BitVec 32 := Scalar.addi c0_i32_1352 v1992
  v1993.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_549 : BitVec 32 := 22#32
  let v812 : BitVec 1 := Scalar.cmpi .ne v2 c22_i32_549
  let v813 : BitVec 32 := Scalar.extui v812
  let c0_i32_550 : BitVec 32 := 0#32
  let v814 : BitVec 1 := Scalar.cmpi .ne v813 c0_i32_550
  v814

def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev86 : Nat :=
  let c0_i32_1352 : BitVec 32 := 0#32
  let c22_i32_1350 : BitVec 32 := 22#32
  let c1_i32_1351 : BitVec 32 := 1#32
  let v1992 : BitVec 32 := Scalar.muli c22_i32_1350 c1_i32_1351
  let v1993 : BitVec 32 := Scalar.addi c0_i32_1352 v1992
  v1993.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_551 : BitVec 32 := 23#32
  let v815 : BitVec 1 := Scalar.cmpi .ne v2 c23_i32_551
  let v816 : BitVec 32 := Scalar.extui v815
  let c0_i32_552 : BitVec 32 := 0#32
  let v817 : BitVec 1 := Scalar.cmpi .ne v816 c0_i32_552
  v817

def k0_off144 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev87 : Nat :=
  let c0_i32_1352 : BitVec 32 := 0#32
  let c23_i32_1350 : BitVec 32 := 23#32
  let c1_i32_1351 : BitVec 32 := 1#32
  let v1992 : BitVec 32 := Scalar.muli c23_i32_1350 c1_i32_1351
  let v1993 : BitVec 32 := Scalar.addi c0_i32_1352 v1992
  v1993.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_553 : BitVec 32 := 24#32
  let v818 : BitVec 1 := Scalar.cmpi .ne v2 c24_i32_553
  let v819 : BitVec 32 := Scalar.extui v818
  let c0_i32_554 : BitVec 32 := 0#32
  let v820 : BitVec 1 := Scalar.cmpi .ne v819 c0_i32_554
  v820

def k0_off146 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev88 : Nat :=
  let c0_i32_1352 : BitVec 32 := 0#32
  let c24_i32_1350 : BitVec 32 := 24#32
  let c1_i32_1351 : BitVec 32 := 1#32
  let v1992 : BitVec 32 := Scalar.muli c24_i32_1350 c1_i32_1351
  let v1993 : BitVec 32 := Scalar.addi c0_i32_1352 v1992
  v1993.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_555 : BitVec 32 := 25#32
  let v821 : BitVec 1 := Scalar.cmpi .ne v2 c25_i32_555
  let v822 : BitVec 32 := Scalar.extui v821
  let c0_i32_556 : BitVec 32 := 0#32
  let v823 : BitVec 1 := Scalar.cmpi .ne v822 c0_i32_556
  v823

def k0_off148 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev89 : Nat :=
  let c0_i32_1352 : BitVec 32 := 0#32
  let c25_i32_1350 : BitVec 32 := 25#32
  let c1_i32_1351 : BitVec 32 := 1#32
  let v1992 : BitVec 32 := Scalar.muli c25_i32_1350 c1_i32_1351
  let v1993 : BitVec 32 := Scalar.addi c0_i32_1352 v1992
  v1993.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_557 : BitVec 32 := 26#32
  let v824 : BitVec 1 := Scalar.cmpi .ne v2 c26_i32_557
  let v825 : BitVec 32 := Scalar.extui v824
  let c0_i32_558 : BitVec 32 := 0#32
  let v826 : BitVec 1 := Scalar.cmpi .ne v825 c0_i32_558
  v826

def k0_off150 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev90 : Nat :=
  let c0_i32_1352 : BitVec 32 := 0#32
  let c26_i32_1350 : BitVec 32 := 26#32
  let c1_i32_1351 : BitVec 32 := 1#32
  let v1992 : BitVec 32 := Scalar.muli c26_i32_1350 c1_i32_1351
  let v1993 : BitVec 32 := Scalar.addi c0_i32_1352 v1992
  v1993.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_559 : BitVec 32 := 27#32
  let v827 : BitVec 1 := Scalar.cmpi .ne v2 c27_i32_559
  let v828 : BitVec 32 := Scalar.extui v827
  let c0_i32_560 : BitVec 32 := 0#32
  let v829 : BitVec 1 := Scalar.cmpi .ne v828 c0_i32_560
  v829

def k0_off152 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev91 : Nat :=
  let c0_i32_1352 : BitVec 32 := 0#32
  let c27_i32_1350 : BitVec 32 := 27#32
  let c1_i32_1351 : BitVec 32 := 1#32
  let v1992 : BitVec 32 := Scalar.muli c27_i32_1350 c1_i32_1351
  let v1993 : BitVec 32 := Scalar.addi c0_i32_1352 v1992
  v1993.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_561 : BitVec 32 := 28#32
  let v830 : BitVec 1 := Scalar.cmpi .ne v2 c28_i32_561
  let v831 : BitVec 32 := Scalar.extui v830
  let c0_i32_562 : BitVec 32 := 0#32
  let v832 : BitVec 1 := Scalar.cmpi .ne v831 c0_i32_562
  v832

def k0_off154 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev92 : Nat :=
  let c0_i32_1352 : BitVec 32 := 0#32
  let c28_i32_1350 : BitVec 32 := 28#32
  let c1_i32_1351 : BitVec 32 := 1#32
  let v1992 : BitVec 32 := Scalar.muli c28_i32_1350 c1_i32_1351
  let v1993 : BitVec 32 := Scalar.addi c0_i32_1352 v1992
  v1993.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_563 : BitVec 32 := 29#32
  let v833 : BitVec 1 := Scalar.cmpi .ne v2 c29_i32_563
  let v834 : BitVec 32 := Scalar.extui v833
  let c0_i32_564 : BitVec 32 := 0#32
  let v835 : BitVec 1 := Scalar.cmpi .ne v834 c0_i32_564
  v835

def k0_off156 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev93 : Nat :=
  let c0_i32_1352 : BitVec 32 := 0#32
  let c29_i32_1350 : BitVec 32 := 29#32
  let c1_i32_1351 : BitVec 32 := 1#32
  let v1992 : BitVec 32 := Scalar.muli c29_i32_1350 c1_i32_1351
  let v1993 : BitVec 32 := Scalar.addi c0_i32_1352 v1992
  v1993.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_565 : BitVec 32 := 30#32
  let v836 : BitVec 1 := Scalar.cmpi .ne v2 c30_i32_565
  let v837 : BitVec 32 := Scalar.extui v836
  let c0_i32_566 : BitVec 32 := 0#32
  let v838 : BitVec 1 := Scalar.cmpi .ne v837 c0_i32_566
  v838

def k0_off158 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev94 : Nat :=
  let c0_i32_1352 : BitVec 32 := 0#32
  let c30_i32_1350 : BitVec 32 := 30#32
  let c1_i32_1351 : BitVec 32 := 1#32
  let v1992 : BitVec 32 := Scalar.muli c30_i32_1350 c1_i32_1351
  let v1993 : BitVec 32 := Scalar.addi c0_i32_1352 v1992
  v1993.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_567 : BitVec 32 := 31#32
  let v839 : BitVec 1 := Scalar.cmpi .ne v2 c31_i32_567
  let v840 : BitVec 32 := Scalar.extui v839
  let c0_i32_568 : BitVec 32 := 0#32
  let v841 : BitVec 1 := Scalar.cmpi .ne v840 c0_i32_568
  v841

def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev95 : Nat :=
  let c0_i32_1352 : BitVec 32 := 0#32
  let c31_i32_1350 : BitVec 32 := 31#32
  let c1_i32_1351 : BitVec 32 := 1#32
  let v1992 : BitVec 32 := Scalar.muli c31_i32_1350 c1_i32_1351
  let v1993 : BitVec 32 := Scalar.addi c0_i32_1352 v1992
  v1993.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_614 : BitVec 32 := 0#32
  let v906 : BitVec 1 := Scalar.cmpi .ne v2 c0_i32_614
  let v907 : BitVec 32 := Scalar.extui v906
  let c0_i32_615 : BitVec 32 := 0#32
  let v908 : BitVec 1 := Scalar.cmpi .ne v907 c0_i32_615
  v908

def k0_off162 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev96 : Nat :=
  let c0_i32_1353 : BitVec 32 := 0#32
  let c0_i32_1351 : BitVec 32 := 0#32
  let c1_i32_1352 : BitVec 32 := 1#32
  let v1992 : BitVec 32 := Scalar.muli c0_i32_1351 c1_i32_1352
  let v1993 : BitVec 32 := Scalar.addi c0_i32_1353 v1992
  v1993.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_616 : BitVec 32 := 1#32
  let v909 : BitVec 1 := Scalar.cmpi .ne v2 c1_i32_616
  let v910 : BitVec 32 := Scalar.extui v909
  let c0_i32_617 : BitVec 32 := 0#32
  let v911 : BitVec 1 := Scalar.cmpi .ne v910 c0_i32_617
  v911

def k0_off164 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev97 : Nat :=
  let c0_i32_1353 : BitVec 32 := 0#32
  let c1_i32_1351 : BitVec 32 := 1#32
  let c1_i32_1352 : BitVec 32 := 1#32
  let v1992 : BitVec 32 := Scalar.muli c1_i32_1351 c1_i32_1352
  let v1993 : BitVec 32 := Scalar.addi c0_i32_1353 v1992
  v1993.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_618 : BitVec 32 := 2#32
  let v912 : BitVec 1 := Scalar.cmpi .ne v2 c2_i32_618
  let v913 : BitVec 32 := Scalar.extui v912
  let c0_i32_619 : BitVec 32 := 0#32
  let v914 : BitVec 1 := Scalar.cmpi .ne v913 c0_i32_619
  v914

def k0_off166 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev98 : Nat :=
  let c0_i32_1353 : BitVec 32 := 0#32
  let c2_i32_1351 : BitVec 32 := 2#32
  let c1_i32_1352 : BitVec 32 := 1#32
  let v1992 : BitVec 32 := Scalar.muli c2_i32_1351 c1_i32_1352
  let v1993 : BitVec 32 := Scalar.addi c0_i32_1353 v1992
  v1993.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_620 : BitVec 32 := 3#32
  let v915 : BitVec 1 := Scalar.cmpi .ne v2 c3_i32_620
  let v916 : BitVec 32 := Scalar.extui v915
  let c0_i32_621 : BitVec 32 := 0#32
  let v917 : BitVec 1 := Scalar.cmpi .ne v916 c0_i32_621
  v917

def k0_off168 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev99 : Nat :=
  let c0_i32_1353 : BitVec 32 := 0#32
  let c3_i32_1351 : BitVec 32 := 3#32
  let c1_i32_1352 : BitVec 32 := 1#32
  let v1992 : BitVec 32 := Scalar.muli c3_i32_1351 c1_i32_1352
  let v1993 : BitVec 32 := Scalar.addi c0_i32_1353 v1992
  v1993.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_622 : BitVec 32 := 4#32
  let v918 : BitVec 1 := Scalar.cmpi .ne v2 c4_i32_622
  let v919 : BitVec 32 := Scalar.extui v918
  let c0_i32_623 : BitVec 32 := 0#32
  let v920 : BitVec 1 := Scalar.cmpi .ne v919 c0_i32_623
  v920

def k0_off170 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev100 : Nat :=
  let c0_i32_1353 : BitVec 32 := 0#32
  let c4_i32_1351 : BitVec 32 := 4#32
  let c1_i32_1352 : BitVec 32 := 1#32
  let v1992 : BitVec 32 := Scalar.muli c4_i32_1351 c1_i32_1352
  let v1993 : BitVec 32 := Scalar.addi c0_i32_1353 v1992
  v1993.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_624 : BitVec 32 := 5#32
  let v921 : BitVec 1 := Scalar.cmpi .ne v2 c5_i32_624
  let v922 : BitVec 32 := Scalar.extui v921
  let c0_i32_625 : BitVec 32 := 0#32
  let v923 : BitVec 1 := Scalar.cmpi .ne v922 c0_i32_625
  v923

def k0_off172 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev101 : Nat :=
  let c0_i32_1353 : BitVec 32 := 0#32
  let c5_i32_1351 : BitVec 32 := 5#32
  let c1_i32_1352 : BitVec 32 := 1#32
  let v1992 : BitVec 32 := Scalar.muli c5_i32_1351 c1_i32_1352
  let v1993 : BitVec 32 := Scalar.addi c0_i32_1353 v1992
  v1993.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_626 : BitVec 32 := 6#32
  let v924 : BitVec 1 := Scalar.cmpi .ne v2 c6_i32_626
  let v925 : BitVec 32 := Scalar.extui v924
  let c0_i32_627 : BitVec 32 := 0#32
  let v926 : BitVec 1 := Scalar.cmpi .ne v925 c0_i32_627
  v926

def k0_off174 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev102 : Nat :=
  let c0_i32_1353 : BitVec 32 := 0#32
  let c6_i32_1351 : BitVec 32 := 6#32
  let c1_i32_1352 : BitVec 32 := 1#32
  let v1992 : BitVec 32 := Scalar.muli c6_i32_1351 c1_i32_1352
  let v1993 : BitVec 32 := Scalar.addi c0_i32_1353 v1992
  v1993.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_628 : BitVec 32 := 7#32
  let v927 : BitVec 1 := Scalar.cmpi .ne v2 c7_i32_628
  let v928 : BitVec 32 := Scalar.extui v927
  let c0_i32_629 : BitVec 32 := 0#32
  let v929 : BitVec 1 := Scalar.cmpi .ne v928 c0_i32_629
  v929

def k0_off176 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev103 : Nat :=
  let c0_i32_1353 : BitVec 32 := 0#32
  let c7_i32_1351 : BitVec 32 := 7#32
  let c1_i32_1352 : BitVec 32 := 1#32
  let v1992 : BitVec 32 := Scalar.muli c7_i32_1351 c1_i32_1352
  let v1993 : BitVec 32 := Scalar.addi c0_i32_1353 v1992
  v1993.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_630 : BitVec 32 := 8#32
  let v930 : BitVec 1 := Scalar.cmpi .ne v2 c8_i32_630
  let v931 : BitVec 32 := Scalar.extui v930
  let c0_i32_631 : BitVec 32 := 0#32
  let v932 : BitVec 1 := Scalar.cmpi .ne v931 c0_i32_631
  v932

def k0_off178 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev104 : Nat :=
  let c0_i32_1353 : BitVec 32 := 0#32
  let c8_i32_1351 : BitVec 32 := 8#32
  let c1_i32_1352 : BitVec 32 := 1#32
  let v1992 : BitVec 32 := Scalar.muli c8_i32_1351 c1_i32_1352
  let v1993 : BitVec 32 := Scalar.addi c0_i32_1353 v1992
  v1993.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_632 : BitVec 32 := 9#32
  let v933 : BitVec 1 := Scalar.cmpi .ne v2 c9_i32_632
  let v934 : BitVec 32 := Scalar.extui v933
  let c0_i32_633 : BitVec 32 := 0#32
  let v935 : BitVec 1 := Scalar.cmpi .ne v934 c0_i32_633
  v935

def k0_off180 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev105 : Nat :=
  let c0_i32_1353 : BitVec 32 := 0#32
  let c9_i32_1351 : BitVec 32 := 9#32
  let c1_i32_1352 : BitVec 32 := 1#32
  let v1992 : BitVec 32 := Scalar.muli c9_i32_1351 c1_i32_1352
  let v1993 : BitVec 32 := Scalar.addi c0_i32_1353 v1992
  v1993.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_634 : BitVec 32 := 10#32
  let v936 : BitVec 1 := Scalar.cmpi .ne v2 c10_i32_634
  let v937 : BitVec 32 := Scalar.extui v936
  let c0_i32_635 : BitVec 32 := 0#32
  let v938 : BitVec 1 := Scalar.cmpi .ne v937 c0_i32_635
  v938

def k0_off182 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev106 : Nat :=
  let c0_i32_1353 : BitVec 32 := 0#32
  let c10_i32_1351 : BitVec 32 := 10#32
  let c1_i32_1352 : BitVec 32 := 1#32
  let v1992 : BitVec 32 := Scalar.muli c10_i32_1351 c1_i32_1352
  let v1993 : BitVec 32 := Scalar.addi c0_i32_1353 v1992
  v1993.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_636 : BitVec 32 := 11#32
  let v939 : BitVec 1 := Scalar.cmpi .ne v2 c11_i32_636
  let v940 : BitVec 32 := Scalar.extui v939
  let c0_i32_637 : BitVec 32 := 0#32
  let v941 : BitVec 1 := Scalar.cmpi .ne v940 c0_i32_637
  v941

def k0_off184 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev107 : Nat :=
  let c0_i32_1353 : BitVec 32 := 0#32
  let c11_i32_1351 : BitVec 32 := 11#32
  let c1_i32_1352 : BitVec 32 := 1#32
  let v1992 : BitVec 32 := Scalar.muli c11_i32_1351 c1_i32_1352
  let v1993 : BitVec 32 := Scalar.addi c0_i32_1353 v1992
  v1993.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_638 : BitVec 32 := 12#32
  let v942 : BitVec 1 := Scalar.cmpi .ne v2 c12_i32_638
  let v943 : BitVec 32 := Scalar.extui v942
  let c0_i32_639 : BitVec 32 := 0#32
  let v944 : BitVec 1 := Scalar.cmpi .ne v943 c0_i32_639
  v944

def k0_off186 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev108 : Nat :=
  let c0_i32_1353 : BitVec 32 := 0#32
  let c12_i32_1351 : BitVec 32 := 12#32
  let c1_i32_1352 : BitVec 32 := 1#32
  let v1992 : BitVec 32 := Scalar.muli c12_i32_1351 c1_i32_1352
  let v1993 : BitVec 32 := Scalar.addi c0_i32_1353 v1992
  v1993.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_640 : BitVec 32 := 13#32
  let v945 : BitVec 1 := Scalar.cmpi .ne v2 c13_i32_640
  let v946 : BitVec 32 := Scalar.extui v945
  let c0_i32_641 : BitVec 32 := 0#32
  let v947 : BitVec 1 := Scalar.cmpi .ne v946 c0_i32_641
  v947

def k0_off188 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev109 : Nat :=
  let c0_i32_1353 : BitVec 32 := 0#32
  let c13_i32_1351 : BitVec 32 := 13#32
  let c1_i32_1352 : BitVec 32 := 1#32
  let v1992 : BitVec 32 := Scalar.muli c13_i32_1351 c1_i32_1352
  let v1993 : BitVec 32 := Scalar.addi c0_i32_1353 v1992
  v1993.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_642 : BitVec 32 := 14#32
  let v948 : BitVec 1 := Scalar.cmpi .ne v2 c14_i32_642
  let v949 : BitVec 32 := Scalar.extui v948
  let c0_i32_643 : BitVec 32 := 0#32
  let v950 : BitVec 1 := Scalar.cmpi .ne v949 c0_i32_643
  v950

def k0_off190 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev110 : Nat :=
  let c0_i32_1353 : BitVec 32 := 0#32
  let c14_i32_1351 : BitVec 32 := 14#32
  let c1_i32_1352 : BitVec 32 := 1#32
  let v1992 : BitVec 32 := Scalar.muli c14_i32_1351 c1_i32_1352
  let v1993 : BitVec 32 := Scalar.addi c0_i32_1353 v1992
  v1993.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_644 : BitVec 32 := 15#32
  let v951 : BitVec 1 := Scalar.cmpi .ne v2 c15_i32_644
  let v952 : BitVec 32 := Scalar.extui v951
  let c0_i32_645 : BitVec 32 := 0#32
  let v953 : BitVec 1 := Scalar.cmpi .ne v952 c0_i32_645
  v953

def k0_off192 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev111 : Nat :=
  let c0_i32_1353 : BitVec 32 := 0#32
  let c15_i32_1351 : BitVec 32 := 15#32
  let c1_i32_1352 : BitVec 32 := 1#32
  let v1992 : BitVec 32 := Scalar.muli c15_i32_1351 c1_i32_1352
  let v1993 : BitVec 32 := Scalar.addi c0_i32_1353 v1992
  v1993.toNat
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_691 : BitVec 32 := 16#32
  let v1018 : BitVec 1 := Scalar.cmpi .ne v2 c16_i32_691
  let v1019 : BitVec 32 := Scalar.extui v1018
  let c0_i32_692 : BitVec 32 := 0#32
  let v1020 : BitVec 1 := Scalar.cmpi .ne v1019 c0_i32_692
  v1020

def k0_off194 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev112 : Nat :=
  let c0_i32_1353 : BitVec 32 := 0#32
  let c16_i32_1351 : BitVec 32 := 16#32
  let c1_i32_1352 : BitVec 32 := 1#32
  let v1992 : BitVec 32 := Scalar.muli c16_i32_1351 c1_i32_1352
  let v1993 : BitVec 32 := Scalar.addi c0_i32_1353 v1992
  v1993.toNat
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_693 : BitVec 32 := 17#32
  let v1021 : BitVec 1 := Scalar.cmpi .ne v2 c17_i32_693
  let v1022 : BitVec 32 := Scalar.extui v1021
  let c0_i32_694 : BitVec 32 := 0#32
  let v1023 : BitVec 1 := Scalar.cmpi .ne v1022 c0_i32_694
  v1023

def k0_off196 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off197 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev113 : Nat :=
  let c0_i32_1353 : BitVec 32 := 0#32
  let c17_i32_1351 : BitVec 32 := 17#32
  let c1_i32_1352 : BitVec 32 := 1#32
  let v1992 : BitVec 32 := Scalar.muli c17_i32_1351 c1_i32_1352
  let v1993 : BitVec 32 := Scalar.addi c0_i32_1353 v1992
  v1993.toNat
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_695 : BitVec 32 := 18#32
  let v1024 : BitVec 1 := Scalar.cmpi .ne v2 c18_i32_695
  let v1025 : BitVec 32 := Scalar.extui v1024
  let c0_i32_696 : BitVec 32 := 0#32
  let v1026 : BitVec 1 := Scalar.cmpi .ne v1025 c0_i32_696
  v1026

def k0_off198 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off199 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev114 : Nat :=
  let c0_i32_1353 : BitVec 32 := 0#32
  let c18_i32_1351 : BitVec 32 := 18#32
  let c1_i32_1352 : BitVec 32 := 1#32
  let v1992 : BitVec 32 := Scalar.muli c18_i32_1351 c1_i32_1352
  let v1993 : BitVec 32 := Scalar.addi c0_i32_1353 v1992
  v1993.toNat
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_697 : BitVec 32 := 19#32
  let v1027 : BitVec 1 := Scalar.cmpi .ne v2 c19_i32_697
  let v1028 : BitVec 32 := Scalar.extui v1027
  let c0_i32_698 : BitVec 32 := 0#32
  let v1029 : BitVec 1 := Scalar.cmpi .ne v1028 c0_i32_698
  v1029

def k0_off200 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off201 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev115 : Nat :=
  let c0_i32_1353 : BitVec 32 := 0#32
  let c19_i32_1351 : BitVec 32 := 19#32
  let c1_i32_1352 : BitVec 32 := 1#32
  let v1992 : BitVec 32 := Scalar.muli c19_i32_1351 c1_i32_1352
  let v1993 : BitVec 32 := Scalar.addi c0_i32_1353 v1992
  v1993.toNat
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_699 : BitVec 32 := 20#32
  let v1030 : BitVec 1 := Scalar.cmpi .ne v2 c20_i32_699
  let v1031 : BitVec 32 := Scalar.extui v1030
  let c0_i32_700 : BitVec 32 := 0#32
  let v1032 : BitVec 1 := Scalar.cmpi .ne v1031 c0_i32_700
  v1032

def k0_off202 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off203 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev116 : Nat :=
  let c0_i32_1353 : BitVec 32 := 0#32
  let c20_i32_1351 : BitVec 32 := 20#32
  let c1_i32_1352 : BitVec 32 := 1#32
  let v1992 : BitVec 32 := Scalar.muli c20_i32_1351 c1_i32_1352
  let v1993 : BitVec 32 := Scalar.addi c0_i32_1353 v1992
  v1993.toNat
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_701 : BitVec 32 := 21#32
  let v1033 : BitVec 1 := Scalar.cmpi .ne v2 c21_i32_701
  let v1034 : BitVec 32 := Scalar.extui v1033
  let c0_i32_702 : BitVec 32 := 0#32
  let v1035 : BitVec 1 := Scalar.cmpi .ne v1034 c0_i32_702
  v1035

def k0_off204 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off205 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev117 : Nat :=
  let c0_i32_1353 : BitVec 32 := 0#32
  let c21_i32_1351 : BitVec 32 := 21#32
  let c1_i32_1352 : BitVec 32 := 1#32
  let v1992 : BitVec 32 := Scalar.muli c21_i32_1351 c1_i32_1352
  let v1993 : BitVec 32 := Scalar.addi c0_i32_1353 v1992
  v1993.toNat
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_703 : BitVec 32 := 22#32
  let v1036 : BitVec 1 := Scalar.cmpi .ne v2 c22_i32_703
  let v1037 : BitVec 32 := Scalar.extui v1036
  let c0_i32_704 : BitVec 32 := 0#32
  let v1038 : BitVec 1 := Scalar.cmpi .ne v1037 c0_i32_704
  v1038

def k0_off206 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off207 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev118 : Nat :=
  let c0_i32_1353 : BitVec 32 := 0#32
  let c22_i32_1351 : BitVec 32 := 22#32
  let c1_i32_1352 : BitVec 32 := 1#32
  let v1992 : BitVec 32 := Scalar.muli c22_i32_1351 c1_i32_1352
  let v1993 : BitVec 32 := Scalar.addi c0_i32_1353 v1992
  v1993.toNat
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_705 : BitVec 32 := 23#32
  let v1039 : BitVec 1 := Scalar.cmpi .ne v2 c23_i32_705
  let v1040 : BitVec 32 := Scalar.extui v1039
  let c0_i32_706 : BitVec 32 := 0#32
  let v1041 : BitVec 1 := Scalar.cmpi .ne v1040 c0_i32_706
  v1041

def k0_off208 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off209 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev119 : Nat :=
  let c0_i32_1353 : BitVec 32 := 0#32
  let c23_i32_1351 : BitVec 32 := 23#32
  let c1_i32_1352 : BitVec 32 := 1#32
  let v1992 : BitVec 32 := Scalar.muli c23_i32_1351 c1_i32_1352
  let v1993 : BitVec 32 := Scalar.addi c0_i32_1353 v1992
  v1993.toNat
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_707 : BitVec 32 := 24#32
  let v1042 : BitVec 1 := Scalar.cmpi .ne v2 c24_i32_707
  let v1043 : BitVec 32 := Scalar.extui v1042
  let c0_i32_708 : BitVec 32 := 0#32
  let v1044 : BitVec 1 := Scalar.cmpi .ne v1043 c0_i32_708
  v1044

def k0_off210 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off211 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev120 : Nat :=
  let c0_i32_1353 : BitVec 32 := 0#32
  let c24_i32_1351 : BitVec 32 := 24#32
  let c1_i32_1352 : BitVec 32 := 1#32
  let v1992 : BitVec 32 := Scalar.muli c24_i32_1351 c1_i32_1352
  let v1993 : BitVec 32 := Scalar.addi c0_i32_1353 v1992
  v1993.toNat
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_709 : BitVec 32 := 25#32
  let v1045 : BitVec 1 := Scalar.cmpi .ne v2 c25_i32_709
  let v1046 : BitVec 32 := Scalar.extui v1045
  let c0_i32_710 : BitVec 32 := 0#32
  let v1047 : BitVec 1 := Scalar.cmpi .ne v1046 c0_i32_710
  v1047

def k0_off212 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off213 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev121 : Nat :=
  let c0_i32_1353 : BitVec 32 := 0#32
  let c25_i32_1351 : BitVec 32 := 25#32
  let c1_i32_1352 : BitVec 32 := 1#32
  let v1992 : BitVec 32 := Scalar.muli c25_i32_1351 c1_i32_1352
  let v1993 : BitVec 32 := Scalar.addi c0_i32_1353 v1992
  v1993.toNat
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_711 : BitVec 32 := 26#32
  let v1048 : BitVec 1 := Scalar.cmpi .ne v2 c26_i32_711
  let v1049 : BitVec 32 := Scalar.extui v1048
  let c0_i32_712 : BitVec 32 := 0#32
  let v1050 : BitVec 1 := Scalar.cmpi .ne v1049 c0_i32_712
  v1050

def k0_off214 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off215 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev122 : Nat :=
  let c0_i32_1353 : BitVec 32 := 0#32
  let c26_i32_1351 : BitVec 32 := 26#32
  let c1_i32_1352 : BitVec 32 := 1#32
  let v1992 : BitVec 32 := Scalar.muli c26_i32_1351 c1_i32_1352
  let v1993 : BitVec 32 := Scalar.addi c0_i32_1353 v1992
  v1993.toNat
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_713 : BitVec 32 := 27#32
  let v1051 : BitVec 1 := Scalar.cmpi .ne v2 c27_i32_713
  let v1052 : BitVec 32 := Scalar.extui v1051
  let c0_i32_714 : BitVec 32 := 0#32
  let v1053 : BitVec 1 := Scalar.cmpi .ne v1052 c0_i32_714
  v1053

def k0_off216 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off217 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev123 : Nat :=
  let c0_i32_1353 : BitVec 32 := 0#32
  let c27_i32_1351 : BitVec 32 := 27#32
  let c1_i32_1352 : BitVec 32 := 1#32
  let v1992 : BitVec 32 := Scalar.muli c27_i32_1351 c1_i32_1352
  let v1993 : BitVec 32 := Scalar.addi c0_i32_1353 v1992
  v1993.toNat
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_715 : BitVec 32 := 28#32
  let v1054 : BitVec 1 := Scalar.cmpi .ne v2 c28_i32_715
  let v1055 : BitVec 32 := Scalar.extui v1054
  let c0_i32_716 : BitVec 32 := 0#32
  let v1056 : BitVec 1 := Scalar.cmpi .ne v1055 c0_i32_716
  v1056

def k0_off218 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off219 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev124 : Nat :=
  let c0_i32_1353 : BitVec 32 := 0#32
  let c28_i32_1351 : BitVec 32 := 28#32
  let c1_i32_1352 : BitVec 32 := 1#32
  let v1992 : BitVec 32 := Scalar.muli c28_i32_1351 c1_i32_1352
  let v1993 : BitVec 32 := Scalar.addi c0_i32_1353 v1992
  v1993.toNat
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_717 : BitVec 32 := 29#32
  let v1057 : BitVec 1 := Scalar.cmpi .ne v2 c29_i32_717
  let v1058 : BitVec 32 := Scalar.extui v1057
  let c0_i32_718 : BitVec 32 := 0#32
  let v1059 : BitVec 1 := Scalar.cmpi .ne v1058 c0_i32_718
  v1059

def k0_off220 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off221 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev125 : Nat :=
  let c0_i32_1353 : BitVec 32 := 0#32
  let c29_i32_1351 : BitVec 32 := 29#32
  let c1_i32_1352 : BitVec 32 := 1#32
  let v1992 : BitVec 32 := Scalar.muli c29_i32_1351 c1_i32_1352
  let v1993 : BitVec 32 := Scalar.addi c0_i32_1353 v1992
  v1993.toNat
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_719 : BitVec 32 := 30#32
  let v1060 : BitVec 1 := Scalar.cmpi .ne v2 c30_i32_719
  let v1061 : BitVec 32 := Scalar.extui v1060
  let c0_i32_720 : BitVec 32 := 0#32
  let v1062 : BitVec 1 := Scalar.cmpi .ne v1061 c0_i32_720
  v1062

def k0_off222 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off223 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev126 : Nat :=
  let c0_i32_1353 : BitVec 32 := 0#32
  let c30_i32_1351 : BitVec 32 := 30#32
  let c1_i32_1352 : BitVec 32 := 1#32
  let v1992 : BitVec 32 := Scalar.muli c30_i32_1351 c1_i32_1352
  let v1993 : BitVec 32 := Scalar.addi c0_i32_1353 v1992
  v1993.toNat
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_721 : BitVec 32 := 31#32
  let v1063 : BitVec 1 := Scalar.cmpi .ne v2 c31_i32_721
  let v1064 : BitVec 32 := Scalar.extui v1063
  let c0_i32_722 : BitVec 32 := 0#32
  let v1065 : BitVec 1 := Scalar.cmpi .ne v1064 c0_i32_722
  v1065

def k0_off224 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off225 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev127 : Nat :=
  let c0_i32_1353 : BitVec 32 := 0#32
  let c31_i32_1351 : BitVec 32 := 31#32
  let c1_i32_1352 : BitVec 32 := 1#32
  let v1992 : BitVec 32 := Scalar.muli c31_i32_1351 c1_i32_1352
  let v1993 : BitVec 32 := Scalar.addi c0_i32_1353 v1992
  v1993.toNat
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_727 : BitVec 32 := 0#32
  let v1073 : BitVec 1 := Scalar.cmpi .ne v2 c0_i32_727
  let v1074 : BitVec 32 := Scalar.extui v1073
  let c0_i32_728 : BitVec 32 := 0#32
  let v1075 : BitVec 1 := Scalar.cmpi .ne v1074 c0_i32_728
  v1075

def k0_off226 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_729 : BitVec 32 := 1#32
  let v1076 : BitVec 1 := Scalar.cmpi .ne v2 c1_i32_729
  let v1077 : BitVec 32 := Scalar.extui v1076
  let c0_i32_730 : BitVec 32 := 0#32
  let v1078 : BitVec 1 := Scalar.cmpi .ne v1077 c0_i32_730
  v1078

def k0_off227 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_731 : BitVec 32 := 2#32
  let v1079 : BitVec 1 := Scalar.cmpi .ne v2 c2_i32_731
  let v1080 : BitVec 32 := Scalar.extui v1079
  let c0_i32_732 : BitVec 32 := 0#32
  let v1081 : BitVec 1 := Scalar.cmpi .ne v1080 c0_i32_732
  v1081

def k0_off228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1082 : BitVec 1 := Scalar.cmpi .ne v2 c3_i32_733
  let v1083 : BitVec 32 := Scalar.extui v1082
  let c0_i32_734 : BitVec 32 := 0#32
  let v1084 : BitVec 1 := Scalar.cmpi .ne v1083 c0_i32_734
  v1084

def k0_off229 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_735 : BitVec 32 := 4#32
  let v1085 : BitVec 1 := Scalar.cmpi .ne v2 c4_i32_735
  let v1086 : BitVec 32 := Scalar.extui v1085
  let c0_i32_736 : BitVec 32 := 0#32
  let v1087 : BitVec 1 := Scalar.cmpi .ne v1086 c0_i32_736
  v1087

def k0_off230 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_737 : BitVec 32 := 5#32
  let v1088 : BitVec 1 := Scalar.cmpi .ne v2 c5_i32_737
  let v1089 : BitVec 32 := Scalar.extui v1088
  let c0_i32_738 : BitVec 32 := 0#32
  let v1090 : BitVec 1 := Scalar.cmpi .ne v1089 c0_i32_738
  v1090

def k0_off231 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_739 : BitVec 32 := 6#32
  let v1091 : BitVec 1 := Scalar.cmpi .ne v2 c6_i32_739
  let v1092 : BitVec 32 := Scalar.extui v1091
  let c0_i32_740 : BitVec 32 := 0#32
  let v1093 : BitVec 1 := Scalar.cmpi .ne v1092 c0_i32_740
  v1093

def k0_off232 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_741 : BitVec 32 := 7#32
  let v1094 : BitVec 1 := Scalar.cmpi .ne v2 c7_i32_741
  let v1095 : BitVec 32 := Scalar.extui v1094
  let c0_i32_742 : BitVec 32 := 0#32
  let v1096 : BitVec 1 := Scalar.cmpi .ne v1095 c0_i32_742
  v1096

def k0_off233 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_743 : BitVec 32 := 8#32
  let v1097 : BitVec 1 := Scalar.cmpi .ne v2 c8_i32_743
  let v1098 : BitVec 32 := Scalar.extui v1097
  let c0_i32_744 : BitVec 32 := 0#32
  let v1099 : BitVec 1 := Scalar.cmpi .ne v1098 c0_i32_744
  v1099

def k0_off234 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_745 : BitVec 32 := 9#32
  let v1100 : BitVec 1 := Scalar.cmpi .ne v2 c9_i32_745
  let v1101 : BitVec 32 := Scalar.extui v1100
  let c0_i32_746 : BitVec 32 := 0#32
  let v1102 : BitVec 1 := Scalar.cmpi .ne v1101 c0_i32_746
  v1102

def k0_off235 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_747 : BitVec 32 := 10#32
  let v1103 : BitVec 1 := Scalar.cmpi .ne v2 c10_i32_747
  let v1104 : BitVec 32 := Scalar.extui v1103
  let c0_i32_748 : BitVec 32 := 0#32
  let v1105 : BitVec 1 := Scalar.cmpi .ne v1104 c0_i32_748
  v1105

def k0_off236 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_749 : BitVec 32 := 11#32
  let v1106 : BitVec 1 := Scalar.cmpi .ne v2 c11_i32_749
  let v1107 : BitVec 32 := Scalar.extui v1106
  let c0_i32_750 : BitVec 32 := 0#32
  let v1108 : BitVec 1 := Scalar.cmpi .ne v1107 c0_i32_750
  v1108

def k0_off237 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_751 : BitVec 32 := 12#32
  let v1109 : BitVec 1 := Scalar.cmpi .ne v2 c12_i32_751
  let v1110 : BitVec 32 := Scalar.extui v1109
  let c0_i32_752 : BitVec 32 := 0#32
  let v1111 : BitVec 1 := Scalar.cmpi .ne v1110 c0_i32_752
  v1111

def k0_off238 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_753 : BitVec 32 := 13#32
  let v1112 : BitVec 1 := Scalar.cmpi .ne v2 c13_i32_753
  let v1113 : BitVec 32 := Scalar.extui v1112
  let c0_i32_754 : BitVec 32 := 0#32
  let v1114 : BitVec 1 := Scalar.cmpi .ne v1113 c0_i32_754
  v1114

def k0_off239 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_755 : BitVec 32 := 14#32
  let v1115 : BitVec 1 := Scalar.cmpi .ne v2 c14_i32_755
  let v1116 : BitVec 32 := Scalar.extui v1115
  let c0_i32_756 : BitVec 32 := 0#32
  let v1117 : BitVec 1 := Scalar.cmpi .ne v1116 c0_i32_756
  v1117

def k0_off240 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_757 : BitVec 32 := 15#32
  let v1118 : BitVec 1 := Scalar.cmpi .ne v2 c15_i32_757
  let v1119 : BitVec 32 := Scalar.extui v1118
  let c0_i32_758 : BitVec 32 := 0#32
  let v1120 : BitVec 1 := Scalar.cmpi .ne v1119 c0_i32_758
  v1120

def k0_off241 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_759 : BitVec 32 := 16#32
  let v1121 : BitVec 1 := Scalar.cmpi .ne v2 c16_i32_759
  let v1122 : BitVec 32 := Scalar.extui v1121
  let c0_i32_760 : BitVec 32 := 0#32
  let v1123 : BitVec 1 := Scalar.cmpi .ne v1122 c0_i32_760
  v1123

def k0_off242 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_761 : BitVec 32 := 17#32
  let v1124 : BitVec 1 := Scalar.cmpi .ne v2 c17_i32_761
  let v1125 : BitVec 32 := Scalar.extui v1124
  let c0_i32_762 : BitVec 32 := 0#32
  let v1126 : BitVec 1 := Scalar.cmpi .ne v1125 c0_i32_762
  v1126

def k0_off243 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_763 : BitVec 32 := 18#32
  let v1127 : BitVec 1 := Scalar.cmpi .ne v2 c18_i32_763
  let v1128 : BitVec 32 := Scalar.extui v1127
  let c0_i32_764 : BitVec 32 := 0#32
  let v1129 : BitVec 1 := Scalar.cmpi .ne v1128 c0_i32_764
  v1129

def k0_off244 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_765 : BitVec 32 := 19#32
  let v1130 : BitVec 1 := Scalar.cmpi .ne v2 c19_i32_765
  let v1131 : BitVec 32 := Scalar.extui v1130
  let c0_i32_766 : BitVec 32 := 0#32
  let v1132 : BitVec 1 := Scalar.cmpi .ne v1131 c0_i32_766
  v1132

def k0_off245 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_767 : BitVec 32 := 20#32
  let v1133 : BitVec 1 := Scalar.cmpi .ne v2 c20_i32_767
  let v1134 : BitVec 32 := Scalar.extui v1133
  let c0_i32_768 : BitVec 32 := 0#32
  let v1135 : BitVec 1 := Scalar.cmpi .ne v1134 c0_i32_768
  v1135

def k0_off246 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_769 : BitVec 32 := 21#32
  let v1136 : BitVec 1 := Scalar.cmpi .ne v2 c21_i32_769
  let v1137 : BitVec 32 := Scalar.extui v1136
  let c0_i32_770 : BitVec 32 := 0#32
  let v1138 : BitVec 1 := Scalar.cmpi .ne v1137 c0_i32_770
  v1138

def k0_off247 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_771 : BitVec 32 := 22#32
  let v1139 : BitVec 1 := Scalar.cmpi .ne v2 c22_i32_771
  let v1140 : BitVec 32 := Scalar.extui v1139
  let c0_i32_772 : BitVec 32 := 0#32
  let v1141 : BitVec 1 := Scalar.cmpi .ne v1140 c0_i32_772
  v1141

def k0_off248 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_773 : BitVec 32 := 23#32
  let v1142 : BitVec 1 := Scalar.cmpi .ne v2 c23_i32_773
  let v1143 : BitVec 32 := Scalar.extui v1142
  let c0_i32_774 : BitVec 32 := 0#32
  let v1144 : BitVec 1 := Scalar.cmpi .ne v1143 c0_i32_774
  v1144

def k0_off249 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_775 : BitVec 32 := 24#32
  let v1145 : BitVec 1 := Scalar.cmpi .ne v2 c24_i32_775
  let v1146 : BitVec 32 := Scalar.extui v1145
  let c0_i32_776 : BitVec 32 := 0#32
  let v1147 : BitVec 1 := Scalar.cmpi .ne v1146 c0_i32_776
  v1147

def k0_off250 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_777 : BitVec 32 := 25#32
  let v1148 : BitVec 1 := Scalar.cmpi .ne v2 c25_i32_777
  let v1149 : BitVec 32 := Scalar.extui v1148
  let c0_i32_778 : BitVec 32 := 0#32
  let v1150 : BitVec 1 := Scalar.cmpi .ne v1149 c0_i32_778
  v1150

def k0_off251 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_779 : BitVec 32 := 26#32
  let v1151 : BitVec 1 := Scalar.cmpi .ne v2 c26_i32_779
  let v1152 : BitVec 32 := Scalar.extui v1151
  let c0_i32_780 : BitVec 32 := 0#32
  let v1153 : BitVec 1 := Scalar.cmpi .ne v1152 c0_i32_780
  v1153

def k0_off252 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_781 : BitVec 32 := 27#32
  let v1154 : BitVec 1 := Scalar.cmpi .ne v2 c27_i32_781
  let v1155 : BitVec 32 := Scalar.extui v1154
  let c0_i32_782 : BitVec 32 := 0#32
  let v1156 : BitVec 1 := Scalar.cmpi .ne v1155 c0_i32_782
  v1156

def k0_off253 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_783 : BitVec 32 := 28#32
  let v1157 : BitVec 1 := Scalar.cmpi .ne v2 c28_i32_783
  let v1158 : BitVec 32 := Scalar.extui v1157
  let c0_i32_784 : BitVec 32 := 0#32
  let v1159 : BitVec 1 := Scalar.cmpi .ne v1158 c0_i32_784
  v1159

def k0_off254 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_785 : BitVec 32 := 29#32
  let v1160 : BitVec 1 := Scalar.cmpi .ne v2 c29_i32_785
  let v1161 : BitVec 32 := Scalar.extui v1160
  let c0_i32_786 : BitVec 32 := 0#32
  let v1162 : BitVec 1 := Scalar.cmpi .ne v1161 c0_i32_786
  v1162

def k0_off255 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_787 : BitVec 32 := 30#32
  let v1163 : BitVec 1 := Scalar.cmpi .ne v2 c30_i32_787
  let v1164 : BitVec 32 := Scalar.extui v1163
  let c0_i32_788 : BitVec 32 := 0#32
  let v1165 : BitVec 1 := Scalar.cmpi .ne v1164 c0_i32_788
  v1165

def k0_off256 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_789 : BitVec 32 := 31#32
  let v1166 : BitVec 1 := Scalar.cmpi .ne v2 c31_i32_789
  let v1167 : BitVec 32 := Scalar.extui v1166
  let c0_i32_790 : BitVec 32 := 0#32
  let v1168 : BitVec 1 := Scalar.cmpi .ne v1167 c0_i32_790
  v1168

def k0_off257 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond257 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_855 : BitVec 32 := 0#32
  let v1265 : BitVec 1 := Scalar.cmpi .ne v2 c0_i32_855
  let v1266 : BitVec 32 := Scalar.extui v1265
  let c0_i32_856 : BitVec 32 := 0#32
  let v1267 : BitVec 1 := Scalar.cmpi .ne v1266 c0_i32_856
  v1267

def k0_off258 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond258 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_857 : BitVec 32 := 1#32
  let v1268 : BitVec 1 := Scalar.cmpi .ne v2 c1_i32_857
  let v1269 : BitVec 32 := Scalar.extui v1268
  let c0_i32_858 : BitVec 32 := 0#32
  let v1270 : BitVec 1 := Scalar.cmpi .ne v1269 c0_i32_858
  v1270

def k0_off259 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond259 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_859 : BitVec 32 := 2#32
  let v1271 : BitVec 1 := Scalar.cmpi .ne v2 c2_i32_859
  let v1272 : BitVec 32 := Scalar.extui v1271
  let c0_i32_860 : BitVec 32 := 0#32
  let v1273 : BitVec 1 := Scalar.cmpi .ne v1272 c0_i32_860
  v1273

def k0_off260 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond260 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_861 : BitVec 32 := 3#32
  let v1274 : BitVec 1 := Scalar.cmpi .ne v2 c3_i32_861
  let v1275 : BitVec 32 := Scalar.extui v1274
  let c0_i32_862 : BitVec 32 := 0#32
  let v1276 : BitVec 1 := Scalar.cmpi .ne v1275 c0_i32_862
  v1276

def k0_off261 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond261 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_863 : BitVec 32 := 4#32
  let v1277 : BitVec 1 := Scalar.cmpi .ne v2 c4_i32_863
  let v1278 : BitVec 32 := Scalar.extui v1277
  let c0_i32_864 : BitVec 32 := 0#32
  let v1279 : BitVec 1 := Scalar.cmpi .ne v1278 c0_i32_864
  v1279

def k0_off262 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond262 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_865 : BitVec 32 := 5#32
  let v1280 : BitVec 1 := Scalar.cmpi .ne v2 c5_i32_865
  let v1281 : BitVec 32 := Scalar.extui v1280
  let c0_i32_866 : BitVec 32 := 0#32
  let v1282 : BitVec 1 := Scalar.cmpi .ne v1281 c0_i32_866
  v1282

def k0_off263 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond263 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_867 : BitVec 32 := 6#32
  let v1283 : BitVec 1 := Scalar.cmpi .ne v2 c6_i32_867
  let v1284 : BitVec 32 := Scalar.extui v1283
  let c0_i32_868 : BitVec 32 := 0#32
  let v1285 : BitVec 1 := Scalar.cmpi .ne v1284 c0_i32_868
  v1285

def k0_off264 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond264 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_869 : BitVec 32 := 7#32
  let v1286 : BitVec 1 := Scalar.cmpi .ne v2 c7_i32_869
  let v1287 : BitVec 32 := Scalar.extui v1286
  let c0_i32_870 : BitVec 32 := 0#32
  let v1288 : BitVec 1 := Scalar.cmpi .ne v1287 c0_i32_870
  v1288

def k0_off265 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond265 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_871 : BitVec 32 := 8#32
  let v1289 : BitVec 1 := Scalar.cmpi .ne v2 c8_i32_871
  let v1290 : BitVec 32 := Scalar.extui v1289
  let c0_i32_872 : BitVec 32 := 0#32
  let v1291 : BitVec 1 := Scalar.cmpi .ne v1290 c0_i32_872
  v1291

def k0_off266 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond266 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_873 : BitVec 32 := 9#32
  let v1292 : BitVec 1 := Scalar.cmpi .ne v2 c9_i32_873
  let v1293 : BitVec 32 := Scalar.extui v1292
  let c0_i32_874 : BitVec 32 := 0#32
  let v1294 : BitVec 1 := Scalar.cmpi .ne v1293 c0_i32_874
  v1294

def k0_off267 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond267 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_875 : BitVec 32 := 10#32
  let v1295 : BitVec 1 := Scalar.cmpi .ne v2 c10_i32_875
  let v1296 : BitVec 32 := Scalar.extui v1295
  let c0_i32_876 : BitVec 32 := 0#32
  let v1297 : BitVec 1 := Scalar.cmpi .ne v1296 c0_i32_876
  v1297

def k0_off268 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond268 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_877 : BitVec 32 := 11#32
  let v1298 : BitVec 1 := Scalar.cmpi .ne v2 c11_i32_877
  let v1299 : BitVec 32 := Scalar.extui v1298
  let c0_i32_878 : BitVec 32 := 0#32
  let v1300 : BitVec 1 := Scalar.cmpi .ne v1299 c0_i32_878
  v1300

def k0_off269 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond269 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_879 : BitVec 32 := 12#32
  let v1301 : BitVec 1 := Scalar.cmpi .ne v2 c12_i32_879
  let v1302 : BitVec 32 := Scalar.extui v1301
  let c0_i32_880 : BitVec 32 := 0#32
  let v1303 : BitVec 1 := Scalar.cmpi .ne v1302 c0_i32_880
  v1303

def k0_off270 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond270 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_881 : BitVec 32 := 13#32
  let v1304 : BitVec 1 := Scalar.cmpi .ne v2 c13_i32_881
  let v1305 : BitVec 32 := Scalar.extui v1304
  let c0_i32_882 : BitVec 32 := 0#32
  let v1306 : BitVec 1 := Scalar.cmpi .ne v1305 c0_i32_882
  v1306

def k0_off271 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond271 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_883 : BitVec 32 := 14#32
  let v1307 : BitVec 1 := Scalar.cmpi .ne v2 c14_i32_883
  let v1308 : BitVec 32 := Scalar.extui v1307
  let c0_i32_884 : BitVec 32 := 0#32
  let v1309 : BitVec 1 := Scalar.cmpi .ne v1308 c0_i32_884
  v1309

def k0_off272 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond272 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_885 : BitVec 32 := 15#32
  let v1310 : BitVec 1 := Scalar.cmpi .ne v2 c15_i32_885
  let v1311 : BitVec 32 := Scalar.extui v1310
  let c0_i32_886 : BitVec 32 := 0#32
  let v1312 : BitVec 1 := Scalar.cmpi .ne v1311 c0_i32_886
  v1312

def k0_off273 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond273 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_887 : BitVec 32 := 16#32
  let v1313 : BitVec 1 := Scalar.cmpi .ne v2 c16_i32_887
  let v1314 : BitVec 32 := Scalar.extui v1313
  let c0_i32_888 : BitVec 32 := 0#32
  let v1315 : BitVec 1 := Scalar.cmpi .ne v1314 c0_i32_888
  v1315

def k0_off274 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond274 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_889 : BitVec 32 := 17#32
  let v1316 : BitVec 1 := Scalar.cmpi .ne v2 c17_i32_889
  let v1317 : BitVec 32 := Scalar.extui v1316
  let c0_i32_890 : BitVec 32 := 0#32
  let v1318 : BitVec 1 := Scalar.cmpi .ne v1317 c0_i32_890
  v1318

def k0_off275 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond275 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_891 : BitVec 32 := 18#32
  let v1319 : BitVec 1 := Scalar.cmpi .ne v2 c18_i32_891
  let v1320 : BitVec 32 := Scalar.extui v1319
  let c0_i32_892 : BitVec 32 := 0#32
  let v1321 : BitVec 1 := Scalar.cmpi .ne v1320 c0_i32_892
  v1321

def k0_off276 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond276 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_893 : BitVec 32 := 19#32
  let v1322 : BitVec 1 := Scalar.cmpi .ne v2 c19_i32_893
  let v1323 : BitVec 32 := Scalar.extui v1322
  let c0_i32_894 : BitVec 32 := 0#32
  let v1324 : BitVec 1 := Scalar.cmpi .ne v1323 c0_i32_894
  v1324

def k0_off277 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond277 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_895 : BitVec 32 := 20#32
  let v1325 : BitVec 1 := Scalar.cmpi .ne v2 c20_i32_895
  let v1326 : BitVec 32 := Scalar.extui v1325
  let c0_i32_896 : BitVec 32 := 0#32
  let v1327 : BitVec 1 := Scalar.cmpi .ne v1326 c0_i32_896
  v1327

def k0_off278 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond278 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_897 : BitVec 32 := 21#32
  let v1328 : BitVec 1 := Scalar.cmpi .ne v2 c21_i32_897
  let v1329 : BitVec 32 := Scalar.extui v1328
  let c0_i32_898 : BitVec 32 := 0#32
  let v1330 : BitVec 1 := Scalar.cmpi .ne v1329 c0_i32_898
  v1330

def k0_off279 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond279 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_899 : BitVec 32 := 22#32
  let v1331 : BitVec 1 := Scalar.cmpi .ne v2 c22_i32_899
  let v1332 : BitVec 32 := Scalar.extui v1331
  let c0_i32_900 : BitVec 32 := 0#32
  let v1333 : BitVec 1 := Scalar.cmpi .ne v1332 c0_i32_900
  v1333

def k0_off280 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond280 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_901 : BitVec 32 := 23#32
  let v1334 : BitVec 1 := Scalar.cmpi .ne v2 c23_i32_901
  let v1335 : BitVec 32 := Scalar.extui v1334
  let c0_i32_902 : BitVec 32 := 0#32
  let v1336 : BitVec 1 := Scalar.cmpi .ne v1335 c0_i32_902
  v1336

def k0_off281 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond281 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_903 : BitVec 32 := 24#32
  let v1337 : BitVec 1 := Scalar.cmpi .ne v2 c24_i32_903
  let v1338 : BitVec 32 := Scalar.extui v1337
  let c0_i32_904 : BitVec 32 := 0#32
  let v1339 : BitVec 1 := Scalar.cmpi .ne v1338 c0_i32_904
  v1339

def k0_off282 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond282 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_905 : BitVec 32 := 25#32
  let v1340 : BitVec 1 := Scalar.cmpi .ne v2 c25_i32_905
  let v1341 : BitVec 32 := Scalar.extui v1340
  let c0_i32_906 : BitVec 32 := 0#32
  let v1342 : BitVec 1 := Scalar.cmpi .ne v1341 c0_i32_906
  v1342

def k0_off283 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond283 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_907 : BitVec 32 := 26#32
  let v1343 : BitVec 1 := Scalar.cmpi .ne v2 c26_i32_907
  let v1344 : BitVec 32 := Scalar.extui v1343
  let c0_i32_908 : BitVec 32 := 0#32
  let v1345 : BitVec 1 := Scalar.cmpi .ne v1344 c0_i32_908
  v1345

def k0_off284 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond284 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_909 : BitVec 32 := 27#32
  let v1346 : BitVec 1 := Scalar.cmpi .ne v2 c27_i32_909
  let v1347 : BitVec 32 := Scalar.extui v1346
  let c0_i32_910 : BitVec 32 := 0#32
  let v1348 : BitVec 1 := Scalar.cmpi .ne v1347 c0_i32_910
  v1348

def k0_off285 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond285 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_911 : BitVec 32 := 28#32
  let v1349 : BitVec 1 := Scalar.cmpi .ne v2 c28_i32_911
  let v1350 : BitVec 32 := Scalar.extui v1349
  let c0_i32_912 : BitVec 32 := 0#32
  let v1351 : BitVec 1 := Scalar.cmpi .ne v1350 c0_i32_912
  v1351

def k0_off286 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond286 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_913 : BitVec 32 := 29#32
  let v1352 : BitVec 1 := Scalar.cmpi .ne v2 c29_i32_913
  let v1353 : BitVec 32 := Scalar.extui v1352
  let c0_i32_914 : BitVec 32 := 0#32
  let v1354 : BitVec 1 := Scalar.cmpi .ne v1353 c0_i32_914
  v1354

def k0_off287 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond287 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_915 : BitVec 32 := 30#32
  let v1355 : BitVec 1 := Scalar.cmpi .ne v2 c30_i32_915
  let v1356 : BitVec 32 := Scalar.extui v1355
  let c0_i32_916 : BitVec 32 := 0#32
  let v1357 : BitVec 1 := Scalar.cmpi .ne v1356 c0_i32_916
  v1357

def k0_off288 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond288 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_917 : BitVec 32 := 31#32
  let v1358 : BitVec 1 := Scalar.cmpi .ne v2 c31_i32_917
  let v1359 : BitVec 32 := Scalar.extui v1358
  let c0_i32_918 : BitVec 32 := 0#32
  let v1360 : BitVec 1 := Scalar.cmpi .ne v1359 c0_i32_918
  v1360

def k0_off289 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond289 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_929 : BitVec 32 := 0#32
  let v1373 : BitVec 1 := Scalar.cmpi .ne v2 c0_i32_929
  let v1374 : BitVec 32 := Scalar.extui v1373
  let c0_i32_930 : BitVec 32 := 0#32
  let v1375 : BitVec 1 := Scalar.cmpi .ne v1374 c0_i32_930
  v1375

def k0_off290 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off291 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev128 : Nat :=
  let c0_i32_1352 : BitVec 32 := 0#32
  let c0_i32_1350 : BitVec 32 := 0#32
  let c1_i32_1351 : BitVec 32 := 1#32
  let v1992 : BitVec 32 := Scalar.muli c0_i32_1350 c1_i32_1351
  let v1993 : BitVec 32 := Scalar.addi c0_i32_1352 v1992
  v1993.toNat
def k0_cond290 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_931 : BitVec 32 := 1#32
  let v1376 : BitVec 1 := Scalar.cmpi .ne v2 c1_i32_931
  let v1377 : BitVec 32 := Scalar.extui v1376
  let c0_i32_932 : BitVec 32 := 0#32
  let v1378 : BitVec 1 := Scalar.cmpi .ne v1377 c0_i32_932
  v1378

def k0_off292 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off293 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev129 : Nat :=
  let c0_i32_1352 : BitVec 32 := 0#32
  let c1_i32_1350 : BitVec 32 := 1#32
  let c1_i32_1351 : BitVec 32 := 1#32
  let v1992 : BitVec 32 := Scalar.muli c1_i32_1350 c1_i32_1351
  let v1993 : BitVec 32 := Scalar.addi c0_i32_1352 v1992
  v1993.toNat
def k0_cond291 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_933 : BitVec 32 := 2#32
  let v1379 : BitVec 1 := Scalar.cmpi .ne v2 c2_i32_933
  let v1380 : BitVec 32 := Scalar.extui v1379
  let c0_i32_934 : BitVec 32 := 0#32
  let v1381 : BitVec 1 := Scalar.cmpi .ne v1380 c0_i32_934
  v1381

def k0_off294 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off295 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev130 : Nat :=
  let c0_i32_1352 : BitVec 32 := 0#32
  let c2_i32_1350 : BitVec 32 := 2#32
  let c1_i32_1351 : BitVec 32 := 1#32
  let v1992 : BitVec 32 := Scalar.muli c2_i32_1350 c1_i32_1351
  let v1993 : BitVec 32 := Scalar.addi c0_i32_1352 v1992
  v1993.toNat
def k0_cond292 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_935 : BitVec 32 := 3#32
  let v1382 : BitVec 1 := Scalar.cmpi .ne v2 c3_i32_935
  let v1383 : BitVec 32 := Scalar.extui v1382
  let c0_i32_936 : BitVec 32 := 0#32
  let v1384 : BitVec 1 := Scalar.cmpi .ne v1383 c0_i32_936
  v1384

def k0_off296 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off297 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev131 : Nat :=
  let c0_i32_1352 : BitVec 32 := 0#32
  let c3_i32_1350 : BitVec 32 := 3#32
  let c1_i32_1351 : BitVec 32 := 1#32
  let v1992 : BitVec 32 := Scalar.muli c3_i32_1350 c1_i32_1351
  let v1993 : BitVec 32 := Scalar.addi c0_i32_1352 v1992
  v1993.toNat
def k0_cond293 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_937 : BitVec 32 := 4#32
  let v1385 : BitVec 1 := Scalar.cmpi .ne v2 c4_i32_937
  let v1386 : BitVec 32 := Scalar.extui v1385
  let c0_i32_938 : BitVec 32 := 0#32
  let v1387 : BitVec 1 := Scalar.cmpi .ne v1386 c0_i32_938
  v1387

def k0_off298 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off299 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev132 : Nat :=
  let c0_i32_1352 : BitVec 32 := 0#32
  let c4_i32_1350 : BitVec 32 := 4#32
  let c1_i32_1351 : BitVec 32 := 1#32
  let v1992 : BitVec 32 := Scalar.muli c4_i32_1350 c1_i32_1351
  let v1993 : BitVec 32 := Scalar.addi c0_i32_1352 v1992
  v1993.toNat
def k0_cond294 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_939 : BitVec 32 := 5#32
  let v1388 : BitVec 1 := Scalar.cmpi .ne v2 c5_i32_939
  let v1389 : BitVec 32 := Scalar.extui v1388
  let c0_i32_940 : BitVec 32 := 0#32
  let v1390 : BitVec 1 := Scalar.cmpi .ne v1389 c0_i32_940
  v1390

def k0_off300 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off301 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev133 : Nat :=
  let c0_i32_1352 : BitVec 32 := 0#32
  let c5_i32_1350 : BitVec 32 := 5#32
  let c1_i32_1351 : BitVec 32 := 1#32
  let v1992 : BitVec 32 := Scalar.muli c5_i32_1350 c1_i32_1351
  let v1993 : BitVec 32 := Scalar.addi c0_i32_1352 v1992
  v1993.toNat
def k0_cond295 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_941 : BitVec 32 := 6#32
  let v1391 : BitVec 1 := Scalar.cmpi .ne v2 c6_i32_941
  let v1392 : BitVec 32 := Scalar.extui v1391
  let c0_i32_942 : BitVec 32 := 0#32
  let v1393 : BitVec 1 := Scalar.cmpi .ne v1392 c0_i32_942
  v1393

def k0_off302 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off303 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev134 : Nat :=
  let c0_i32_1352 : BitVec 32 := 0#32
  let c6_i32_1350 : BitVec 32 := 6#32
  let c1_i32_1351 : BitVec 32 := 1#32
  let v1992 : BitVec 32 := Scalar.muli c6_i32_1350 c1_i32_1351
  let v1993 : BitVec 32 := Scalar.addi c0_i32_1352 v1992
  v1993.toNat
def k0_cond296 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_943 : BitVec 32 := 7#32
  let v1394 : BitVec 1 := Scalar.cmpi .ne v2 c7_i32_943
  let v1395 : BitVec 32 := Scalar.extui v1394
  let c0_i32_944 : BitVec 32 := 0#32
  let v1396 : BitVec 1 := Scalar.cmpi .ne v1395 c0_i32_944
  v1396

def k0_off304 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off305 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev135 : Nat :=
  let c0_i32_1352 : BitVec 32 := 0#32
  let c7_i32_1350 : BitVec 32 := 7#32
  let c1_i32_1351 : BitVec 32 := 1#32
  let v1992 : BitVec 32 := Scalar.muli c7_i32_1350 c1_i32_1351
  let v1993 : BitVec 32 := Scalar.addi c0_i32_1352 v1992
  v1993.toNat
def k0_cond297 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_945 : BitVec 32 := 8#32
  let v1397 : BitVec 1 := Scalar.cmpi .ne v2 c8_i32_945
  let v1398 : BitVec 32 := Scalar.extui v1397
  let c0_i32_946 : BitVec 32 := 0#32
  let v1399 : BitVec 1 := Scalar.cmpi .ne v1398 c0_i32_946
  v1399

def k0_off306 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off307 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev136 : Nat :=
  let c0_i32_1352 : BitVec 32 := 0#32
  let c8_i32_1350 : BitVec 32 := 8#32
  let c1_i32_1351 : BitVec 32 := 1#32
  let v1992 : BitVec 32 := Scalar.muli c8_i32_1350 c1_i32_1351
  let v1993 : BitVec 32 := Scalar.addi c0_i32_1352 v1992
  v1993.toNat
def k0_cond298 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_947 : BitVec 32 := 9#32
  let v1400 : BitVec 1 := Scalar.cmpi .ne v2 c9_i32_947
  let v1401 : BitVec 32 := Scalar.extui v1400
  let c0_i32_948 : BitVec 32 := 0#32
  let v1402 : BitVec 1 := Scalar.cmpi .ne v1401 c0_i32_948
  v1402

def k0_off308 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off309 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev137 : Nat :=
  let c0_i32_1352 : BitVec 32 := 0#32
  let c9_i32_1350 : BitVec 32 := 9#32
  let c1_i32_1351 : BitVec 32 := 1#32
  let v1992 : BitVec 32 := Scalar.muli c9_i32_1350 c1_i32_1351
  let v1993 : BitVec 32 := Scalar.addi c0_i32_1352 v1992
  v1993.toNat
def k0_cond299 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_949 : BitVec 32 := 10#32
  let v1403 : BitVec 1 := Scalar.cmpi .ne v2 c10_i32_949
  let v1404 : BitVec 32 := Scalar.extui v1403
  let c0_i32_950 : BitVec 32 := 0#32
  let v1405 : BitVec 1 := Scalar.cmpi .ne v1404 c0_i32_950
  v1405

def k0_off310 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off311 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev138 : Nat :=
  let c0_i32_1352 : BitVec 32 := 0#32
  let c10_i32_1350 : BitVec 32 := 10#32
  let c1_i32_1351 : BitVec 32 := 1#32
  let v1992 : BitVec 32 := Scalar.muli c10_i32_1350 c1_i32_1351
  let v1993 : BitVec 32 := Scalar.addi c0_i32_1352 v1992
  v1993.toNat
def k0_cond300 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_951 : BitVec 32 := 11#32
  let v1406 : BitVec 1 := Scalar.cmpi .ne v2 c11_i32_951
  let v1407 : BitVec 32 := Scalar.extui v1406
  let c0_i32_952 : BitVec 32 := 0#32
  let v1408 : BitVec 1 := Scalar.cmpi .ne v1407 c0_i32_952
  v1408

def k0_off312 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off313 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev139 : Nat :=
  let c0_i32_1352 : BitVec 32 := 0#32
  let c11_i32_1350 : BitVec 32 := 11#32
  let c1_i32_1351 : BitVec 32 := 1#32
  let v1992 : BitVec 32 := Scalar.muli c11_i32_1350 c1_i32_1351
  let v1993 : BitVec 32 := Scalar.addi c0_i32_1352 v1992
  v1993.toNat
def k0_cond301 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_953 : BitVec 32 := 12#32
  let v1409 : BitVec 1 := Scalar.cmpi .ne v2 c12_i32_953
  let v1410 : BitVec 32 := Scalar.extui v1409
  let c0_i32_954 : BitVec 32 := 0#32
  let v1411 : BitVec 1 := Scalar.cmpi .ne v1410 c0_i32_954
  v1411

def k0_off314 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off315 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev140 : Nat :=
  let c0_i32_1352 : BitVec 32 := 0#32
  let c12_i32_1350 : BitVec 32 := 12#32
  let c1_i32_1351 : BitVec 32 := 1#32
  let v1992 : BitVec 32 := Scalar.muli c12_i32_1350 c1_i32_1351
  let v1993 : BitVec 32 := Scalar.addi c0_i32_1352 v1992
  v1993.toNat
def k0_cond302 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_955 : BitVec 32 := 13#32
  let v1412 : BitVec 1 := Scalar.cmpi .ne v2 c13_i32_955
  let v1413 : BitVec 32 := Scalar.extui v1412
  let c0_i32_956 : BitVec 32 := 0#32
  let v1414 : BitVec 1 := Scalar.cmpi .ne v1413 c0_i32_956
  v1414

def k0_off316 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off317 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev141 : Nat :=
  let c0_i32_1352 : BitVec 32 := 0#32
  let c13_i32_1350 : BitVec 32 := 13#32
  let c1_i32_1351 : BitVec 32 := 1#32
  let v1992 : BitVec 32 := Scalar.muli c13_i32_1350 c1_i32_1351
  let v1993 : BitVec 32 := Scalar.addi c0_i32_1352 v1992
  v1993.toNat
def k0_cond303 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_957 : BitVec 32 := 14#32
  let v1415 : BitVec 1 := Scalar.cmpi .ne v2 c14_i32_957
  let v1416 : BitVec 32 := Scalar.extui v1415
  let c0_i32_958 : BitVec 32 := 0#32
  let v1417 : BitVec 1 := Scalar.cmpi .ne v1416 c0_i32_958
  v1417

def k0_off318 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off319 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev142 : Nat :=
  let c0_i32_1352 : BitVec 32 := 0#32
  let c14_i32_1350 : BitVec 32 := 14#32
  let c1_i32_1351 : BitVec 32 := 1#32
  let v1992 : BitVec 32 := Scalar.muli c14_i32_1350 c1_i32_1351
  let v1993 : BitVec 32 := Scalar.addi c0_i32_1352 v1992
  v1993.toNat
def k0_cond304 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_959 : BitVec 32 := 15#32
  let v1418 : BitVec 1 := Scalar.cmpi .ne v2 c15_i32_959
  let v1419 : BitVec 32 := Scalar.extui v1418
  let c0_i32_960 : BitVec 32 := 0#32
  let v1420 : BitVec 1 := Scalar.cmpi .ne v1419 c0_i32_960
  v1420

def k0_off320 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off321 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev143 : Nat :=
  let c0_i32_1352 : BitVec 32 := 0#32
  let c15_i32_1350 : BitVec 32 := 15#32
  let c1_i32_1351 : BitVec 32 := 1#32
  let v1992 : BitVec 32 := Scalar.muli c15_i32_1350 c1_i32_1351
  let v1993 : BitVec 32 := Scalar.addi c0_i32_1352 v1992
  v1993.toNat
def k0_cond305 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_961 : BitVec 32 := 16#32
  let v1421 : BitVec 1 := Scalar.cmpi .ne v2 c16_i32_961
  let v1422 : BitVec 32 := Scalar.extui v1421
  let c0_i32_962 : BitVec 32 := 0#32
  let v1423 : BitVec 1 := Scalar.cmpi .ne v1422 c0_i32_962
  v1423

def k0_off322 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off323 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev144 : Nat :=
  let c0_i32_1352 : BitVec 32 := 0#32
  let c16_i32_1350 : BitVec 32 := 16#32
  let c1_i32_1351 : BitVec 32 := 1#32
  let v1992 : BitVec 32 := Scalar.muli c16_i32_1350 c1_i32_1351
  let v1993 : BitVec 32 := Scalar.addi c0_i32_1352 v1992
  v1993.toNat
def k0_cond306 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_963 : BitVec 32 := 17#32
  let v1424 : BitVec 1 := Scalar.cmpi .ne v2 c17_i32_963
  let v1425 : BitVec 32 := Scalar.extui v1424
  let c0_i32_964 : BitVec 32 := 0#32
  let v1426 : BitVec 1 := Scalar.cmpi .ne v1425 c0_i32_964
  v1426

def k0_off324 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off325 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev145 : Nat :=
  let c0_i32_1352 : BitVec 32 := 0#32
  let c17_i32_1350 : BitVec 32 := 17#32
  let c1_i32_1351 : BitVec 32 := 1#32
  let v1992 : BitVec 32 := Scalar.muli c17_i32_1350 c1_i32_1351
  let v1993 : BitVec 32 := Scalar.addi c0_i32_1352 v1992
  v1993.toNat
def k0_cond307 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_965 : BitVec 32 := 18#32
  let v1427 : BitVec 1 := Scalar.cmpi .ne v2 c18_i32_965
  let v1428 : BitVec 32 := Scalar.extui v1427
  let c0_i32_966 : BitVec 32 := 0#32
  let v1429 : BitVec 1 := Scalar.cmpi .ne v1428 c0_i32_966
  v1429

def k0_off326 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off327 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev146 : Nat :=
  let c0_i32_1352 : BitVec 32 := 0#32
  let c18_i32_1350 : BitVec 32 := 18#32
  let c1_i32_1351 : BitVec 32 := 1#32
  let v1992 : BitVec 32 := Scalar.muli c18_i32_1350 c1_i32_1351
  let v1993 : BitVec 32 := Scalar.addi c0_i32_1352 v1992
  v1993.toNat
def k0_cond308 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_967 : BitVec 32 := 19#32
  let v1430 : BitVec 1 := Scalar.cmpi .ne v2 c19_i32_967
  let v1431 : BitVec 32 := Scalar.extui v1430
  let c0_i32_968 : BitVec 32 := 0#32
  let v1432 : BitVec 1 := Scalar.cmpi .ne v1431 c0_i32_968
  v1432

def k0_off328 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off329 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev147 : Nat :=
  let c0_i32_1352 : BitVec 32 := 0#32
  let c19_i32_1350 : BitVec 32 := 19#32
  let c1_i32_1351 : BitVec 32 := 1#32
  let v1992 : BitVec 32 := Scalar.muli c19_i32_1350 c1_i32_1351
  let v1993 : BitVec 32 := Scalar.addi c0_i32_1352 v1992
  v1993.toNat
def k0_cond309 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_969 : BitVec 32 := 20#32
  let v1433 : BitVec 1 := Scalar.cmpi .ne v2 c20_i32_969
  let v1434 : BitVec 32 := Scalar.extui v1433
  let c0_i32_970 : BitVec 32 := 0#32
  let v1435 : BitVec 1 := Scalar.cmpi .ne v1434 c0_i32_970
  v1435

def k0_off330 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off331 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev148 : Nat :=
  let c0_i32_1352 : BitVec 32 := 0#32
  let c20_i32_1350 : BitVec 32 := 20#32
  let c1_i32_1351 : BitVec 32 := 1#32
  let v1992 : BitVec 32 := Scalar.muli c20_i32_1350 c1_i32_1351
  let v1993 : BitVec 32 := Scalar.addi c0_i32_1352 v1992
  v1993.toNat
def k0_cond310 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_971 : BitVec 32 := 21#32
  let v1436 : BitVec 1 := Scalar.cmpi .ne v2 c21_i32_971
  let v1437 : BitVec 32 := Scalar.extui v1436
  let c0_i32_972 : BitVec 32 := 0#32
  let v1438 : BitVec 1 := Scalar.cmpi .ne v1437 c0_i32_972
  v1438

def k0_off332 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off333 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev149 : Nat :=
  let c0_i32_1352 : BitVec 32 := 0#32
  let c21_i32_1350 : BitVec 32 := 21#32
  let c1_i32_1351 : BitVec 32 := 1#32
  let v1992 : BitVec 32 := Scalar.muli c21_i32_1350 c1_i32_1351
  let v1993 : BitVec 32 := Scalar.addi c0_i32_1352 v1992
  v1993.toNat
def k0_cond311 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_973 : BitVec 32 := 22#32
  let v1439 : BitVec 1 := Scalar.cmpi .ne v2 c22_i32_973
  let v1440 : BitVec 32 := Scalar.extui v1439
  let c0_i32_974 : BitVec 32 := 0#32
  let v1441 : BitVec 1 := Scalar.cmpi .ne v1440 c0_i32_974
  v1441

def k0_off334 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off335 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev150 : Nat :=
  let c0_i32_1352 : BitVec 32 := 0#32
  let c22_i32_1350 : BitVec 32 := 22#32
  let c1_i32_1351 : BitVec 32 := 1#32
  let v1992 : BitVec 32 := Scalar.muli c22_i32_1350 c1_i32_1351
  let v1993 : BitVec 32 := Scalar.addi c0_i32_1352 v1992
  v1993.toNat
def k0_cond312 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_975 : BitVec 32 := 23#32
  let v1442 : BitVec 1 := Scalar.cmpi .ne v2 c23_i32_975
  let v1443 : BitVec 32 := Scalar.extui v1442
  let c0_i32_976 : BitVec 32 := 0#32
  let v1444 : BitVec 1 := Scalar.cmpi .ne v1443 c0_i32_976
  v1444

def k0_off336 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off337 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev151 : Nat :=
  let c0_i32_1352 : BitVec 32 := 0#32
  let c23_i32_1350 : BitVec 32 := 23#32
  let c1_i32_1351 : BitVec 32 := 1#32
  let v1992 : BitVec 32 := Scalar.muli c23_i32_1350 c1_i32_1351
  let v1993 : BitVec 32 := Scalar.addi c0_i32_1352 v1992
  v1993.toNat
def k0_cond313 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_977 : BitVec 32 := 24#32
  let v1445 : BitVec 1 := Scalar.cmpi .ne v2 c24_i32_977
  let v1446 : BitVec 32 := Scalar.extui v1445
  let c0_i32_978 : BitVec 32 := 0#32
  let v1447 : BitVec 1 := Scalar.cmpi .ne v1446 c0_i32_978
  v1447

def k0_off338 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off339 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev152 : Nat :=
  let c0_i32_1352 : BitVec 32 := 0#32
  let c24_i32_1350 : BitVec 32 := 24#32
  let c1_i32_1351 : BitVec 32 := 1#32
  let v1992 : BitVec 32 := Scalar.muli c24_i32_1350 c1_i32_1351
  let v1993 : BitVec 32 := Scalar.addi c0_i32_1352 v1992
  v1993.toNat
def k0_cond314 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_979 : BitVec 32 := 25#32
  let v1448 : BitVec 1 := Scalar.cmpi .ne v2 c25_i32_979
  let v1449 : BitVec 32 := Scalar.extui v1448
  let c0_i32_980 : BitVec 32 := 0#32
  let v1450 : BitVec 1 := Scalar.cmpi .ne v1449 c0_i32_980
  v1450

def k0_off340 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off341 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev153 : Nat :=
  let c0_i32_1352 : BitVec 32 := 0#32
  let c25_i32_1350 : BitVec 32 := 25#32
  let c1_i32_1351 : BitVec 32 := 1#32
  let v1992 : BitVec 32 := Scalar.muli c25_i32_1350 c1_i32_1351
  let v1993 : BitVec 32 := Scalar.addi c0_i32_1352 v1992
  v1993.toNat
def k0_cond315 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_981 : BitVec 32 := 26#32
  let v1451 : BitVec 1 := Scalar.cmpi .ne v2 c26_i32_981
  let v1452 : BitVec 32 := Scalar.extui v1451
  let c0_i32_982 : BitVec 32 := 0#32
  let v1453 : BitVec 1 := Scalar.cmpi .ne v1452 c0_i32_982
  v1453

def k0_off342 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off343 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev154 : Nat :=
  let c0_i32_1352 : BitVec 32 := 0#32
  let c26_i32_1350 : BitVec 32 := 26#32
  let c1_i32_1351 : BitVec 32 := 1#32
  let v1992 : BitVec 32 := Scalar.muli c26_i32_1350 c1_i32_1351
  let v1993 : BitVec 32 := Scalar.addi c0_i32_1352 v1992
  v1993.toNat
def k0_cond316 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_983 : BitVec 32 := 27#32
  let v1454 : BitVec 1 := Scalar.cmpi .ne v2 c27_i32_983
  let v1455 : BitVec 32 := Scalar.extui v1454
  let c0_i32_984 : BitVec 32 := 0#32
  let v1456 : BitVec 1 := Scalar.cmpi .ne v1455 c0_i32_984
  v1456

def k0_off344 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off345 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev155 : Nat :=
  let c0_i32_1352 : BitVec 32 := 0#32
  let c27_i32_1350 : BitVec 32 := 27#32
  let c1_i32_1351 : BitVec 32 := 1#32
  let v1992 : BitVec 32 := Scalar.muli c27_i32_1350 c1_i32_1351
  let v1993 : BitVec 32 := Scalar.addi c0_i32_1352 v1992
  v1993.toNat
def k0_cond317 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_985 : BitVec 32 := 28#32
  let v1457 : BitVec 1 := Scalar.cmpi .ne v2 c28_i32_985
  let v1458 : BitVec 32 := Scalar.extui v1457
  let c0_i32_986 : BitVec 32 := 0#32
  let v1459 : BitVec 1 := Scalar.cmpi .ne v1458 c0_i32_986
  v1459

def k0_off346 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off347 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev156 : Nat :=
  let c0_i32_1352 : BitVec 32 := 0#32
  let c28_i32_1350 : BitVec 32 := 28#32
  let c1_i32_1351 : BitVec 32 := 1#32
  let v1992 : BitVec 32 := Scalar.muli c28_i32_1350 c1_i32_1351
  let v1993 : BitVec 32 := Scalar.addi c0_i32_1352 v1992
  v1993.toNat
def k0_cond318 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_987 : BitVec 32 := 29#32
  let v1460 : BitVec 1 := Scalar.cmpi .ne v2 c29_i32_987
  let v1461 : BitVec 32 := Scalar.extui v1460
  let c0_i32_988 : BitVec 32 := 0#32
  let v1462 : BitVec 1 := Scalar.cmpi .ne v1461 c0_i32_988
  v1462

def k0_off348 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off349 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev157 : Nat :=
  let c0_i32_1352 : BitVec 32 := 0#32
  let c29_i32_1350 : BitVec 32 := 29#32
  let c1_i32_1351 : BitVec 32 := 1#32
  let v1992 : BitVec 32 := Scalar.muli c29_i32_1350 c1_i32_1351
  let v1993 : BitVec 32 := Scalar.addi c0_i32_1352 v1992
  v1993.toNat
def k0_cond319 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_989 : BitVec 32 := 30#32
  let v1463 : BitVec 1 := Scalar.cmpi .ne v2 c30_i32_989
  let v1464 : BitVec 32 := Scalar.extui v1463
  let c0_i32_990 : BitVec 32 := 0#32
  let v1465 : BitVec 1 := Scalar.cmpi .ne v1464 c0_i32_990
  v1465

def k0_off350 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off351 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev158 : Nat :=
  let c0_i32_1352 : BitVec 32 := 0#32
  let c30_i32_1350 : BitVec 32 := 30#32
  let c1_i32_1351 : BitVec 32 := 1#32
  let v1992 : BitVec 32 := Scalar.muli c30_i32_1350 c1_i32_1351
  let v1993 : BitVec 32 := Scalar.addi c0_i32_1352 v1992
  v1993.toNat
def k0_cond320 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_991 : BitVec 32 := 31#32
  let v1466 : BitVec 1 := Scalar.cmpi .ne v2 c31_i32_991
  let v1467 : BitVec 32 := Scalar.extui v1466
  let c0_i32_992 : BitVec 32 := 0#32
  let v1468 : BitVec 1 := Scalar.cmpi .ne v1467 c0_i32_992
  v1468

def k0_off352 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off353 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1353 : BitVec 32 := 0#32
  let c0_i32_1354 : BitVec 32 := 0#32
  ![v2.toNat, 0, 0]
def k0_dev159 : Nat :=
  let c0_i32_1352 : BitVec 32 := 0#32
  let c31_i32_1350 : BitVec 32 := 31#32
  let c1_i32_1351 : BitVec 32 := 1#32
  let v1992 : BitVec 32 := Scalar.muli c31_i32_1350 c1_i32_1351
  let v1993 : BitVec 32 := Scalar.addi c0_i32_1352 v1992
  v1993.toNat
def k0_cond337 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1038 : BitVec 32 := 0#32
  let v1533 : BitVec 1 := Scalar.cmpi .ne v2 c0_i32_1038
  let v1534 : BitVec 32 := Scalar.extui v1533
  let c0_i32_1039 : BitVec 32 := 0#32
  let v1535 : BitVec 1 := Scalar.cmpi .ne v1534 c0_i32_1039
  v1535

def k0_off354 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off355 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev160 : Nat :=
  let c0_i32_1353 : BitVec 32 := 0#32
  let c0_i32_1351 : BitVec 32 := 0#32
  let c1_i32_1352 : BitVec 32 := 1#32
  let v1992 : BitVec 32 := Scalar.muli c0_i32_1351 c1_i32_1352
  let v1993 : BitVec 32 := Scalar.addi c0_i32_1353 v1992
  v1993.toNat
def k0_cond338 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1040 : BitVec 32 := 1#32
  let v1536 : BitVec 1 := Scalar.cmpi .ne v2 c1_i32_1040
  let v1537 : BitVec 32 := Scalar.extui v1536
  let c0_i32_1041 : BitVec 32 := 0#32
  let v1538 : BitVec 1 := Scalar.cmpi .ne v1537 c0_i32_1041
  v1538

def k0_off356 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off357 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev161 : Nat :=
  let c0_i32_1353 : BitVec 32 := 0#32
  let c1_i32_1351 : BitVec 32 := 1#32
  let c1_i32_1352 : BitVec 32 := 1#32
  let v1992 : BitVec 32 := Scalar.muli c1_i32_1351 c1_i32_1352
  let v1993 : BitVec 32 := Scalar.addi c0_i32_1353 v1992
  v1993.toNat
def k0_cond339 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1042 : BitVec 32 := 2#32
  let v1539 : BitVec 1 := Scalar.cmpi .ne v2 c2_i32_1042
  let v1540 : BitVec 32 := Scalar.extui v1539
  let c0_i32_1043 : BitVec 32 := 0#32
  let v1541 : BitVec 1 := Scalar.cmpi .ne v1540 c0_i32_1043
  v1541

def k0_off358 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off359 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev162 : Nat :=
  let c0_i32_1353 : BitVec 32 := 0#32
  let c2_i32_1351 : BitVec 32 := 2#32
  let c1_i32_1352 : BitVec 32 := 1#32
  let v1992 : BitVec 32 := Scalar.muli c2_i32_1351 c1_i32_1352
  let v1993 : BitVec 32 := Scalar.addi c0_i32_1353 v1992
  v1993.toNat
def k0_cond340 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1044 : BitVec 32 := 3#32
  let v1542 : BitVec 1 := Scalar.cmpi .ne v2 c3_i32_1044
  let v1543 : BitVec 32 := Scalar.extui v1542
  let c0_i32_1045 : BitVec 32 := 0#32
  let v1544 : BitVec 1 := Scalar.cmpi .ne v1543 c0_i32_1045
  v1544

def k0_off360 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off361 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev163 : Nat :=
  let c0_i32_1353 : BitVec 32 := 0#32
  let c3_i32_1351 : BitVec 32 := 3#32
  let c1_i32_1352 : BitVec 32 := 1#32
  let v1992 : BitVec 32 := Scalar.muli c3_i32_1351 c1_i32_1352
  let v1993 : BitVec 32 := Scalar.addi c0_i32_1353 v1992
  v1993.toNat
def k0_cond341 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1046 : BitVec 32 := 4#32
  let v1545 : BitVec 1 := Scalar.cmpi .ne v2 c4_i32_1046
  let v1546 : BitVec 32 := Scalar.extui v1545
  let c0_i32_1047 : BitVec 32 := 0#32
  let v1547 : BitVec 1 := Scalar.cmpi .ne v1546 c0_i32_1047
  v1547

def k0_off362 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off363 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev164 : Nat :=
  let c0_i32_1353 : BitVec 32 := 0#32
  let c4_i32_1351 : BitVec 32 := 4#32
  let c1_i32_1352 : BitVec 32 := 1#32
  let v1992 : BitVec 32 := Scalar.muli c4_i32_1351 c1_i32_1352
  let v1993 : BitVec 32 := Scalar.addi c0_i32_1353 v1992
  v1993.toNat
def k0_cond342 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1048 : BitVec 32 := 5#32
  let v1548 : BitVec 1 := Scalar.cmpi .ne v2 c5_i32_1048
  let v1549 : BitVec 32 := Scalar.extui v1548
  let c0_i32_1049 : BitVec 32 := 0#32
  let v1550 : BitVec 1 := Scalar.cmpi .ne v1549 c0_i32_1049
  v1550

def k0_off364 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off365 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev165 : Nat :=
  let c0_i32_1353 : BitVec 32 := 0#32
  let c5_i32_1351 : BitVec 32 := 5#32
  let c1_i32_1352 : BitVec 32 := 1#32
  let v1992 : BitVec 32 := Scalar.muli c5_i32_1351 c1_i32_1352
  let v1993 : BitVec 32 := Scalar.addi c0_i32_1353 v1992
  v1993.toNat
def k0_cond343 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1050 : BitVec 32 := 6#32
  let v1551 : BitVec 1 := Scalar.cmpi .ne v2 c6_i32_1050
  let v1552 : BitVec 32 := Scalar.extui v1551
  let c0_i32_1051 : BitVec 32 := 0#32
  let v1553 : BitVec 1 := Scalar.cmpi .ne v1552 c0_i32_1051
  v1553

def k0_off366 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off367 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev166 : Nat :=
  let c0_i32_1353 : BitVec 32 := 0#32
  let c6_i32_1351 : BitVec 32 := 6#32
  let c1_i32_1352 : BitVec 32 := 1#32
  let v1992 : BitVec 32 := Scalar.muli c6_i32_1351 c1_i32_1352
  let v1993 : BitVec 32 := Scalar.addi c0_i32_1353 v1992
  v1993.toNat
def k0_cond344 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1052 : BitVec 32 := 7#32
  let v1554 : BitVec 1 := Scalar.cmpi .ne v2 c7_i32_1052
  let v1555 : BitVec 32 := Scalar.extui v1554
  let c0_i32_1053 : BitVec 32 := 0#32
  let v1556 : BitVec 1 := Scalar.cmpi .ne v1555 c0_i32_1053
  v1556

def k0_off368 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off369 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev167 : Nat :=
  let c0_i32_1353 : BitVec 32 := 0#32
  let c7_i32_1351 : BitVec 32 := 7#32
  let c1_i32_1352 : BitVec 32 := 1#32
  let v1992 : BitVec 32 := Scalar.muli c7_i32_1351 c1_i32_1352
  let v1993 : BitVec 32 := Scalar.addi c0_i32_1353 v1992
  v1993.toNat
def k0_cond345 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1054 : BitVec 32 := 8#32
  let v1557 : BitVec 1 := Scalar.cmpi .ne v2 c8_i32_1054
  let v1558 : BitVec 32 := Scalar.extui v1557
  let c0_i32_1055 : BitVec 32 := 0#32
  let v1559 : BitVec 1 := Scalar.cmpi .ne v1558 c0_i32_1055
  v1559

def k0_off370 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off371 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev168 : Nat :=
  let c0_i32_1353 : BitVec 32 := 0#32
  let c8_i32_1351 : BitVec 32 := 8#32
  let c1_i32_1352 : BitVec 32 := 1#32
  let v1992 : BitVec 32 := Scalar.muli c8_i32_1351 c1_i32_1352
  let v1993 : BitVec 32 := Scalar.addi c0_i32_1353 v1992
  v1993.toNat
def k0_cond346 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1056 : BitVec 32 := 9#32
  let v1560 : BitVec 1 := Scalar.cmpi .ne v2 c9_i32_1056
  let v1561 : BitVec 32 := Scalar.extui v1560
  let c0_i32_1057 : BitVec 32 := 0#32
  let v1562 : BitVec 1 := Scalar.cmpi .ne v1561 c0_i32_1057
  v1562

def k0_off372 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off373 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev169 : Nat :=
  let c0_i32_1353 : BitVec 32 := 0#32
  let c9_i32_1351 : BitVec 32 := 9#32
  let c1_i32_1352 : BitVec 32 := 1#32
  let v1992 : BitVec 32 := Scalar.muli c9_i32_1351 c1_i32_1352
  let v1993 : BitVec 32 := Scalar.addi c0_i32_1353 v1992
  v1993.toNat
def k0_cond347 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1058 : BitVec 32 := 10#32
  let v1563 : BitVec 1 := Scalar.cmpi .ne v2 c10_i32_1058
  let v1564 : BitVec 32 := Scalar.extui v1563
  let c0_i32_1059 : BitVec 32 := 0#32
  let v1565 : BitVec 1 := Scalar.cmpi .ne v1564 c0_i32_1059
  v1565

def k0_off374 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off375 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev170 : Nat :=
  let c0_i32_1353 : BitVec 32 := 0#32
  let c10_i32_1351 : BitVec 32 := 10#32
  let c1_i32_1352 : BitVec 32 := 1#32
  let v1992 : BitVec 32 := Scalar.muli c10_i32_1351 c1_i32_1352
  let v1993 : BitVec 32 := Scalar.addi c0_i32_1353 v1992
  v1993.toNat
def k0_cond348 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1060 : BitVec 32 := 11#32
  let v1566 : BitVec 1 := Scalar.cmpi .ne v2 c11_i32_1060
  let v1567 : BitVec 32 := Scalar.extui v1566
  let c0_i32_1061 : BitVec 32 := 0#32
  let v1568 : BitVec 1 := Scalar.cmpi .ne v1567 c0_i32_1061
  v1568

def k0_off376 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off377 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev171 : Nat :=
  let c0_i32_1353 : BitVec 32 := 0#32
  let c11_i32_1351 : BitVec 32 := 11#32
  let c1_i32_1352 : BitVec 32 := 1#32
  let v1992 : BitVec 32 := Scalar.muli c11_i32_1351 c1_i32_1352
  let v1993 : BitVec 32 := Scalar.addi c0_i32_1353 v1992
  v1993.toNat
def k0_cond349 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1062 : BitVec 32 := 12#32
  let v1569 : BitVec 1 := Scalar.cmpi .ne v2 c12_i32_1062
  let v1570 : BitVec 32 := Scalar.extui v1569
  let c0_i32_1063 : BitVec 32 := 0#32
  let v1571 : BitVec 1 := Scalar.cmpi .ne v1570 c0_i32_1063
  v1571

def k0_off378 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off379 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev172 : Nat :=
  let c0_i32_1353 : BitVec 32 := 0#32
  let c12_i32_1351 : BitVec 32 := 12#32
  let c1_i32_1352 : BitVec 32 := 1#32
  let v1992 : BitVec 32 := Scalar.muli c12_i32_1351 c1_i32_1352
  let v1993 : BitVec 32 := Scalar.addi c0_i32_1353 v1992
  v1993.toNat
def k0_cond350 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1064 : BitVec 32 := 13#32
  let v1572 : BitVec 1 := Scalar.cmpi .ne v2 c13_i32_1064
  let v1573 : BitVec 32 := Scalar.extui v1572
  let c0_i32_1065 : BitVec 32 := 0#32
  let v1574 : BitVec 1 := Scalar.cmpi .ne v1573 c0_i32_1065
  v1574

def k0_off380 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off381 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev173 : Nat :=
  let c0_i32_1353 : BitVec 32 := 0#32
  let c13_i32_1351 : BitVec 32 := 13#32
  let c1_i32_1352 : BitVec 32 := 1#32
  let v1992 : BitVec 32 := Scalar.muli c13_i32_1351 c1_i32_1352
  let v1993 : BitVec 32 := Scalar.addi c0_i32_1353 v1992
  v1993.toNat
def k0_cond351 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1066 : BitVec 32 := 14#32
  let v1575 : BitVec 1 := Scalar.cmpi .ne v2 c14_i32_1066
  let v1576 : BitVec 32 := Scalar.extui v1575
  let c0_i32_1067 : BitVec 32 := 0#32
  let v1577 : BitVec 1 := Scalar.cmpi .ne v1576 c0_i32_1067
  v1577

def k0_off382 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off383 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev174 : Nat :=
  let c0_i32_1353 : BitVec 32 := 0#32
  let c14_i32_1351 : BitVec 32 := 14#32
  let c1_i32_1352 : BitVec 32 := 1#32
  let v1992 : BitVec 32 := Scalar.muli c14_i32_1351 c1_i32_1352
  let v1993 : BitVec 32 := Scalar.addi c0_i32_1353 v1992
  v1993.toNat
def k0_cond352 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1068 : BitVec 32 := 15#32
  let v1578 : BitVec 1 := Scalar.cmpi .ne v2 c15_i32_1068
  let v1579 : BitVec 32 := Scalar.extui v1578
  let c0_i32_1069 : BitVec 32 := 0#32
  let v1580 : BitVec 1 := Scalar.cmpi .ne v1579 c0_i32_1069
  v1580

def k0_off384 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off385 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev175 : Nat :=
  let c0_i32_1353 : BitVec 32 := 0#32
  let c15_i32_1351 : BitVec 32 := 15#32
  let c1_i32_1352 : BitVec 32 := 1#32
  let v1992 : BitVec 32 := Scalar.muli c15_i32_1351 c1_i32_1352
  let v1993 : BitVec 32 := Scalar.addi c0_i32_1353 v1992
  v1993.toNat
def k0_cond369 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1115 : BitVec 32 := 16#32
  let v1645 : BitVec 1 := Scalar.cmpi .ne v2 c16_i32_1115
  let v1646 : BitVec 32 := Scalar.extui v1645
  let c0_i32_1116 : BitVec 32 := 0#32
  let v1647 : BitVec 1 := Scalar.cmpi .ne v1646 c0_i32_1116
  v1647

def k0_off386 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off387 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev176 : Nat :=
  let c0_i32_1353 : BitVec 32 := 0#32
  let c16_i32_1351 : BitVec 32 := 16#32
  let c1_i32_1352 : BitVec 32 := 1#32
  let v1992 : BitVec 32 := Scalar.muli c16_i32_1351 c1_i32_1352
  let v1993 : BitVec 32 := Scalar.addi c0_i32_1353 v1992
  v1993.toNat
def k0_cond370 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1117 : BitVec 32 := 17#32
  let v1648 : BitVec 1 := Scalar.cmpi .ne v2 c17_i32_1117
  let v1649 : BitVec 32 := Scalar.extui v1648
  let c0_i32_1118 : BitVec 32 := 0#32
  let v1650 : BitVec 1 := Scalar.cmpi .ne v1649 c0_i32_1118
  v1650

def k0_off388 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off389 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev177 : Nat :=
  let c0_i32_1353 : BitVec 32 := 0#32
  let c17_i32_1351 : BitVec 32 := 17#32
  let c1_i32_1352 : BitVec 32 := 1#32
  let v1992 : BitVec 32 := Scalar.muli c17_i32_1351 c1_i32_1352
  let v1993 : BitVec 32 := Scalar.addi c0_i32_1353 v1992
  v1993.toNat
def k0_cond371 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1119 : BitVec 32 := 18#32
  let v1651 : BitVec 1 := Scalar.cmpi .ne v2 c18_i32_1119
  let v1652 : BitVec 32 := Scalar.extui v1651
  let c0_i32_1120 : BitVec 32 := 0#32
  let v1653 : BitVec 1 := Scalar.cmpi .ne v1652 c0_i32_1120
  v1653

def k0_off390 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off391 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev178 : Nat :=
  let c0_i32_1353 : BitVec 32 := 0#32
  let c18_i32_1351 : BitVec 32 := 18#32
  let c1_i32_1352 : BitVec 32 := 1#32
  let v1992 : BitVec 32 := Scalar.muli c18_i32_1351 c1_i32_1352
  let v1993 : BitVec 32 := Scalar.addi c0_i32_1353 v1992
  v1993.toNat
def k0_cond372 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1121 : BitVec 32 := 19#32
  let v1654 : BitVec 1 := Scalar.cmpi .ne v2 c19_i32_1121
  let v1655 : BitVec 32 := Scalar.extui v1654
  let c0_i32_1122 : BitVec 32 := 0#32
  let v1656 : BitVec 1 := Scalar.cmpi .ne v1655 c0_i32_1122
  v1656

def k0_off392 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off393 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev179 : Nat :=
  let c0_i32_1353 : BitVec 32 := 0#32
  let c19_i32_1351 : BitVec 32 := 19#32
  let c1_i32_1352 : BitVec 32 := 1#32
  let v1992 : BitVec 32 := Scalar.muli c19_i32_1351 c1_i32_1352
  let v1993 : BitVec 32 := Scalar.addi c0_i32_1353 v1992
  v1993.toNat
def k0_cond373 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1123 : BitVec 32 := 20#32
  let v1657 : BitVec 1 := Scalar.cmpi .ne v2 c20_i32_1123
  let v1658 : BitVec 32 := Scalar.extui v1657
  let c0_i32_1124 : BitVec 32 := 0#32
  let v1659 : BitVec 1 := Scalar.cmpi .ne v1658 c0_i32_1124
  v1659

def k0_off394 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off395 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev180 : Nat :=
  let c0_i32_1353 : BitVec 32 := 0#32
  let c20_i32_1351 : BitVec 32 := 20#32
  let c1_i32_1352 : BitVec 32 := 1#32
  let v1992 : BitVec 32 := Scalar.muli c20_i32_1351 c1_i32_1352
  let v1993 : BitVec 32 := Scalar.addi c0_i32_1353 v1992
  v1993.toNat
def k0_cond374 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1125 : BitVec 32 := 21#32
  let v1660 : BitVec 1 := Scalar.cmpi .ne v2 c21_i32_1125
  let v1661 : BitVec 32 := Scalar.extui v1660
  let c0_i32_1126 : BitVec 32 := 0#32
  let v1662 : BitVec 1 := Scalar.cmpi .ne v1661 c0_i32_1126
  v1662

def k0_off396 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off397 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev181 : Nat :=
  let c0_i32_1353 : BitVec 32 := 0#32
  let c21_i32_1351 : BitVec 32 := 21#32
  let c1_i32_1352 : BitVec 32 := 1#32
  let v1992 : BitVec 32 := Scalar.muli c21_i32_1351 c1_i32_1352
  let v1993 : BitVec 32 := Scalar.addi c0_i32_1353 v1992
  v1993.toNat
def k0_cond375 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1127 : BitVec 32 := 22#32
  let v1663 : BitVec 1 := Scalar.cmpi .ne v2 c22_i32_1127
  let v1664 : BitVec 32 := Scalar.extui v1663
  let c0_i32_1128 : BitVec 32 := 0#32
  let v1665 : BitVec 1 := Scalar.cmpi .ne v1664 c0_i32_1128
  v1665

def k0_off398 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off399 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev182 : Nat :=
  let c0_i32_1353 : BitVec 32 := 0#32
  let c22_i32_1351 : BitVec 32 := 22#32
  let c1_i32_1352 : BitVec 32 := 1#32
  let v1992 : BitVec 32 := Scalar.muli c22_i32_1351 c1_i32_1352
  let v1993 : BitVec 32 := Scalar.addi c0_i32_1353 v1992
  v1993.toNat
def k0_cond376 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1129 : BitVec 32 := 23#32
  let v1666 : BitVec 1 := Scalar.cmpi .ne v2 c23_i32_1129
  let v1667 : BitVec 32 := Scalar.extui v1666
  let c0_i32_1130 : BitVec 32 := 0#32
  let v1668 : BitVec 1 := Scalar.cmpi .ne v1667 c0_i32_1130
  v1668

def k0_off400 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off401 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev183 : Nat :=
  let c0_i32_1353 : BitVec 32 := 0#32
  let c23_i32_1351 : BitVec 32 := 23#32
  let c1_i32_1352 : BitVec 32 := 1#32
  let v1992 : BitVec 32 := Scalar.muli c23_i32_1351 c1_i32_1352
  let v1993 : BitVec 32 := Scalar.addi c0_i32_1353 v1992
  v1993.toNat
def k0_cond377 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1131 : BitVec 32 := 24#32
  let v1669 : BitVec 1 := Scalar.cmpi .ne v2 c24_i32_1131
  let v1670 : BitVec 32 := Scalar.extui v1669
  let c0_i32_1132 : BitVec 32 := 0#32
  let v1671 : BitVec 1 := Scalar.cmpi .ne v1670 c0_i32_1132
  v1671

def k0_off402 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off403 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev184 : Nat :=
  let c0_i32_1353 : BitVec 32 := 0#32
  let c24_i32_1351 : BitVec 32 := 24#32
  let c1_i32_1352 : BitVec 32 := 1#32
  let v1992 : BitVec 32 := Scalar.muli c24_i32_1351 c1_i32_1352
  let v1993 : BitVec 32 := Scalar.addi c0_i32_1353 v1992
  v1993.toNat
def k0_cond378 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1133 : BitVec 32 := 25#32
  let v1672 : BitVec 1 := Scalar.cmpi .ne v2 c25_i32_1133
  let v1673 : BitVec 32 := Scalar.extui v1672
  let c0_i32_1134 : BitVec 32 := 0#32
  let v1674 : BitVec 1 := Scalar.cmpi .ne v1673 c0_i32_1134
  v1674

def k0_off404 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off405 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev185 : Nat :=
  let c0_i32_1353 : BitVec 32 := 0#32
  let c25_i32_1351 : BitVec 32 := 25#32
  let c1_i32_1352 : BitVec 32 := 1#32
  let v1992 : BitVec 32 := Scalar.muli c25_i32_1351 c1_i32_1352
  let v1993 : BitVec 32 := Scalar.addi c0_i32_1353 v1992
  v1993.toNat
def k0_cond379 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1135 : BitVec 32 := 26#32
  let v1675 : BitVec 1 := Scalar.cmpi .ne v2 c26_i32_1135
  let v1676 : BitVec 32 := Scalar.extui v1675
  let c0_i32_1136 : BitVec 32 := 0#32
  let v1677 : BitVec 1 := Scalar.cmpi .ne v1676 c0_i32_1136
  v1677

def k0_off406 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off407 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev186 : Nat :=
  let c0_i32_1353 : BitVec 32 := 0#32
  let c26_i32_1351 : BitVec 32 := 26#32
  let c1_i32_1352 : BitVec 32 := 1#32
  let v1992 : BitVec 32 := Scalar.muli c26_i32_1351 c1_i32_1352
  let v1993 : BitVec 32 := Scalar.addi c0_i32_1353 v1992
  v1993.toNat
def k0_cond380 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1137 : BitVec 32 := 27#32
  let v1678 : BitVec 1 := Scalar.cmpi .ne v2 c27_i32_1137
  let v1679 : BitVec 32 := Scalar.extui v1678
  let c0_i32_1138 : BitVec 32 := 0#32
  let v1680 : BitVec 1 := Scalar.cmpi .ne v1679 c0_i32_1138
  v1680

def k0_off408 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off409 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev187 : Nat :=
  let c0_i32_1353 : BitVec 32 := 0#32
  let c27_i32_1351 : BitVec 32 := 27#32
  let c1_i32_1352 : BitVec 32 := 1#32
  let v1992 : BitVec 32 := Scalar.muli c27_i32_1351 c1_i32_1352
  let v1993 : BitVec 32 := Scalar.addi c0_i32_1353 v1992
  v1993.toNat
def k0_cond381 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1139 : BitVec 32 := 28#32
  let v1681 : BitVec 1 := Scalar.cmpi .ne v2 c28_i32_1139
  let v1682 : BitVec 32 := Scalar.extui v1681
  let c0_i32_1140 : BitVec 32 := 0#32
  let v1683 : BitVec 1 := Scalar.cmpi .ne v1682 c0_i32_1140
  v1683

def k0_off410 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off411 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev188 : Nat :=
  let c0_i32_1353 : BitVec 32 := 0#32
  let c28_i32_1351 : BitVec 32 := 28#32
  let c1_i32_1352 : BitVec 32 := 1#32
  let v1992 : BitVec 32 := Scalar.muli c28_i32_1351 c1_i32_1352
  let v1993 : BitVec 32 := Scalar.addi c0_i32_1353 v1992
  v1993.toNat
def k0_cond382 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1141 : BitVec 32 := 29#32
  let v1684 : BitVec 1 := Scalar.cmpi .ne v2 c29_i32_1141
  let v1685 : BitVec 32 := Scalar.extui v1684
  let c0_i32_1142 : BitVec 32 := 0#32
  let v1686 : BitVec 1 := Scalar.cmpi .ne v1685 c0_i32_1142
  v1686

def k0_off412 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off413 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev189 : Nat :=
  let c0_i32_1353 : BitVec 32 := 0#32
  let c29_i32_1351 : BitVec 32 := 29#32
  let c1_i32_1352 : BitVec 32 := 1#32
  let v1992 : BitVec 32 := Scalar.muli c29_i32_1351 c1_i32_1352
  let v1993 : BitVec 32 := Scalar.addi c0_i32_1353 v1992
  v1993.toNat
def k0_cond383 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1143 : BitVec 32 := 30#32
  let v1687 : BitVec 1 := Scalar.cmpi .ne v2 c30_i32_1143
  let v1688 : BitVec 32 := Scalar.extui v1687
  let c0_i32_1144 : BitVec 32 := 0#32
  let v1689 : BitVec 1 := Scalar.cmpi .ne v1688 c0_i32_1144
  v1689

def k0_off414 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off415 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev190 : Nat :=
  let c0_i32_1353 : BitVec 32 := 0#32
  let c30_i32_1351 : BitVec 32 := 30#32
  let c1_i32_1352 : BitVec 32 := 1#32
  let v1992 : BitVec 32 := Scalar.muli c30_i32_1351 c1_i32_1352
  let v1993 : BitVec 32 := Scalar.addi c0_i32_1353 v1992
  v1993.toNat
def k0_cond384 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1145 : BitVec 32 := 31#32
  let v1690 : BitVec 1 := Scalar.cmpi .ne v2 c31_i32_1145
  let v1691 : BitVec 32 := Scalar.extui v1690
  let c0_i32_1146 : BitVec 32 := 0#32
  let v1692 : BitVec 1 := Scalar.cmpi .ne v1691 c0_i32_1146
  v1692

def k0_off416 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off417 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1354 : BitVec 32 := 0#32
  let c0_i32_1355 : BitVec 32 := 0#32
  ![v2.toNat, 0, 0]
def k0_dev191 : Nat :=
  let c0_i32_1353 : BitVec 32 := 0#32
  let c31_i32_1351 : BitVec 32 := 31#32
  let c1_i32_1352 : BitVec 32 := 1#32
  let v1992 : BitVec 32 := Scalar.muli c31_i32_1351 c1_i32_1352
  let v1993 : BitVec 32 := Scalar.addi c0_i32_1353 v1992
  v1993.toNat
def k0_cond385 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1151 : BitVec 32 := 0#32
  let v1700 : BitVec 1 := Scalar.cmpi .ne v2 c0_i32_1151
  let v1701 : BitVec 32 := Scalar.extui v1700
  let c0_i32_1152 : BitVec 32 := 0#32
  let v1702 : BitVec 1 := Scalar.cmpi .ne v1701 c0_i32_1152
  v1702

def k0_off418 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond386 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1153 : BitVec 32 := 1#32
  let v1703 : BitVec 1 := Scalar.cmpi .ne v2 c1_i32_1153
  let v1704 : BitVec 32 := Scalar.extui v1703
  let c0_i32_1154 : BitVec 32 := 0#32
  let v1705 : BitVec 1 := Scalar.cmpi .ne v1704 c0_i32_1154
  v1705

def k0_off419 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond387 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1155 : BitVec 32 := 2#32
  let v1706 : BitVec 1 := Scalar.cmpi .ne v2 c2_i32_1155
  let v1707 : BitVec 32 := Scalar.extui v1706
  let c0_i32_1156 : BitVec 32 := 0#32
  let v1708 : BitVec 1 := Scalar.cmpi .ne v1707 c0_i32_1156
  v1708

def k0_off420 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond388 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1157 : BitVec 32 := 3#32
  let v1709 : BitVec 1 := Scalar.cmpi .ne v2 c3_i32_1157
  let v1710 : BitVec 32 := Scalar.extui v1709
  let c0_i32_1158 : BitVec 32 := 0#32
  let v1711 : BitVec 1 := Scalar.cmpi .ne v1710 c0_i32_1158
  v1711

def k0_off421 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond389 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1159 : BitVec 32 := 4#32
  let v1712 : BitVec 1 := Scalar.cmpi .ne v2 c4_i32_1159
  let v1713 : BitVec 32 := Scalar.extui v1712
  let c0_i32_1160 : BitVec 32 := 0#32
  let v1714 : BitVec 1 := Scalar.cmpi .ne v1713 c0_i32_1160
  v1714

def k0_off422 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond390 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1161 : BitVec 32 := 5#32
  let v1715 : BitVec 1 := Scalar.cmpi .ne v2 c5_i32_1161
  let v1716 : BitVec 32 := Scalar.extui v1715
  let c0_i32_1162 : BitVec 32 := 0#32
  let v1717 : BitVec 1 := Scalar.cmpi .ne v1716 c0_i32_1162
  v1717

def k0_off423 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond391 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1163 : BitVec 32 := 6#32
  let v1718 : BitVec 1 := Scalar.cmpi .ne v2 c6_i32_1163
  let v1719 : BitVec 32 := Scalar.extui v1718
  let c0_i32_1164 : BitVec 32 := 0#32
  let v1720 : BitVec 1 := Scalar.cmpi .ne v1719 c0_i32_1164
  v1720

def k0_off424 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond392 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1165 : BitVec 32 := 7#32
  let v1721 : BitVec 1 := Scalar.cmpi .ne v2 c7_i32_1165
  let v1722 : BitVec 32 := Scalar.extui v1721
  let c0_i32_1166 : BitVec 32 := 0#32
  let v1723 : BitVec 1 := Scalar.cmpi .ne v1722 c0_i32_1166
  v1723

def k0_off425 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond393 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1167 : BitVec 32 := 8#32
  let v1724 : BitVec 1 := Scalar.cmpi .ne v2 c8_i32_1167
  let v1725 : BitVec 32 := Scalar.extui v1724
  let c0_i32_1168 : BitVec 32 := 0#32
  let v1726 : BitVec 1 := Scalar.cmpi .ne v1725 c0_i32_1168
  v1726

def k0_off426 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond394 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1169 : BitVec 32 := 9#32
  let v1727 : BitVec 1 := Scalar.cmpi .ne v2 c9_i32_1169
  let v1728 : BitVec 32 := Scalar.extui v1727
  let c0_i32_1170 : BitVec 32 := 0#32
  let v1729 : BitVec 1 := Scalar.cmpi .ne v1728 c0_i32_1170
  v1729

def k0_off427 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond395 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1171 : BitVec 32 := 10#32
  let v1730 : BitVec 1 := Scalar.cmpi .ne v2 c10_i32_1171
  let v1731 : BitVec 32 := Scalar.extui v1730
  let c0_i32_1172 : BitVec 32 := 0#32
  let v1732 : BitVec 1 := Scalar.cmpi .ne v1731 c0_i32_1172
  v1732

def k0_off428 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond396 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1173 : BitVec 32 := 11#32
  let v1733 : BitVec 1 := Scalar.cmpi .ne v2 c11_i32_1173
  let v1734 : BitVec 32 := Scalar.extui v1733
  let c0_i32_1174 : BitVec 32 := 0#32
  let v1735 : BitVec 1 := Scalar.cmpi .ne v1734 c0_i32_1174
  v1735

def k0_off429 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond397 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1175 : BitVec 32 := 12#32
  let v1736 : BitVec 1 := Scalar.cmpi .ne v2 c12_i32_1175
  let v1737 : BitVec 32 := Scalar.extui v1736
  let c0_i32_1176 : BitVec 32 := 0#32
  let v1738 : BitVec 1 := Scalar.cmpi .ne v1737 c0_i32_1176
  v1738

def k0_off430 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond398 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1177 : BitVec 32 := 13#32
  let v1739 : BitVec 1 := Scalar.cmpi .ne v2 c13_i32_1177
  let v1740 : BitVec 32 := Scalar.extui v1739
  let c0_i32_1178 : BitVec 32 := 0#32
  let v1741 : BitVec 1 := Scalar.cmpi .ne v1740 c0_i32_1178
  v1741

def k0_off431 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond399 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1179 : BitVec 32 := 14#32
  let v1742 : BitVec 1 := Scalar.cmpi .ne v2 c14_i32_1179
  let v1743 : BitVec 32 := Scalar.extui v1742
  let c0_i32_1180 : BitVec 32 := 0#32
  let v1744 : BitVec 1 := Scalar.cmpi .ne v1743 c0_i32_1180
  v1744

def k0_off432 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond400 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1181 : BitVec 32 := 15#32
  let v1745 : BitVec 1 := Scalar.cmpi .ne v2 c15_i32_1181
  let v1746 : BitVec 32 := Scalar.extui v1745
  let c0_i32_1182 : BitVec 32 := 0#32
  let v1747 : BitVec 1 := Scalar.cmpi .ne v1746 c0_i32_1182
  v1747

def k0_off433 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond401 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1183 : BitVec 32 := 16#32
  let v1748 : BitVec 1 := Scalar.cmpi .ne v2 c16_i32_1183
  let v1749 : BitVec 32 := Scalar.extui v1748
  let c0_i32_1184 : BitVec 32 := 0#32
  let v1750 : BitVec 1 := Scalar.cmpi .ne v1749 c0_i32_1184
  v1750

def k0_off434 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond402 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1185 : BitVec 32 := 17#32
  let v1751 : BitVec 1 := Scalar.cmpi .ne v2 c17_i32_1185
  let v1752 : BitVec 32 := Scalar.extui v1751
  let c0_i32_1186 : BitVec 32 := 0#32
  let v1753 : BitVec 1 := Scalar.cmpi .ne v1752 c0_i32_1186
  v1753

def k0_off435 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond403 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1187 : BitVec 32 := 18#32
  let v1754 : BitVec 1 := Scalar.cmpi .ne v2 c18_i32_1187
  let v1755 : BitVec 32 := Scalar.extui v1754
  let c0_i32_1188 : BitVec 32 := 0#32
  let v1756 : BitVec 1 := Scalar.cmpi .ne v1755 c0_i32_1188
  v1756

def k0_off436 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond404 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1189 : BitVec 32 := 19#32
  let v1757 : BitVec 1 := Scalar.cmpi .ne v2 c19_i32_1189
  let v1758 : BitVec 32 := Scalar.extui v1757
  let c0_i32_1190 : BitVec 32 := 0#32
  let v1759 : BitVec 1 := Scalar.cmpi .ne v1758 c0_i32_1190
  v1759

def k0_off437 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond405 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1191 : BitVec 32 := 20#32
  let v1760 : BitVec 1 := Scalar.cmpi .ne v2 c20_i32_1191
  let v1761 : BitVec 32 := Scalar.extui v1760
  let c0_i32_1192 : BitVec 32 := 0#32
  let v1762 : BitVec 1 := Scalar.cmpi .ne v1761 c0_i32_1192
  v1762

def k0_off438 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond406 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1193 : BitVec 32 := 21#32
  let v1763 : BitVec 1 := Scalar.cmpi .ne v2 c21_i32_1193
  let v1764 : BitVec 32 := Scalar.extui v1763
  let c0_i32_1194 : BitVec 32 := 0#32
  let v1765 : BitVec 1 := Scalar.cmpi .ne v1764 c0_i32_1194
  v1765

def k0_off439 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond407 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1195 : BitVec 32 := 22#32
  let v1766 : BitVec 1 := Scalar.cmpi .ne v2 c22_i32_1195
  let v1767 : BitVec 32 := Scalar.extui v1766
  let c0_i32_1196 : BitVec 32 := 0#32
  let v1768 : BitVec 1 := Scalar.cmpi .ne v1767 c0_i32_1196
  v1768

def k0_off440 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond408 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1197 : BitVec 32 := 23#32
  let v1769 : BitVec 1 := Scalar.cmpi .ne v2 c23_i32_1197
  let v1770 : BitVec 32 := Scalar.extui v1769
  let c0_i32_1198 : BitVec 32 := 0#32
  let v1771 : BitVec 1 := Scalar.cmpi .ne v1770 c0_i32_1198
  v1771

def k0_off441 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond409 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1199 : BitVec 32 := 24#32
  let v1772 : BitVec 1 := Scalar.cmpi .ne v2 c24_i32_1199
  let v1773 : BitVec 32 := Scalar.extui v1772
  let c0_i32_1200 : BitVec 32 := 0#32
  let v1774 : BitVec 1 := Scalar.cmpi .ne v1773 c0_i32_1200
  v1774

def k0_off442 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond410 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1201 : BitVec 32 := 25#32
  let v1775 : BitVec 1 := Scalar.cmpi .ne v2 c25_i32_1201
  let v1776 : BitVec 32 := Scalar.extui v1775
  let c0_i32_1202 : BitVec 32 := 0#32
  let v1777 : BitVec 1 := Scalar.cmpi .ne v1776 c0_i32_1202
  v1777

def k0_off443 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond411 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1203 : BitVec 32 := 26#32
  let v1778 : BitVec 1 := Scalar.cmpi .ne v2 c26_i32_1203
  let v1779 : BitVec 32 := Scalar.extui v1778
  let c0_i32_1204 : BitVec 32 := 0#32
  let v1780 : BitVec 1 := Scalar.cmpi .ne v1779 c0_i32_1204
  v1780

def k0_off444 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond412 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1205 : BitVec 32 := 27#32
  let v1781 : BitVec 1 := Scalar.cmpi .ne v2 c27_i32_1205
  let v1782 : BitVec 32 := Scalar.extui v1781
  let c0_i32_1206 : BitVec 32 := 0#32
  let v1783 : BitVec 1 := Scalar.cmpi .ne v1782 c0_i32_1206
  v1783

def k0_off445 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond413 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1207 : BitVec 32 := 28#32
  let v1784 : BitVec 1 := Scalar.cmpi .ne v2 c28_i32_1207
  let v1785 : BitVec 32 := Scalar.extui v1784
  let c0_i32_1208 : BitVec 32 := 0#32
  let v1786 : BitVec 1 := Scalar.cmpi .ne v1785 c0_i32_1208
  v1786

def k0_off446 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond414 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1209 : BitVec 32 := 29#32
  let v1787 : BitVec 1 := Scalar.cmpi .ne v2 c29_i32_1209
  let v1788 : BitVec 32 := Scalar.extui v1787
  let c0_i32_1210 : BitVec 32 := 0#32
  let v1789 : BitVec 1 := Scalar.cmpi .ne v1788 c0_i32_1210
  v1789

def k0_off447 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond415 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1211 : BitVec 32 := 30#32
  let v1790 : BitVec 1 := Scalar.cmpi .ne v2 c30_i32_1211
  let v1791 : BitVec 32 := Scalar.extui v1790
  let c0_i32_1212 : BitVec 32 := 0#32
  let v1792 : BitVec 1 := Scalar.cmpi .ne v1791 c0_i32_1212
  v1792

def k0_off448 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond416 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1213 : BitVec 32 := 31#32
  let v1793 : BitVec 1 := Scalar.cmpi .ne v2 c31_i32_1213
  let v1794 : BitVec 32 := Scalar.extui v1793
  let c0_i32_1214 : BitVec 32 := 0#32
  let v1795 : BitVec 1 := Scalar.cmpi .ne v1794 c0_i32_1214
  v1795

def k0_off449 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1352 : BitVec 32 := 0#32
  let c0_i32_1353 : BitVec 32 := 0#32
  ![v2.toNat, 0, 0]
def k0_cond449 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1279 : BitVec 32 := 0#32
  let v1892 : BitVec 1 := Scalar.cmpi .ne v2 c0_i32_1279
  let v1893 : BitVec 32 := Scalar.extui v1892
  let c0_i32_1280 : BitVec 32 := 0#32
  let v1894 : BitVec 1 := Scalar.cmpi .ne v1893 c0_i32_1280
  v1894

def k0_off450 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond450 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1281 : BitVec 32 := 1#32
  let v1895 : BitVec 1 := Scalar.cmpi .ne v2 c1_i32_1281
  let v1896 : BitVec 32 := Scalar.extui v1895
  let c0_i32_1282 : BitVec 32 := 0#32
  let v1897 : BitVec 1 := Scalar.cmpi .ne v1896 c0_i32_1282
  v1897

def k0_off451 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond451 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1283 : BitVec 32 := 2#32
  let v1898 : BitVec 1 := Scalar.cmpi .ne v2 c2_i32_1283
  let v1899 : BitVec 32 := Scalar.extui v1898
  let c0_i32_1284 : BitVec 32 := 0#32
  let v1900 : BitVec 1 := Scalar.cmpi .ne v1899 c0_i32_1284
  v1900

def k0_off452 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond452 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1285 : BitVec 32 := 3#32
  let v1901 : BitVec 1 := Scalar.cmpi .ne v2 c3_i32_1285
  let v1902 : BitVec 32 := Scalar.extui v1901
  let c0_i32_1286 : BitVec 32 := 0#32
  let v1903 : BitVec 1 := Scalar.cmpi .ne v1902 c0_i32_1286
  v1903

def k0_off453 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond453 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1287 : BitVec 32 := 4#32
  let v1904 : BitVec 1 := Scalar.cmpi .ne v2 c4_i32_1287
  let v1905 : BitVec 32 := Scalar.extui v1904
  let c0_i32_1288 : BitVec 32 := 0#32
  let v1906 : BitVec 1 := Scalar.cmpi .ne v1905 c0_i32_1288
  v1906

def k0_off454 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond454 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1289 : BitVec 32 := 5#32
  let v1907 : BitVec 1 := Scalar.cmpi .ne v2 c5_i32_1289
  let v1908 : BitVec 32 := Scalar.extui v1907
  let c0_i32_1290 : BitVec 32 := 0#32
  let v1909 : BitVec 1 := Scalar.cmpi .ne v1908 c0_i32_1290
  v1909

def k0_off455 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond455 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1291 : BitVec 32 := 6#32
  let v1910 : BitVec 1 := Scalar.cmpi .ne v2 c6_i32_1291
  let v1911 : BitVec 32 := Scalar.extui v1910
  let c0_i32_1292 : BitVec 32 := 0#32
  let v1912 : BitVec 1 := Scalar.cmpi .ne v1911 c0_i32_1292
  v1912

def k0_off456 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond456 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1293 : BitVec 32 := 7#32
  let v1913 : BitVec 1 := Scalar.cmpi .ne v2 c7_i32_1293
  let v1914 : BitVec 32 := Scalar.extui v1913
  let c0_i32_1294 : BitVec 32 := 0#32
  let v1915 : BitVec 1 := Scalar.cmpi .ne v1914 c0_i32_1294
  v1915

def k0_off457 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond457 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1295 : BitVec 32 := 8#32
  let v1916 : BitVec 1 := Scalar.cmpi .ne v2 c8_i32_1295
  let v1917 : BitVec 32 := Scalar.extui v1916
  let c0_i32_1296 : BitVec 32 := 0#32
  let v1918 : BitVec 1 := Scalar.cmpi .ne v1917 c0_i32_1296
  v1918

def k0_off458 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond458 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1297 : BitVec 32 := 9#32
  let v1919 : BitVec 1 := Scalar.cmpi .ne v2 c9_i32_1297
  let v1920 : BitVec 32 := Scalar.extui v1919
  let c0_i32_1298 : BitVec 32 := 0#32
  let v1921 : BitVec 1 := Scalar.cmpi .ne v1920 c0_i32_1298
  v1921

def k0_off459 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond459 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1299 : BitVec 32 := 10#32
  let v1922 : BitVec 1 := Scalar.cmpi .ne v2 c10_i32_1299
  let v1923 : BitVec 32 := Scalar.extui v1922
  let c0_i32_1300 : BitVec 32 := 0#32
  let v1924 : BitVec 1 := Scalar.cmpi .ne v1923 c0_i32_1300
  v1924

def k0_off460 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond460 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1301 : BitVec 32 := 11#32
  let v1925 : BitVec 1 := Scalar.cmpi .ne v2 c11_i32_1301
  let v1926 : BitVec 32 := Scalar.extui v1925
  let c0_i32_1302 : BitVec 32 := 0#32
  let v1927 : BitVec 1 := Scalar.cmpi .ne v1926 c0_i32_1302
  v1927

def k0_off461 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond461 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1303 : BitVec 32 := 12#32
  let v1928 : BitVec 1 := Scalar.cmpi .ne v2 c12_i32_1303
  let v1929 : BitVec 32 := Scalar.extui v1928
  let c0_i32_1304 : BitVec 32 := 0#32
  let v1930 : BitVec 1 := Scalar.cmpi .ne v1929 c0_i32_1304
  v1930

def k0_off462 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond462 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1305 : BitVec 32 := 13#32
  let v1931 : BitVec 1 := Scalar.cmpi .ne v2 c13_i32_1305
  let v1932 : BitVec 32 := Scalar.extui v1931
  let c0_i32_1306 : BitVec 32 := 0#32
  let v1933 : BitVec 1 := Scalar.cmpi .ne v1932 c0_i32_1306
  v1933

def k0_off463 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond463 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1307 : BitVec 32 := 14#32
  let v1934 : BitVec 1 := Scalar.cmpi .ne v2 c14_i32_1307
  let v1935 : BitVec 32 := Scalar.extui v1934
  let c0_i32_1308 : BitVec 32 := 0#32
  let v1936 : BitVec 1 := Scalar.cmpi .ne v1935 c0_i32_1308
  v1936

def k0_off464 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond464 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1309 : BitVec 32 := 15#32
  let v1937 : BitVec 1 := Scalar.cmpi .ne v2 c15_i32_1309
  let v1938 : BitVec 32 := Scalar.extui v1937
  let c0_i32_1310 : BitVec 32 := 0#32
  let v1939 : BitVec 1 := Scalar.cmpi .ne v1938 c0_i32_1310
  v1939

def k0_off465 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond465 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1311 : BitVec 32 := 16#32
  let v1940 : BitVec 1 := Scalar.cmpi .ne v2 c16_i32_1311
  let v1941 : BitVec 32 := Scalar.extui v1940
  let c0_i32_1312 : BitVec 32 := 0#32
  let v1942 : BitVec 1 := Scalar.cmpi .ne v1941 c0_i32_1312
  v1942

def k0_off466 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond466 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1313 : BitVec 32 := 17#32
  let v1943 : BitVec 1 := Scalar.cmpi .ne v2 c17_i32_1313
  let v1944 : BitVec 32 := Scalar.extui v1943
  let c0_i32_1314 : BitVec 32 := 0#32
  let v1945 : BitVec 1 := Scalar.cmpi .ne v1944 c0_i32_1314
  v1945

def k0_off467 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond467 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1315 : BitVec 32 := 18#32
  let v1946 : BitVec 1 := Scalar.cmpi .ne v2 c18_i32_1315
  let v1947 : BitVec 32 := Scalar.extui v1946
  let c0_i32_1316 : BitVec 32 := 0#32
  let v1948 : BitVec 1 := Scalar.cmpi .ne v1947 c0_i32_1316
  v1948

def k0_off468 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond468 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1317 : BitVec 32 := 19#32
  let v1949 : BitVec 1 := Scalar.cmpi .ne v2 c19_i32_1317
  let v1950 : BitVec 32 := Scalar.extui v1949
  let c0_i32_1318 : BitVec 32 := 0#32
  let v1951 : BitVec 1 := Scalar.cmpi .ne v1950 c0_i32_1318
  v1951

def k0_off469 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond469 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1319 : BitVec 32 := 20#32
  let v1952 : BitVec 1 := Scalar.cmpi .ne v2 c20_i32_1319
  let v1953 : BitVec 32 := Scalar.extui v1952
  let c0_i32_1320 : BitVec 32 := 0#32
  let v1954 : BitVec 1 := Scalar.cmpi .ne v1953 c0_i32_1320
  v1954

def k0_off470 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond470 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1321 : BitVec 32 := 21#32
  let v1955 : BitVec 1 := Scalar.cmpi .ne v2 c21_i32_1321
  let v1956 : BitVec 32 := Scalar.extui v1955
  let c0_i32_1322 : BitVec 32 := 0#32
  let v1957 : BitVec 1 := Scalar.cmpi .ne v1956 c0_i32_1322
  v1957

def k0_off471 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond471 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1323 : BitVec 32 := 22#32
  let v1958 : BitVec 1 := Scalar.cmpi .ne v2 c22_i32_1323
  let v1959 : BitVec 32 := Scalar.extui v1958
  let c0_i32_1324 : BitVec 32 := 0#32
  let v1960 : BitVec 1 := Scalar.cmpi .ne v1959 c0_i32_1324
  v1960

def k0_off472 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond472 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1325 : BitVec 32 := 23#32
  let v1961 : BitVec 1 := Scalar.cmpi .ne v2 c23_i32_1325
  let v1962 : BitVec 32 := Scalar.extui v1961
  let c0_i32_1326 : BitVec 32 := 0#32
  let v1963 : BitVec 1 := Scalar.cmpi .ne v1962 c0_i32_1326
  v1963

def k0_off473 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond473 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1327 : BitVec 32 := 24#32
  let v1964 : BitVec 1 := Scalar.cmpi .ne v2 c24_i32_1327
  let v1965 : BitVec 32 := Scalar.extui v1964
  let c0_i32_1328 : BitVec 32 := 0#32
  let v1966 : BitVec 1 := Scalar.cmpi .ne v1965 c0_i32_1328
  v1966

def k0_off474 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond474 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1329 : BitVec 32 := 25#32
  let v1967 : BitVec 1 := Scalar.cmpi .ne v2 c25_i32_1329
  let v1968 : BitVec 32 := Scalar.extui v1967
  let c0_i32_1330 : BitVec 32 := 0#32
  let v1969 : BitVec 1 := Scalar.cmpi .ne v1968 c0_i32_1330
  v1969

def k0_off475 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond475 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1331 : BitVec 32 := 26#32
  let v1970 : BitVec 1 := Scalar.cmpi .ne v2 c26_i32_1331
  let v1971 : BitVec 32 := Scalar.extui v1970
  let c0_i32_1332 : BitVec 32 := 0#32
  let v1972 : BitVec 1 := Scalar.cmpi .ne v1971 c0_i32_1332
  v1972

def k0_off476 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond476 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1333 : BitVec 32 := 27#32
  let v1973 : BitVec 1 := Scalar.cmpi .ne v2 c27_i32_1333
  let v1974 : BitVec 32 := Scalar.extui v1973
  let c0_i32_1334 : BitVec 32 := 0#32
  let v1975 : BitVec 1 := Scalar.cmpi .ne v1974 c0_i32_1334
  v1975

def k0_off477 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond477 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1335 : BitVec 32 := 28#32
  let v1976 : BitVec 1 := Scalar.cmpi .ne v2 c28_i32_1335
  let v1977 : BitVec 32 := Scalar.extui v1976
  let c0_i32_1336 : BitVec 32 := 0#32
  let v1978 : BitVec 1 := Scalar.cmpi .ne v1977 c0_i32_1336
  v1978

def k0_off478 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond478 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1337 : BitVec 32 := 29#32
  let v1979 : BitVec 1 := Scalar.cmpi .ne v2 c29_i32_1337
  let v1980 : BitVec 32 := Scalar.extui v1979
  let c0_i32_1338 : BitVec 32 := 0#32
  let v1981 : BitVec 1 := Scalar.cmpi .ne v1980 c0_i32_1338
  v1981

def k0_off479 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond479 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1339 : BitVec 32 := 30#32
  let v1982 : BitVec 1 := Scalar.cmpi .ne v2 c30_i32_1339
  let v1983 : BitVec 32 := Scalar.extui v1982
  let c0_i32_1340 : BitVec 32 := 0#32
  let v1984 : BitVec 1 := Scalar.cmpi .ne v1983 c0_i32_1340
  v1984

def k0_off480 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
def k0_cond480 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1341 : BitVec 32 := 31#32
  let v1985 : BitVec 1 := Scalar.cmpi .ne v2 c31_i32_1341
  let v1986 : BitVec 32 := Scalar.extui v1985
  let c0_i32_1342 : BitVec 32 := 0#32
  let v1987 : BitVec 1 := Scalar.cmpi .ne v1986 c0_i32_1342
  v1987

def k0_off481 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1355 : BitVec 32 := 0#32
  let c0_i32_1356 : BitVec 32 := 0#32
  ![v2.toNat, 0, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x16384, .bf16⟩
  | .hbm, ⟨2, _⟩ => ⟨S16384x256, .bf16⟩
  | .hbm, ⟨3, _⟩ => ⟨S256x16384, .bf16⟩
  | .hbm, ⟨4, _⟩ => ⟨S16384x256, .bf16⟩
  | .hbm, ⟨5, _⟩ => ⟨S256x16384, .bf16⟩
  | .hbm, ⟨6, _⟩ => ⟨S16384x256, .bf16⟩
  | .hbm, ⟨7, _⟩ => ⟨S256x256, .f32⟩
  | .hbm, ⟨8, _⟩ => ⟨S256x16384, .f32⟩
  | .hbm, ⟨9, _⟩ => ⟨S256x16384, .f32⟩
  | .hbm, ⟨10, _⟩ => ⟨S256x16384, .bf16⟩
  | .hbm, ⟨11, _⟩ => ⟨S_, .bf16⟩
  | .hbm, ⟨12, _⟩ => ⟨S256x16384, .bf16⟩
  | .hbm, ⟨13, _⟩ => ⟨S256x16384, .bf16⟩
  | .hbm, ⟨14, _⟩ => ⟨S256x16384, .f32⟩
  | .hbm, ⟨15, _⟩ => ⟨S16384x256, .f32⟩
  | .hbm, ⟨16, _⟩ => ⟨S256x256, .f32⟩
  | .hbm, ⟨17, _⟩ => ⟨S256x256, .bf16⟩
  | .hbm, ⟨18, _⟩ => ⟨S256x256, .f32⟩
  | .hbm, ⟨19, _⟩ => ⟨S256x16384, .f32⟩
  | .hbm, ⟨20, _⟩ => ⟨S256x16384, .f32⟩
  | .hbm, ⟨21, _⟩ => ⟨S256x16384, .bf16⟩
  | .hbm, ⟨22, _⟩ => ⟨S_, .bf16⟩
  | .hbm, ⟨23, _⟩ => ⟨S256x16384, .bf16⟩
  | .hbm, ⟨24, _⟩ => ⟨S256x16384, .bf16⟩
  | .hbm, ⟨25, _⟩ => ⟨S256x16384, .f32⟩
  | .hbm, ⟨26, _⟩ => ⟨S16384x256, .f32⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x16384, .f32⟩
  | .hbm, ⟨31, _⟩ => ⟨S256x16384, .f32⟩
  | .hbm, ⟨32, _⟩ => ⟨S256x16384, .bf16⟩
  | .hbm, ⟨33, _⟩ => ⟨S_, .bf16⟩
  | .hbm, ⟨34, _⟩ => ⟨S256x16384, .bf16⟩
  | .hbm, ⟨35, _⟩ => ⟨S256x16384, .bf16⟩
  | .hbm, ⟨36, _⟩ => ⟨S256x16384, .f32⟩
  | .hbm, ⟨37, _⟩ => ⟨S16384x256, .f32⟩
  | .hbm, ⟨38, _⟩ => ⟨S256x256, .f32⟩
  | .hbm, ⟨39, _⟩ => ⟨S256x256, .bf16⟩
  | .hbm, ⟨40, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Steps.lean ====
/-
The kernel body as loops over the peers: the programs one step of each loop runs, and the loops.

The printed body is unrolled: every `for s in range(lo, hi)` of the kernel appears as its steps, one
after the other. Here each kind of step is written once, as a program of the device `c` and the peer
`s`, in continuation form (the program that runs the step and then `k`); `each l step k` runs the step
for every peer of the list `l`, in order, and then `k`.
-/
module

public import proofs.«01_k».proof.Proof.Gen.KernelIdeal
public import proofs.«01_k».proof.Proof.Gen.KernelIdeal.Skeleton

@[expose] public section

set_option synthInstance.maxSize 4096

noncomputable section

namespace Cert.Exchange

open Cert.KernelIdeal Cert.KernelIdeal.Gen
open Idealize.ShloMosaic Idealize.SL.Sem

variable {F : FTy → Type} [FloatOps F]

/-- A program of one TensorCore of the kernel's signature. -/
abbrev TcProg (F : FTy → Type) [FloatOps F] (α : Type) : Type 1 := Prog (TpuEff nD τ sig (Elt F) Λ₀ .tc) α

/-! ## The buffers and semaphores -/

/-- This device's partial products, one slot per destination device. -/
abbrev partM : Memref sig .tc .vmem S32x8x256 .bf16 := Memref.whole cc0_scratch0
/-- The reduced chunk this device sends in the gather. -/
abbrev redM : Memref sig .tc .vmem S8x256 .bf16 := Memref.whole cc0_scratch1
/-- Where the chunks of the reduce-scatter land, one slot per sender. -/
abbrev rsM : Memref sig .tc .vmem S32x8x256 .bf16 := Memref.whole cc0_scratch2
/-- Where the reduced chunks of the gather land, one slot per sender. -/
abbrev agM : Memref sig .tc .vmem S32x8x256 .bf16 := Memref.whole cc0_scratch3
/-- The semaphores of the scatter's copies at their source, of the gather's at their source, of the
    scatter's at their destination, of the gather's at their destination. -/
abbrev rsSndA : DmaSems sig S32 := cc0_scratch4
/-- The semaphores for the gather's departures. -/
abbrev agSndA : DmaSems sig S32 := cc0_scratch5
/-- The semaphores for the scatter's arrivals. -/
abbrev rsRcvA : DmaSems sig S32 := cc0_scratch6
/-- The semaphores for the gather's arrivals. -/
abbrev agRcvA : DmaSems sig S32 := cc0_scratch7
/-- The launch has an entry barrier. -/
theorem barOk : (sig.barrierSem 0).isSome = true := rfl
/-- The entry barrier. -/
abbrev barA : Sems sig S_ := SemArray.scalar (sig.barrier 0 barOk)
/-- The barrier's semaphore. -/
abbrev barS : Sem sig := barA.sem

/-- The staging buffers: the activations, the six weight shards, the result. -/
abbrev xM : Memref sig .tc .vmem S256x256 .bf16 := Memref.whole cc0_stg0_0
/-- The first layer's inner weights, staged. -/
abbrev win0M : Memref sig .tc .vmem S256x512 .bf16 := Memref.whole cc0_stg1_0
/-- The first layer's outer weights, staged. -/
abbrev wout0M : Memref sig .tc .vmem S512x256 .bf16 := Memref.whole cc0_stg2_0
/-- The second layer's inner weights, staged. -/
abbrev win1M : Memref sig .tc .vmem S256x512 .bf16 := Memref.whole cc0_stg3_0
/-- The second layer's outer weights, staged. -/
abbrev wout1M : Memref sig .tc .vmem S512x256 .bf16 := Memref.whole cc0_stg4_0
/-- The third layer's inner weights, staged. -/
abbrev win2M : Memref sig .tc .vmem S256x512 .bf16 := Memref.whole cc0_stg5_0
/-- The third layer's outer weights, staged. -/
abbrev wout2M : Memref sig .tc .vmem S512x256 .bf16 := Memref.whole cc0_stg6_0
/-- The output, staged. -/
abbrev outM : Memref sig .tc .vmem S8x256 .f32 := Memref.whole cc0_stg7_0

/-! ## Slots of an array of 32 -/

/-- The eight rows of a `32x8x256` buffer at offset `o`. -/
def rowAt (M : Memref sig .tc .vmem S32x8x256 .bf16) (o : Fin 3 → Nat) (h : ∀ a, o a + S1x8x256.size a ≤ S32x8x256.size a) : Memref sig .tc .vmem S8x256 .bf16 :=
  (M.slice (Rect.unit (s := S32x8x256) o S1x8x256.size h) (fun _ => rfl)).squeeze S8x256 squeezes_S1x8x256_S8x256
/-- The semaphore of an array of 32 at offset `o`. -/
def semAt (A : DmaSems sig S32) (o : Fin 1 → Nat) (h : ∀ a, o a + S1.size a ≤ S32.size a) : DmaSem sig :=
  ((A.slice (Rect.unit (s := S32) o S1.size h)).squeeze S_ squeezes_S1_S_).sem

/-- The word the kernel computes for its own place on the axis. -/
def myWord (c : Dev nD) : BitVec 32 := Scalar.remsi (Scalar.divsi (Dev.word c) 1#32) 32#32
/-- The device word the kernel computes for the peer `s`. -/
def peerWord (s : Fin 32) : BitVec 32 := Scalar.addi 0#32 (Scalar.muli (BitVec.ofNat 32 s.val) 1#32)
/-- The condition under which the kernel runs a step for the peer `s`. -/
def isPeer (c : Dev nD) (s : Fin 32) : BitVec 1 :=
  Scalar.cmpi .ne (Scalar.extui (Scalar.cmpi .ne (myWord c) (BitVec.ofNat 32 s.val)) : BitVec 32) 0#32
/-- The device word the kernel computes for the device `k` places on. -/
def onWord (c : Dev nD) (k : Fin 32) : BitVec 32 :=
  let n : BitVec 32 := Scalar.select (Scalar.cmpi .eq 32#32 0#32) 1#32 32#32
  let r : BitVec 32 := Scalar.remsi (Scalar.addi (myWord c) (BitVec.ofNat 32 k.val)) n
  Scalar.addi 0#32 (Scalar.muli (Scalar.select (Scalar.andi (Scalar.xori (Scalar.cmpi .slt r 0#32) (Scalar.cmpi .slt n 0#32)) (Scalar.cmpi .ne r 0#32)) (Scalar.addi r n) r) 1#32)

/-- The word the kernel computes for its own place is the device's number. -/
theorem myWord_toNat : ∀ c : Dev nD, (myWord c).toNat = c.val := by decide +kernel
/-- The device word of the peer `s` is `s`. -/
theorem peerWord_toNat : ∀ s : Fin 32, (peerWord s).toNat = s.val := by decide +kernel
/-- The condition before a step holds exactly for the other devices. -/
theorem isPeer_iff : ∀ (c : Dev nD) (s : Fin 32), isPeer c s = 1#1 ↔ s.val ≠ c.val := by decide +kernel
/-- The device word `k` places on is the sum modulo 32. -/
theorem onWord_toNat : ∀ (c : Dev nD) (k : Fin 32), (onWord c k).toNat = (c.val + k.val) % 32 := by decide +kernel

/-- A peer word names a device. -/
theorem peerWord_lt (s : Fin 32) : (peerWord s).toNat < nD := by rw [peerWord_toNat]; exact s.isLt
/-- So does the word `k` places on. -/
theorem onWord_lt (c : Dev nD) (k : Fin 32) : (onWord c k).toNat < nD := by rw [onWord_toNat]; exact Nat.mod_lt _ (by decide)

/-- The offset of slot `n`, of an array of buffers and of an array of semaphores. -/
abbrev rowOff (n : Nat) : Fin 3 → Nat := ![n, 0, 0]
/-- The offset of one semaphore in its family. -/
abbrev semOff (n : Nat) : Fin 1 → Nat := ![n]
/-- Slot `s` lies inside the buffer. -/
theorem rowIn : ∀ s : Fin 32, ∀ a, rowOff s.val a + S1x8x256.size a ≤ S32x8x256.size a := by decide +kernel
/-- Semaphore `s` lies inside the array. -/
theorem semIn : ∀ s : Fin 32, ∀ a, semOff s.val a + S1.size a ≤ S32.size a := by decide +kernel
/-- The device's own slot lies inside the buffer. -/
theorem myRowIn : ∀ c : Dev nD, ∀ a, rowOff (myWord c).toNat a + S1x8x256.size a ≤ S32x8x256.size a := by decide +kernel
/-- The device's own semaphore lies inside the array. -/
theorem mySemIn : ∀ c : Dev nD, ∀ a, semOff (myWord c).toNat a + S1.size a ≤ S32.size a := by decide +kernel

/-- A slot on whole words is a view a copy may use. -/
theorem rowAt_wordExact {M : Memref sig .tc .vmem S32x8x256 .bf16} (hM : M.IsWhole) {o : Fin 3 → Nat} {h}
    (hw : (Rect.unit (s := S32x8x256) o S1x8x256.size h).WholeWords (EltTy.packing .bf16)) : (rowAt M o h).view.WordExact :=
  (hM.wordExact_slice rfl _ hw).reshape _ _
/-- Slot `s` is made of whole words. -/
theorem rowWords : ∀ s : Fin 32, (Rect.unit (s := S32x8x256) (rowOff s.val) S1x8x256.size (rowIn s)).WholeWords (EltTy.packing .bf16) := by decide +kernel
/-- So is the device's own slot. -/
theorem myRowWords : ∀ c : Dev nD, (Rect.unit (s := S32x8x256) (rowOff (myWord c).toNat) S1x8x256.size (myRowIn c)).WholeWords (EltTy.packing .bf16) := by decide +kernel

/-! ## Steps and loops, in continuation form -/

/-- Run the effect `e` if `b`, then `k`. -/
def guarded {α : Type} (b : BitVec 1) (e : TpuEff nD τ sig (Elt F) Λ₀ .tc PUnit) (k : TcProg F α) : TcProg F α :=
  if h : b = 1#1 then .op e (fun _ => k) else k

/-- Run the step for each peer of the list, in order, then `k`. -/
def each {α : Type} : List (Fin 32) → (Fin 32 → TpuEff nD τ sig (Elt F) Λ₀ .tc PUnit) → Dev nD → TcProg F α → TcProg F α
  | [], _, _, k => k
  | s :: l, e, c, k => guarded (isPeer c s) (e s) (each l e c k)

/-- Signal the barrier of the device `j` places on, for each `j` of the list, then `k`. -/
def signals {α : Type} (c : Dev nD) : List (Fin 32) → TcProg F α → TcProg F α
  | [], k => k
  | j :: l, k => .op (.semSignal ((⟨(onWord c j).toNat, onWord_lt c j⟩ : Dev nD), .tc) barS (1#32 : BitVec 32).toInt) (fun _ => signals c l k)

/-- Send slot `s` of the partial products to device `s`, into its slot `c`. -/
def rsSend (c : Dev nD) (s : Fin 32) : TpuEff nD τ sig (Elt F) Λ₀ .tc PUnit :=
  .enqueueDma (rowAt partM (rowOff s.val) (rowIn s))
    (.remote (Dev.tc (⟨(peerWord s).toNat, peerWord_lt s⟩ : Dev nD)) (rowAt rsM (rowOff (myWord c).toNat) (myRowIn c)) (.dma (semAt rsSndA (semOff s.val) (semIn s))))
    (.dma (semAt rsRcvA (semOff (myWord c).toNat) (mySemIn c)))
    (rowAt_wordExact (Memref.isWhole_whole _) (rowWords s)) (rowAt_wordExact (Memref.isWhole_whole _) (myRowWords c)) ⟨⟨rfl, Or.inl rfl⟩, trivial⟩

/-- Wait for the chunk of device `s` to land in slot `s`. -/
def rsRecv (s : Fin 32) : TpuEff nD τ sig (Elt F) Λ₀ .tc PUnit :=
  .waitDma2 (semAt rsRcvA (semOff s.val) (semIn s)) (rowAt rsM (rowOff s.val) (rowIn s)) (rowAt rsM (rowOff s.val) (rowIn s))
    (rowAt_wordExact (Memref.isWhole_whole _) (rowWords s)) (rowAt_wordExact (Memref.isWhole_whole _) (rowWords s))

/-- Wait for the copy of slot `s` to device `s` to have been read. -/
def rsSent (c : Dev nD) (s : Fin 32) : TpuEff nD τ sig (Elt F) Λ₀ .tc PUnit :=
  .waitDma2 (semAt rsSndA (semOff s.val) (semIn s)) (rowAt rsM (rowOff (myWord c).toNat) (myRowIn c)) (rowAt partM (rowOff s.val) (rowIn s))
    (rowAt_wordExact (Memref.isWhole_whole _) (myRowWords c)) (rowAt_wordExact (Memref.isWhole_whole _) (rowWords s))

/-- Send the reduced chunk to device `s`, into its slot `c`. -/
def agSend (c : Dev nD) (s : Fin 32) : TpuEff nD τ sig (Elt F) Λ₀ .tc PUnit :=
  .enqueueDma redM
    (.remote (Dev.tc (⟨(peerWord s).toNat, peerWord_lt s⟩ : Dev nD)) (rowAt agM (rowOff (myWord c).toNat) (myRowIn c)) (.dma (semAt agSndA (semOff s.val) (semIn s))))
    (.dma (semAt agRcvA (semOff (myWord c).toNat) (mySemIn c)))
    (Memref.isWhole_whole _).wordExact (rowAt_wordExact (Memref.isWhole_whole _) (myRowWords c)) ⟨⟨rfl, Or.inl rfl⟩, trivial⟩

/-- Wait for the reduced chunk of device `s` to land in slot `s`. -/
def agRecv (s : Fin 32) : TpuEff nD τ sig (Elt F) Λ₀ .tc PUnit :=
  .waitDma2 (semAt agRcvA (semOff s.val) (semIn s)) (rowAt agM (rowOff s.val) (rowIn s)) (rowAt agM (rowOff s.val) (rowIn s))
    (rowAt_wordExact (Memref.isWhole_whole _) (rowWords s)) (rowAt_wordExact (Memref.isWhole_whole _) (rowWords s))

/-- Wait for the copy of the reduced chunk to device `s` to have been read. -/
def agSent (c : Dev nD) (s : Fin 32) : TpuEff nD τ sig (Elt F) Λ₀ .tc PUnit :=
  .waitDma2 (semAt agSndA (semOff s.val) (semIn s)) (rowAt agM (rowOff (myWord c).toNat) (myRowIn c)) redM
    (rowAt_wordExact (Memref.isWhole_whole _) (myRowWords c)) (Memref.isWhole_whole _).wordExact

/-! ## The straight-line pieces -/

/-- All of the input. -/
abbrev xR : Rect S256x256 := Rect.unit (s := S256x256) ![0, 0] S256x256.size inb_S256x256_S256x256_0_0
/-- All of a layer's inner weights. -/
abbrev winR : Rect S256x512 := Rect.unit (s := S256x512) ![0, 0] S256x512.size inb_S256x512_S256x512_0_0
/-- All of a layer's outer weights. -/
abbrev woutR : Rect S512x256 := Rect.unit (s := S512x256) ![0, 0] S512x256.size inb_S512x256_S512x256_0_0
/-- The lower sixteen slots of a buffer. -/
abbrev loR : Rect S32x8x256 := Rect.unit (s := S32x8x256) ![0, 0, 0] S16x8x256.size inb_S32x8x256_S16x8x256_0_0_0
/-- The upper sixteen slots of a buffer. -/
abbrev hiR : Rect S32x8x256 := Rect.unit (s := S32x8x256) ![16, 0, 0] S16x8x256.size inb_S32x8x256_S16x8x256_16_0_0
/-- All the slots of a buffer. -/
abbrev allR : Rect S32x8x256 := Rect.unit (s := S32x8x256) ![0, 0, 0] S32x8x256.size inb_S32x8x256_S32x8x256_0_0_0
/-- All of a block of eight rows. -/
abbrev chR : Rect S8x256 := Rect.unit (s := S8x256) ![0, 0] S8x256.size inb_S8x256_S8x256_0_0
/-- The kernel's own slot, at the word it computes for itself. -/
abbrev ownR (c : Dev nD) : Rect S32x8x256 := Rect.unit (s := S32x8x256) (rowOff (myWord c).toNat) S1x8x256.size (myRowIn c)

/-- The device's own slot is made of whole packed rows. -/
theorem ownPacked : ∀ c : Dev nD, (ownR c).PackedRows (EltTy.packing .bf16) := by decide +kernel

/-- The effect that stores `v` at the first half of the partial products; -/
def storeLo (v : FVec F S16x8x256 .bf16) : TpuEff nD τ sig (Elt F) Λ₀ .tc PUnit :=
  .store partM loR v Finset.univ (View.stores_vmem h_S16x8x256 ((Memref.isWhole_whole _).storeExact_slice rfl _ packedbf16_S32x8x256_S16x8x256_0_0_0) (fun _ => rfl)) (.inl rfl)
/-- at the second half; -/
def storeHi (v : FVec F S16x8x256 .bf16) : TpuEff nD τ sig (Elt F) Λ₀ .tc PUnit :=
  .store partM hiR v Finset.univ (View.stores_vmem h_S16x8x256 ((Memref.isWhole_whole _).storeExact_slice rfl _ packedbf16_S32x8x256_S16x8x256_16_0_0) (fun _ => rfl)) (.inl rfl)
/-- at the device's own slot of the scatter's landing buffer; -/
def storeOwnRs (c : Dev nD) (v : FVec F S1x8x256 .bf16) : TpuEff nD τ sig (Elt F) Λ₀ .tc PUnit :=
  .store rsM (ownR c) v Finset.univ (View.stores_vmem h_S1x8x256 ((Memref.isWhole_whole _).storeExact_slice rfl _ (ownPacked c)) (fun _ => rfl)) (.inl rfl)
/-- at the device's own slot of the gather's landing buffer; -/
def storeOwnAg (c : Dev nD) (v : FVec F S1x8x256 .bf16) : TpuEff nD τ sig (Elt F) Λ₀ .tc PUnit :=
  .store agM (ownR c) v Finset.univ (View.stores_vmem h_S1x8x256 ((Memref.isWhole_whole _).storeExact_slice rfl _ (ownPacked c)) (fun _ => rfl)) (.inl rfl)
/-- at the reduced chunk; -/
def storeRed (v : FVec F S8x256 .bf16) : TpuEff nD τ sig (Elt F) Λ₀ .tc PUnit :=
  .store redM chR v Finset.univ (View.stores_vmem h_S8x256 ((Memref.isWhole_whole _).storeExact_slice rfl _ packedbf16_S8x256_S8x256_0_0) (fun _ => rfl)) (.inl rfl)
/-- at the result. -/
def storeOut (v : FVec F S8x256 .f32) : TpuEff nD τ sig (Elt F) Λ₀ .tc PUnit :=
  .store outM chR v Finset.univ (View.stores_vmem_bits_univ h_S8x256 rfl) (.inl rfl)

/-- Load the input. -/
def loadX : TpuEff nD τ sig (Elt F) Λ₀ .tc (Vec F S256x256 .bf16) := .load xM xR.toLoadRect (View.loadsAt_vmem h_S256x256)
/-- Load a layer's inner weights. -/
def loadWin (M : Memref sig .tc .vmem S256x512 .bf16) : TpuEff nD τ sig (Elt F) Λ₀ .tc (Vec F S256x512 .bf16) := .load M winR.toLoadRect (View.loadsAt_vmem h_S256x512)
/-- Load a layer's outer weights. -/
def loadWout (M : Memref sig .tc .vmem S512x256 .bf16) : TpuEff nD τ sig (Elt F) Λ₀ .tc (Vec F S512x256 .bf16) := .load M woutR.toLoadRect (View.loadsAt_vmem h_S512x256)
/-- Load the lower half of a buffer. -/
def loadLo (M : Memref sig .tc .vmem S32x8x256 .bf16) : TpuEff nD τ sig (Elt F) Λ₀ .tc (Vec F S16x8x256 .bf16) := .load M loR.toLoadRect (View.loadsAt_vmem h_S16x8x256)
/-- Load the upper half of a buffer. -/
def loadHi (M : Memref sig .tc .vmem S32x8x256 .bf16) : TpuEff nD τ sig (Elt F) Λ₀ .tc (Vec F S16x8x256 .bf16) := .load M hiR.toLoadRect (View.loadsAt_vmem h_S16x8x256)
/-- Load all the slots of a buffer. -/
def loadAll (M : Memref sig .tc .vmem S32x8x256 .bf16) : TpuEff nD τ sig (Elt F) Λ₀ .tc (Vec F S32x8x256 .bf16) := .load M allR.toLoadRect (View.loadsAt_vmem h_S32x8x256)
/-- Load the device's own slot of a buffer. -/
def loadOwn (c : Dev nD) (M : Memref sig .tc .vmem S32x8x256 .bf16) : TpuEff nD τ sig (Elt F) Λ₀ .tc (Vec F S1x8x256 .bf16) := .load M (ownR c).toLoadRect (View.loadsAt_vmem h_S1x8x256)
/-- Load the reduced block. -/
def loadRed : TpuEff nD τ sig (Elt F) Λ₀ .tc (Vec F S8x256 .bf16) := .load redM chR.toLoadRect (View.loadsAt_vmem h_S8x256)
/-- Load the output. -/
def loadOut : TpuEff nD τ sig (Elt F) Λ₀ .tc (Vec F S8x256 .f32) := .load outM chR.toLoadRect (View.loadsAt_vmem h_S8x256)

/-- Wait for the 31 signals of the peers. -/
def barWait : TpuEff nD τ sig (Elt F) Λ₀ .tc PUnit := .semWait barS (31#32 : BitVec 32).toInt

section Pieces
variable {α : Type}

/-- The first layer's partial product of the first half of the rows, stored when `k` runs. -/
def firstLo (k : Vec F S256x256 .bf16 → FVec F S16x8x256 .bf16 → TcProg F α) : TcProg F α :=
  .op loadX fun x => .op (loadWin win0M) fun w => .op (loadWout wout0M) fun o => .op (loadLo partM) fun _ => k x (k0_pay3 x w o)
/-- The first layer's partial product of the second half of the rows. -/
def firstHi (x : Vec F S256x256 .bf16) (k : TcProg F α) : TcProg F α :=
  .op (loadWin win0M) fun w => .op (loadWout wout0M) fun o => .op (loadHi partM) fun _ =>
    .op (storeHi (k0_pay5 (k0_pay4 (k0_pay2 x) w o))) fun _ => k
/-- The device's own chunk of its partial products, into its own slot. -/
def ownCopy (c : Dev nD) (k : TcProg F α) : TcProg F α :=
  .op (loadOwn c partM) fun v => .op (loadOwn c rsM) fun _ => .op (storeOwnRs c (k0_pay6 v)) fun _ => k
/-- The sum of the 32 chunks, kept in the reduced chunk and in the device's own slot of the gather. -/
def shareSum (c : Dev nD) (k : TcProg F α) : TcProg F α :=
  .op (loadAll rsM) fun v => .op loadRed fun _ => .op (storeRed (k0_pay7 v)) fun _ =>
    .op loadRed fun r => .op (loadOwn c agM) fun _ => .op (storeOwnAg c (k0_pay8 r)) fun _ => k
/-- A later layer's partial product of the first half of the rows; of the second half. -/
def layerLo (Win : Memref sig .tc .vmem S256x512 .bf16) (Wout : Memref sig .tc .vmem S512x256 .bf16) (k : TcProg F α) : TcProg F α :=
  .op (loadLo agM) fun a => .op (loadWin Win) fun w => .op (loadWout Wout) fun o => .op (loadLo partM) fun _ => .op (storeLo (k0_pay9 a w o)) fun _ => k
/-- The product of a later layer for the upper half of the slots. -/
def layerHi (Win : Memref sig .tc .vmem S256x512 .bf16) (Wout : Memref sig .tc .vmem S512x256 .bf16) (k : TcProg F α) : TcProg F α :=
  .op (loadHi agM) fun a => .op (loadWin Win) fun w => .op (loadWout Wout) fun o => .op (loadHi partM) fun _ => .op (storeHi (k0_pay10 a w o)) fun _ => k

end Pieces

/-- `n` peers from `lo` on. -/
def span : Nat → Nat → List (Fin 32)
  | _, 0 => []
  | lo, n + 1 => Fin.ofNat 32 lo :: span (lo + 1) n

/-- The whole signature of a printed part at the buffers of the launch. -/
abbrev PartOf (X : Type 1) : Type 1 :=
  (arg0 : Memref sig .tc .vmem S256x256 .bf16) → arg0.IsWhole → (arg1 : Memref sig .tc .vmem S256x512 .bf16) → arg1.IsWhole → (arg2 : Memref sig .tc .vmem S512x256 .bf16) → arg2.IsWhole →
  (arg3 : Memref sig .tc .vmem S256x512 .bf16) → arg3.IsWhole → (arg4 : Memref sig .tc .vmem S512x256 .bf16) → arg4.IsWhole → (arg5 : Memref sig .tc .vmem S256x512 .bf16) → arg5.IsWhole →
  (arg6 : Memref sig .tc .vmem S512x256 .bf16) → arg6.IsWhole → (arg7 : Memref sig .tc .vmem S8x256 .f32) → arg7.IsWhole → (arg8 : Memref sig .tc .vmem S32x8x256 .bf16) → arg8.IsWhole →
  (arg9 : Memref sig .tc .vmem S8x256 .bf16) → arg9.IsWhole → (arg10 : Memref sig .tc .vmem S32x8x256 .bf16) → arg10.IsWhole → (arg11 : Memref sig .tc .vmem S32x8x256 .bf16) → arg11.IsWhole →
  DmaSems sig S32 → DmaSems sig S32 → DmaSems sig S32 → DmaSems sig S32 → X

/-- A printed part applied to the buffers of the launch. -/
abbrev here {X : Type 1} (f : PartOf X) : X :=
  f xM (Memref.isWhole_whole _) win0M (Memref.isWhole_whole _) wout0M (Memref.isWhole_whole _) win1M (Memref.isWhole_whole _) wout1M (Memref.isWhole_whole _)
    win2M (Memref.isWhole_whole _) wout2M (Memref.isWhole_whole _) outM (Memref.isWhole_whole _) partM (Memref.isWhole_whole _) redM (Memref.isWhole_whole _)
    rsM (Memref.isWhole_whole _) agM (Memref.isWhole_whole _) rsSndA agSndA rsRcvA agRcvA

end Cert.Exchange
-- ==== Proof.Loops.lean ====
/-
How a printed part is recognised as a loop: one printed step is one step of `each`.
-/
module

public import proofs.«01_k».proof.Proof.Steps

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

variable {α : Type}

/-- A printed step for the peer `lo`, at the head of a loop from `lo` on. -/
theorem each_step {b : BitVec 1} {c : Dev nD} {lo n : ℕ} {e : Fin 32 → TpuEff nD τ sig (Elt F) Λ₀ .tc PUnit} {T : b = 1#1 → TcProg F α} {J k : TcProg F α}
    (hb : b = isPeer c (Fin.ofNat 32 lo)) (hT : ∀ h, T h = .op (e (Fin.ofNat 32 lo)) (fun _ => J)) (hJ : J = each (span (lo + 1) n) e c k) :
    (if h : b = 1#1 then T h else J) = each (span lo (n + 1)) e c k := by
  subst hb
  subst hJ
  change _ = guarded _ _ _
  unfold guarded
  split
  · exact hT _
  · rfl

/-- The end of a loop. -/
theorem each_done {c : Dev nD} {lo : ℕ} {e : Fin 32 → TpuEff nD τ sig (Elt F) Λ₀ .tc PUnit} {J k : TcProg F α}
    (hJ : J = k) : J = each (span lo 0) e c k := hJ

/-- One effect outside a loop. -/
theorem op_step {X : Type} {e : TpuEff nD τ sig (Elt F) Λ₀ .tc X} {k k' : X → TcProg F α} (h : ∀ x, k x = k' x) :
    (Prog.op e k : TcProg F α) = Prog.op e k' := congrArg _ (funext h)

/-- A loop followed by more of the program is the loop with more to follow. -/
theorem each_bind {β : Type} (l : List (Fin 32)) (e : Fin 32 → TpuEff nD τ sig (Elt F) Λ₀ .tc PUnit) (c : Dev nD) (k : TcProg F α) (g : α → TcProg F β) :
    (each l e c k).bind g = each l e c (k.bind g) := by
  induction l with
  | nil => rfl
  | cons s l ih =>
    change (guarded _ _ _).bind g = guarded _ _ _
    unfold guarded
    split
    · exact congrArg _ (funext fun _ => ih)
    · exact ih

/-- The same for the run of signals. -/
theorem signals_bind {β : Type} (c : Dev nD) (l : List (Fin 32)) (k : TcProg F α) (g : α → TcProg F β) :
    (signals c l k).bind g = signals c l (k.bind g) := by
  induction l with
  | nil => rfl
  | cons s l ih => exact congrArg _ (funext fun _ => ih)

/-- Two loops in a row over neighbouring runs of peers are one. -/
theorem each_each {c : Dev nD} {e : Fin 32 → TpuEff nD τ sig (Elt F) Λ₀ .tc PUnit} {k : TcProg F α} (lo n m : ℕ) {lo' : ℕ} (h : lo' = lo + n) :
    each (span lo n) e c (each (span lo' m) e c k) = each (span lo (n + m)) e c k := by
  subst h
  induction n generalizing lo with
  | zero => rw [Nat.zero_add]; rfl
  | succ n ih =>
    rw [show n + 1 + m = (n + m) + 1 by omega]
    change guarded _ _ _ = guarded _ _ _
    rw [show lo + (n + 1) = lo + 1 + n by omega, ih]

/-- The same for the run of signals. -/
theorem signals_signals {c : Dev nD} {k : TcProg F α} (lo n m : ℕ) {lo' : ℕ} (h : lo' = lo + n) :
    signals c (span lo n) (signals c (span lo' m) k) = signals c (span lo (n + m)) k := by
  subst h
  induction n generalizing lo with
  | zero => rw [Nat.zero_add]; rfl
  | succ n ih =>
    rw [show n + 1 + m = (n + m) + 1 by omega]
    refine congrArg _ (funext fun _ => ?_)
    rw [show lo + (n + 1) = lo + 1 + n by omega]
    exact ih (lo + 1)

end Cert.Exchange
-- ==== Proof.PartsA.lean ====
/-
The printed parts of the body as loops: each part, at the buffers of the launch, is the run of steps and
straight-line pieces named here, by definitional unfolding. Where a part ends inside a loop, so does
its equation; `Proof.Body` joins the pieces.
-/
module

public import proofs.«01_k».proof.Proof.Loops

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

/-! ## The signals, the first layer and its exchange -/

/-- Part 1 of the printed body, as the steps it is made of. -/
theorem part1_eq : ∃ a b d : Dev nD → _, here (k0_part1 (F := F)) = (.op .deviceId fun c => signals c (span 1 2) (.ret ⟨c, myWord c, barA, a c, b c, d c⟩)) := ⟨_, _, _, rfl⟩
/-- Part 2 of the printed body, as the steps it is made of. -/
theorem part2_eq (c : Dev nD) (v30 : BitVec 32) (c32_i32_18 : BitVec 32) (v31 : BitVec 1) :
    ∃ a b d, here (k0_part2 (F := F)) c (myWord c) barA v30 c32_i32_18 v31 = (signals c (span 3 2) <| .ret ⟨a, b, d⟩) := ⟨_, _, _, rfl⟩
/-- Part 3 of the printed body, as the steps it is made of. -/
theorem part3_eq (c : Dev nD) (v59 : BitVec 32) (v64 : BitVec 1) (v65 : BitVec 32) :
    ∃ a b d, here (k0_part3 (F := F)) c (myWord c) barA v59 v64 v65 = (signals c (span 5 3) <| .ret ⟨a, b, d⟩) := ⟨_, _, _, rfl⟩
/-- Part 4 of the printed body, as the steps it is made of. -/
theorem part4_eq (c : Dev nD) (v95 : BitVec 32) (c32_i32_63 : BitVec 32) (v96 : BitVec 1) :
    ∃ a b d, here (k0_part4 (F := F)) c (myWord c) barA v95 c32_i32_63 v96 = (signals c (span 8 2) <| .ret ⟨a, b, d⟩) := ⟨_, _, _, rfl⟩
/-- Part 5 of the printed body, as the steps it is made of. -/
theorem part5_eq (c : Dev nD) (v124 : BitVec 32) (v129 : BitVec 1) (v130 : BitVec 32) :
    ∃ a b d, here (k0_part5 (F := F)) c (myWord c) barA v124 v129 v130 = (signals c (span 10 3) <| .ret ⟨a, b, d⟩) := ⟨_, _, _, rfl⟩
/-- Part 6 of the printed body, as the steps it is made of. -/
theorem part6_eq (c : Dev nD) (v160 : BitVec 32) (c32_i32_108 : BitVec 32) (v161 : BitVec 1) :
    ∃ a b d, here (k0_part6 (F := F)) c (myWord c) barA v160 c32_i32_108 v161 = (signals c (span 13 2) <| .ret ⟨a, b, d⟩) := ⟨_, _, _, rfl⟩
/-- Part 7 of the printed body, as the steps it is made of. -/
theorem part7_eq (c : Dev nD) (v189 : BitVec 32) (v194 : BitVec 1) (v195 : BitVec 32) :
    ∃ a b d, here (k0_part7 (F := F)) c (myWord c) barA v189 v194 v195 = (signals c (span 15 3) <| .ret ⟨a, b, d⟩) := ⟨_, _, _, rfl⟩
/-- Part 8 of the printed body, as the steps it is made of. -/
theorem part8_eq (c : Dev nD) (v225 : BitVec 32) (c32_i32_153 : BitVec 32) (v226 : BitVec 1) :
    ∃ a b d, here (k0_part8 (F := F)) c (myWord c) barA v225 c32_i32_153 v226 = (signals c (span 18 2) <| .ret ⟨a, b, d⟩) := ⟨_, _, _, rfl⟩
/-- Part 9 of the printed body, as the steps it is made of. -/
theorem part9_eq (c : Dev nD) (v254 : BitVec 32) (v259 : BitVec 1) (v260 : BitVec 32) :
    ∃ a b d, here (k0_part9 (F := F)) c (myWord c) barA v254 v259 v260 = (signals c (span 20 3) <| .ret ⟨a, b, d⟩) := ⟨_, _, _, rfl⟩
/-- Part 10 of the printed body, as the steps it is made of. -/
theorem part10_eq (c : Dev nD) (v290 : BitVec 32) (c32_i32_198 : BitVec 32) (v291 : BitVec 1) :
    ∃ a b d, here (k0_part10 (F := F)) c (myWord c) barA v290 c32_i32_198 v291 = (signals c (span 23 2) <| .ret ⟨a, b, d⟩) := ⟨_, _, _, rfl⟩
/-- Part 11 of the printed body, as the steps it is made of. -/
theorem part11_eq (c : Dev nD) (v319 : BitVec 32) (v324 : BitVec 1) (v325 : BitVec 32) :
    ∃ a b d, here (k0_part11 (F := F)) c (myWord c) barA v319 v324 v325 = (signals c (span 25 3) <| .ret ⟨a, b, d⟩) := ⟨_, _, _, rfl⟩
/-- Part 12 of the printed body, as the steps it is made of. -/
theorem part12_eq (c : Dev nD) (v355 : BitVec 32) (c32_i32_243 : BitVec 32) (v356 : BitVec 1) :
    ∃ a b d, here (k0_part12 (F := F)) c (myWord c) barA v355 c32_i32_243 v356 = (signals c (span 28 2) <| .ret ⟨a, b, d⟩) := ⟨_, _, _, rfl⟩
/-- Part 13 of the printed body, as the steps it is made of. -/
theorem part13_eq (c : Dev nD) (v384 : BitVec 32) (v389 : BitVec 1) (v390 : BitVec 32) :
    here (k0_part13 (F := F)) c (myWord c) barA v384 v389 v390 = (signals c (span 30 2) <| firstLo fun x v => .ret ⟨k0_pay2 x, v⟩) := by
  iterate 2 refine op_step fun _ => ?_
  iterate 4 refine op_step fun _ => ?_
  rfl
/-- Part 14 of the printed body, as the steps it is made of. -/
theorem part14_eq (c : Dev nD) (v423 : FVec F S16x8x256 .bf16) :
    here (k0_part14 (F := F)) c (myWord c) barA v423 = (.op (storeLo v423) fun _ => .op barWait fun _ => each (span 0 9) (rsSend c) c <| .ret (Scalar.cmpi .ne (myWord c) 9#32)) := by
  iterate 1 refine op_step fun _ => ?_
  iterate 1 refine op_step fun _ => ?_
  iterate 9 refine each_step rfl (fun _ => rfl) ?_
  refine each_done ?_
  rfl
/-- Part 15 of the printed body, as the steps it is made of. -/
theorem part15_eq (c : Dev nD) (v408 : FVec F S256x256 .bf16) :
    here (k0_part15 (F := F)) c (myWord c) v408 (Scalar.cmpi .ne (myWord c) 9#32) = (each (span 9 7) (rsSend c) c <| .op (loadWin win0M) fun w => .op (loadWout wout0M) fun o => .ret (k0_pay4 v408 w o)) := by
  iterate 7 refine each_step rfl (fun _ => rfl) ?_
  refine each_done ?_
  iterate 2 refine op_step fun _ => ?_
  rfl
/-- Part 16 of the printed body, as the steps it is made of. -/
theorem part16_eq (c : Dev nD) (v483 : FVec F S16x8x256 .bf16) :
    here (k0_part16 (F := F)) c (myWord c) v483 = (.op (loadHi partM) fun _ => .op (storeHi (k0_pay5 v483)) fun _ => each (span 16 9) (rsSend c) c <| .ret ⟨⟩) := by
  iterate 2 refine op_step fun _ => ?_
  iterate 9 refine each_step rfl (fun _ => rfl) ?_
  refine each_done ?_
  rfl
/-- Part 17 of the printed body, as the steps it is made of. -/
theorem part17_eq (c : Dev nD) :
    here (k0_part17 (F := F)) c (myWord c) = (each (span 25 7) (rsSend c) c <| ownCopy c <| each (span 0 1) rsRecv c <| .ret ⟨⟩) := by
  iterate 7 refine each_step rfl (fun _ => rfl) ?_
  refine each_done ?_
  iterate 3 refine op_step fun _ => ?_
  iterate 1 refine each_step rfl (fun _ => rfl) ?_
  refine each_done ?_
  rfl
/-- Part 18 of the printed body, as the steps it is made of. -/
theorem part18_eq (c : Dev nD) :
    here (k0_part18 (F := F)) (myWord c) = (each (span 1 10) rsRecv c <| .ret ⟨⟩) := by
  iterate 10 refine each_step rfl (fun _ => rfl) ?_
  refine each_done ?_
  rfl
/-- Part 19 of the printed body, as the steps it is made of. -/
theorem part19_eq (c : Dev nD) :
    here (k0_part19 (F := F)) (myWord c) = (each (span 11 10) rsRecv c <| .ret ⟨⟩) := by
  iterate 10 refine each_step rfl (fun _ => rfl) ?_
  refine each_done ?_
  rfl
/-- Part 20 of the printed body, as the steps it is made of. -/
theorem part20_eq (c : Dev nD) :
    here (k0_part20 (F := F)) (myWord c) = (each (span 21 10) rsRecv c <| .ret ⟨⟩) := by
  iterate 10 refine each_step rfl (fun _ => rfl) ?_
  refine each_done ?_
  rfl

end Cert.Exchange
-- ==== Proof.PartsB.lean ====
/-
The printed parts of the body as loops: each part, at the buffers of the launch, is the run of steps and
straight-line pieces named here, by definitional unfolding. Where a part ends inside a loop, so does
its equation; `Proof.Body` joins the pieces.
-/
module

public import proofs.«01_k».proof.Proof.Loops

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

/-! ## The rest of the first exchange, and the second layer -/

/-- Part 21 of the printed body, as the steps it is made of. -/
theorem part21_eq (c : Dev nD) :
    here (k0_part21 (F := F)) c (myWord c) = (each (span 31 1) rsRecv c <| each (span 0 9) (rsSent c) c <| .ret ⟨⟩) := by
  iterate 1 refine each_step rfl (fun _ => rfl) ?_
  refine each_done ?_
  iterate 9 refine each_step rfl (fun _ => rfl) ?_
  refine each_done ?_
  rfl
/-- Part 22 of the printed body, as the steps it is made of. -/
theorem part22_eq (c : Dev nD) :
    here (k0_part22 (F := F)) c (myWord c) = (each (span 9 10) (rsSent c) c <| .ret ⟨⟩) := by
  iterate 10 refine each_step rfl (fun _ => rfl) ?_
  refine each_done ?_
  rfl
/-- Part 23 of the printed body, as the steps it is made of. -/
theorem part23_eq (c : Dev nD) :
    here (k0_part23 (F := F)) c (myWord c) = (each (span 19 10) (rsSent c) c <| .ret ⟨⟩) := by
  iterate 10 refine each_step rfl (fun _ => rfl) ?_
  refine each_done ?_
  rfl
/-- Part 24 of the printed body, as the steps it is made of. -/
theorem part24_eq (c : Dev nD) :
    here (k0_part24 (F := F)) c (myWord c) = (each (span 29 3) (rsSent c) c <| shareSum c <| each (span 0 3) (agSend c) c <| .ret ⟨⟩) := by
  iterate 3 refine each_step rfl (fun _ => rfl) ?_
  refine each_done ?_
  iterate 6 refine op_step fun _ => ?_
  iterate 3 refine each_step rfl (fun _ => rfl) ?_
  refine each_done ?_
  rfl
/-- Part 25 of the printed body, as the steps it is made of. -/
theorem part25_eq (c : Dev nD) :
    here (k0_part25 (F := F)) c (myWord c) = (each (span 3 10) (agSend c) c <| .ret ⟨⟩) := by
  iterate 10 refine each_step rfl (fun _ => rfl) ?_
  refine each_done ?_
  rfl
/-- Part 26 of the printed body, as the steps it is made of. -/
theorem part26_eq (c : Dev nD) :
    here (k0_part26 (F := F)) c (myWord c) = (each (span 13 10) (agSend c) c <| .ret ⟨⟩) := by
  iterate 10 refine each_step rfl (fun _ => rfl) ?_
  refine each_done ?_
  rfl
/-- Part 27 of the printed body, as the steps it is made of. -/
theorem part27_eq (c : Dev nD) :
    here (k0_part27 (F := F)) c (myWord c) = (each (span 23 9) (agSend c) c <| each (span 0 1) agRecv c <| .ret ⟨⟩) := by
  iterate 9 refine each_step rfl (fun _ => rfl) ?_
  refine each_done ?_
  iterate 1 refine each_step rfl (fun _ => rfl) ?_
  refine each_done ?_
  rfl
/-- Part 28 of the printed body, as the steps it is made of. -/
theorem part28_eq (c : Dev nD) :
    here (k0_part28 (F := F)) (myWord c) = (each (span 1 10) agRecv c <| .ret ⟨⟩) := by
  iterate 10 refine each_step rfl (fun _ => rfl) ?_
  refine each_done ?_
  rfl
/-- Part 29 of the printed body, as the steps it is made of. -/
theorem part29_eq (c : Dev nD) :
    here (k0_part29 (F := F)) (myWord c) = (each (span 11 5) agRecv c <| layerLo win1M wout1M <| .ret ⟨⟩) := by
  iterate 5 refine each_step rfl (fun _ => rfl) ?_
  refine each_done ?_
  iterate 5 refine op_step fun _ => ?_
  rfl
/-- Part 30 of the printed body, as the steps it is made of. -/
theorem part30_eq (c : Dev nD) :
    here (k0_part30 (F := F)) c (myWord c) = (each (span 0 10) (rsSend c) c <| .ret ⟨⟩) := by
  iterate 10 refine each_step rfl (fun _ => rfl) ?_
  refine each_done ?_
  rfl
/-- Part 31 of the printed body, as the steps it is made of. -/
theorem part31_eq (c : Dev nD) :
    here (k0_part31 (F := F)) c (myWord c) = (each (span 10 6) (rsSend c) c <| each (span 16 4) agRecv c <| .ret ⟨⟩) := by
  iterate 6 refine each_step rfl (fun _ => rfl) ?_
  refine each_done ?_
  iterate 4 refine each_step rfl (fun _ => rfl) ?_
  refine each_done ?_
  rfl
/-- Part 32 of the printed body, as the steps it is made of. -/
theorem part32_eq (c : Dev nD) :
    here (k0_part32 (F := F)) (myWord c) = (each (span 20 10) agRecv c <| .ret ⟨⟩) := by
  iterate 10 refine each_step rfl (fun _ => rfl) ?_
  refine each_done ?_
  rfl
/-- Part 33 of the printed body, as the steps it is made of. -/
theorem part33_eq (c : Dev nD) :
    here (k0_part33 (F := F)) c (myWord c) = (each (span 30 2) agRecv c <| layerHi win1M wout1M <| each (span 16 3) (rsSend c) c <| .ret ⟨⟩) := by
  iterate 2 refine each_step rfl (fun _ => rfl) ?_
  refine each_done ?_
  iterate 5 refine op_step fun _ => ?_
  iterate 3 refine each_step rfl (fun _ => rfl) ?_
  refine each_done ?_
  rfl
/-- Part 34 of the printed body, as the steps it is made of. -/
theorem part34_eq (c : Dev nD) :
    here (k0_part34 (F := F)) c (myWord c) = (each (span 19 10) (rsSend c) c <| .ret ⟨⟩) := by
  iterate 10 refine each_step rfl (fun _ => rfl) ?_
  refine each_done ?_
  rfl
/-- Part 35 of the printed body, as the steps it is made of. -/
theorem part35_eq (c : Dev nD) :
    here (k0_part35 (F := F)) c (myWord c) = (each (span 29 3) (rsSend c) c <| ownCopy c <| each (span 0 5) (agSent c) c <| .ret ⟨⟩) := by
  iterate 3 refine each_step rfl (fun _ => rfl) ?_
  refine each_done ?_
  iterate 3 refine op_step fun _ => ?_
  iterate 5 refine each_step rfl (fun _ => rfl) ?_
  refine each_done ?_
  rfl
/-- Part 36 of the printed body, as the steps it is made of. -/
theorem part36_eq (c : Dev nD) :
    here (k0_part36 (F := F)) c (myWord c) = (each (span 5 10) (agSent c) c <| .ret ⟨⟩) := by
  iterate 10 refine each_step rfl (fun _ => rfl) ?_
  refine each_done ?_
  rfl

end Cert.Exchange
-- ==== Proof.PartsC.lean ====
/-
The printed parts of the body as loops: each part, at the buffers of the launch, is the run of steps and
straight-line pieces named here, by definitional unfolding. Where a part ends inside a loop, so does
its equation; `Proof.Body` joins the pieces.
-/
module

public import proofs.«01_k».proof.Proof.Loops

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

/-! ## The second exchange -/

/-- Part 37 of the printed body, as the steps it is made of. -/
theorem part37_eq (c : Dev nD) :
    here (k0_part37 (F := F)) c (myWord c) = (each (span 15 10) (agSent c) c <| .ret ⟨⟩) := by
  iterate 10 refine each_step rfl (fun _ => rfl) ?_
  refine each_done ?_
  rfl
/-- Part 38 of the printed body, as the steps it is made of. -/
theorem part38_eq (c : Dev nD) :
    here (k0_part38 (F := F)) c (myWord c) = (each (span 25 7) (agSent c) c <| each (span 0 3) rsRecv c <| .ret ⟨⟩) := by
  iterate 7 refine each_step rfl (fun _ => rfl) ?_
  refine each_done ?_
  iterate 3 refine each_step rfl (fun _ => rfl) ?_
  refine each_done ?_
  rfl
/-- Part 39 of the printed body, as the steps it is made of. -/
theorem part39_eq (c : Dev nD) :
    here (k0_part39 (F := F)) (myWord c) = (each (span 3 10) rsRecv c <| .ret ⟨⟩) := by
  iterate 10 refine each_step rfl (fun _ => rfl) ?_
  refine each_done ?_
  rfl
/-- Part 40 of the printed body, as the steps it is made of. -/
theorem part40_eq (c : Dev nD) :
    here (k0_part40 (F := F)) (myWord c) = (each (span 13 10) rsRecv c <| .ret ⟨⟩) := by
  iterate 10 refine each_step rfl (fun _ => rfl) ?_
  refine each_done ?_
  rfl
/-- Part 41 of the printed body, as the steps it is made of. -/
theorem part41_eq (c : Dev nD) :
    here (k0_part41 (F := F)) c (myWord c) = (each (span 23 9) rsRecv c <| each (span 0 1) (rsSent c) c <| .ret ⟨⟩) := by
  iterate 9 refine each_step rfl (fun _ => rfl) ?_
  refine each_done ?_
  iterate 1 refine each_step rfl (fun _ => rfl) ?_
  refine each_done ?_
  rfl
/-- Part 42 of the printed body, as the steps it is made of. -/
theorem part42_eq (c : Dev nD) :
    here (k0_part42 (F := F)) c (myWord c) = (each (span 1 10) (rsSent c) c <| .ret ⟨⟩) := by
  iterate 10 refine each_step rfl (fun _ => rfl) ?_
  refine each_done ?_
  rfl
/-- Part 43 of the printed body, as the steps it is made of. -/
theorem part43_eq (c : Dev nD) :
    here (k0_part43 (F := F)) c (myWord c) = (each (span 11 10) (rsSent c) c <| .ret ⟨⟩) := by
  iterate 10 refine each_step rfl (fun _ => rfl) ?_
  refine each_done ?_
  rfl
/-- Part 44 of the printed body, as the steps it is made of. -/
theorem part44_eq (c : Dev nD) :
    here (k0_part44 (F := F)) c (myWord c) = (each (span 21 10) (rsSent c) c <| .ret ⟨⟩) := by
  iterate 10 refine each_step rfl (fun _ => rfl) ?_
  refine each_done ?_
  rfl
/-- Part 45 of the printed body, as the steps it is made of. -/
theorem part45_eq (c : Dev nD) :
    here (k0_part45 (F := F)) c (myWord c) = (each (span 31 1) (rsSent c) c <| shareSum c <| each (span 0 5) (agSend c) c <| .ret ⟨⟩) := by
  iterate 1 refine each_step rfl (fun _ => rfl) ?_
  refine each_done ?_
  iterate 6 refine op_step fun _ => ?_
  iterate 5 refine each_step rfl (fun _ => rfl) ?_
  refine each_done ?_
  rfl
/-- Part 46 of the printed body, as the steps it is made of. -/
theorem part46_eq (c : Dev nD) :
    here (k0_part46 (F := F)) c (myWord c) = (each (span 5 10) (agSend c) c <| .ret ⟨⟩) := by
  iterate 10 refine each_step rfl (fun _ => rfl) ?_
  refine each_done ?_
  rfl
/-- Part 47 of the printed body, as the steps it is made of. -/
theorem part47_eq (c : Dev nD) :
    here (k0_part47 (F := F)) c (myWord c) = (each (span 15 10) (agSend c) c <| .ret ⟨⟩) := by
  iterate 10 refine each_step rfl (fun _ => rfl) ?_
  refine each_done ?_
  rfl
/-- Part 48 of the printed body, as the steps it is made of. -/
theorem part48_eq (c : Dev nD) :
    here (k0_part48 (F := F)) c (myWord c) = (each (span 25 7) (agSend c) c <| each (span 0 3) agRecv c <| .ret ⟨⟩) := by
  iterate 7 refine each_step rfl (fun _ => rfl) ?_
  refine each_done ?_
  iterate 3 refine each_step rfl (fun _ => rfl) ?_
  refine each_done ?_
  rfl
/-- Part 49 of the printed body, as the steps it is made of. -/
theorem part49_eq (c : Dev nD) :
    here (k0_part49 (F := F)) (myWord c) = (each (span 3 10) agRecv c <| .ret ⟨⟩) := by
  iterate 10 refine each_step rfl (fun _ => rfl) ?_
  refine each_done ?_
  rfl
/-- Part 50 of the printed body, as the steps it is made of. -/
theorem part50_eq (c : Dev nD) :
    here (k0_part50 (F := F)) c (myWord c) = (each (span 13 3) agRecv c <| layerLo win2M wout2M <| each (span 0 2) (rsSend c) c <| .ret ⟨⟩) := by
  iterate 3 refine each_step rfl (fun _ => rfl) ?_
  refine each_done ?_
  iterate 5 refine op_step fun _ => ?_
  iterate 2 refine each_step rfl (fun _ => rfl) ?_
  refine each_done ?_
  rfl

end Cert.Exchange
-- ==== Proof.PartsD.lean ====
/-
The printed parts of the body as loops: each part, at the buffers of the launch, is the run of steps and
straight-line pieces named here, by definitional unfolding. Where a part ends inside a loop, so does
its equation; `Proof.Body` joins the pieces.
-/
module

public import proofs.«01_k».proof.Proof.Loops

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

/-! ## The third layer -/

/-- Part 51 of the printed body, as the steps it is made of. -/
theorem part51_eq (c : Dev nD) :
    here (k0_part51 (F := F)) c (myWord c) = (each (span 2 10) (rsSend c) c <| .ret ⟨⟩) := by
  iterate 10 refine each_step rfl (fun _ => rfl) ?_
  refine each_done ?_
  rfl
/-- Part 52 of the printed body, as the steps it is made of. -/
theorem part52_eq (c : Dev nD) :
    here (k0_part52 (F := F)) c (myWord c) = (each (span 12 4) (rsSend c) c <| each (span 16 6) agRecv c <| .ret ⟨⟩) := by
  iterate 4 refine each_step rfl (fun _ => rfl) ?_
  refine each_done ?_
  iterate 6 refine each_step rfl (fun _ => rfl) ?_
  refine each_done ?_
  rfl
/-- Part 53 of the printed body, as the steps it is made of. -/
theorem part53_eq (c : Dev nD) :
    here (k0_part53 (F := F)) (myWord c) = (each (span 22 10) agRecv c <| .ret ⟨⟩) := by
  iterate 10 refine each_step rfl (fun _ => rfl) ?_
  refine each_done ?_
  rfl
/-- Part 54 of the printed body, as the steps it is made of. -/
theorem part54_eq (c : Dev nD) :
    here (k0_part54 (F := F)) c (myWord c) = (layerHi win2M wout2M <| each (span 16 5) (rsSend c) c <| .ret ⟨⟩) := by
  iterate 5 refine op_step fun _ => ?_
  iterate 5 refine each_step rfl (fun _ => rfl) ?_
  refine each_done ?_
  rfl
/-- Part 55 of the printed body, as the steps it is made of. -/
theorem part55_eq (c : Dev nD) :
    here (k0_part55 (F := F)) c (myWord c) = (each (span 21 10) (rsSend c) c <| .ret ⟨⟩) := by
  iterate 10 refine each_step rfl (fun _ => rfl) ?_
  refine each_done ?_
  rfl
/-- Part 56 of the printed body, as the steps it is made of. -/
theorem part56_eq (c : Dev nD) :
    here (k0_part56 (F := F)) c (myWord c) = (each (span 31 1) (rsSend c) c <| ownCopy c <| each (span 0 7) (agSent c) c <| .ret ⟨⟩) := by
  iterate 1 refine each_step rfl (fun _ => rfl) ?_
  refine each_done ?_
  iterate 3 refine op_step fun _ => ?_
  iterate 7 refine each_step rfl (fun _ => rfl) ?_
  refine each_done ?_
  rfl
/-- Part 57 of the printed body, as the steps it is made of. -/
theorem part57_eq (c : Dev nD) :
    here (k0_part57 (F := F)) c (myWord c) = (each (span 7 10) (agSent c) c <| .ret ⟨⟩) := by
  iterate 10 refine each_step rfl (fun _ => rfl) ?_
  refine each_done ?_
  rfl
/-- Part 58 of the printed body, as the steps it is made of. -/
theorem part58_eq (c : Dev nD) :
    here (k0_part58 (F := F)) c (myWord c) = (each (span 17 10) (agSent c) c <| .ret ⟨⟩) := by
  iterate 10 refine each_step rfl (fun _ => rfl) ?_
  refine each_done ?_
  rfl
/-- Part 59 of the printed body, as the steps it is made of. -/
theorem part59_eq (c : Dev nD) :
    here (k0_part59 (F := F)) c (myWord c) = (each (span 27 5) (agSent c) c <| each (span 0 5) rsRecv c <| .ret ⟨⟩) := by
  iterate 5 refine each_step rfl (fun _ => rfl) ?_
  refine each_done ?_
  iterate 5 refine each_step rfl (fun _ => rfl) ?_
  refine each_done ?_
  rfl
/-- Part 60 of the printed body, as the steps it is made of. -/
theorem part60_eq (c : Dev nD) :
    here (k0_part60 (F := F)) (myWord c) = (each (span 5 10) rsRecv c <| .ret ⟨⟩) := by
  iterate 10 refine each_step rfl (fun _ => rfl) ?_
  refine each_done ?_
  rfl
/-- Part 61 of the printed body, as the steps it is made of. -/
theorem part61_eq (c : Dev nD) :
    here (k0_part61 (F := F)) (myWord c) = (each (span 15 10) rsRecv c <| .ret ⟨⟩) := by
  iterate 10 refine each_step rfl (fun _ => rfl) ?_
  refine each_done ?_
  rfl
/-- Part 62 of the printed body, as the steps it is made of. -/
theorem part62_eq (c : Dev nD) :
    here (k0_part62 (F := F)) c (myWord c) = (each (span 25 7) rsRecv c <| each (span 0 3) (rsSent c) c <| .ret ⟨⟩) := by
  iterate 7 refine each_step rfl (fun _ => rfl) ?_
  refine each_done ?_
  iterate 3 refine each_step rfl (fun _ => rfl) ?_
  refine each_done ?_
  rfl
/-- Part 63 of the printed body, as the steps it is made of. -/
theorem part63_eq (c : Dev nD) :
    here (k0_part63 (F := F)) c (myWord c) = (each (span 3 10) (rsSent c) c <| .ret ⟨⟩) := by
  iterate 10 refine each_step rfl (fun _ => rfl) ?_
  refine each_done ?_
  rfl
/-- Part 64 of the printed body, as the steps it is made of. -/
theorem part64_eq (c : Dev nD) :
    here (k0_part64 (F := F)) c (myWord c) = (each (span 13 10) (rsSent c) c <| .ret ⟨⟩) := by
  iterate 10 refine each_step rfl (fun _ => rfl) ?_
  refine each_done ?_
  rfl
/-- Part 65 of the printed body, as the steps it is made of. -/
theorem part65_eq (c : Dev nD) :
    here (k0_part65 (F := F)) c (myWord c) = (each (span 23 9) (rsSent c) c <| .op (loadAll rsM) fun v => .ret (k0_pay17 v)) := by
  iterate 9 refine each_step rfl (fun _ => rfl) ?_
  refine each_done ?_
  iterate 1 refine op_step fun _ => ?_
  rfl

end Cert.Exchange
-- ==== Proof.Body.lean ====
/-
The body as one program of loops: the parts joined. `kernel c` is the text the run is proved about;
`body_eq` says that the printed body, at the buffers of the launch, is it.
-/
module

public import proofs.«01_k».proof.Proof.PartsA
public import proofs.«01_k».proof.Proof.PartsB
public import proofs.«01_k».proof.Proof.PartsC
public import proofs.«01_k».proof.Proof.PartsD

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

variable {α : Type}

/-- One whole layer after the first: the exchange of the partial products of the layer before, the sum of
    the device's own rows, the gather of everybody's rows, and the next partial products, sent off as they come. -/
def layer (c : Dev nD) (Win : Memref sig .tc .vmem S256x512 .bf16) (Wout : Memref sig .tc .vmem S512x256 .bf16) (k : TcProg F α) : TcProg F α :=
  each (span 0 32) rsRecv c <| each (span 0 32) (rsSent c) c <| shareSum c <| each (span 0 32) (agSend c) c <|
  each (span 0 16) agRecv c <| layerLo Win Wout <| each (span 0 16) (rsSend c) c <|
  each (span 16 16) agRecv c <| layerHi Win Wout <| each (span 16 16) (rsSend c) c <| ownCopy c <| each (span 0 32) (agSent c) c k

/-- The last exchange, and the result. -/
def lastSum (c : Dev nD) : TcProg F PUnit :=
  each (span 0 32) rsRecv c <| each (span 0 32) (rsSent c) c <|
  .op (loadAll rsM) fun v => .op loadOut fun _ => .op (storeOut (k0_pay1 (k0_pay17 v))) fun _ => .ret ⟨⟩

/-- The kernel on device `c`. -/
def kernel (c : Dev nD) : TcProg F PUnit :=
  signals c (span 1 31) <| firstLo fun x v => .op (storeLo v) fun _ => .op barWait fun _ => each (span 0 16) (rsSend c) c <|
  firstHi x <| each (span 16 16) (rsSend c) c <| ownCopy c <| layer c win1M wout1M <| layer c win2M wout2M <| lastSum c

/-- `each_bind`, for the bind of the monad. -/
theorem each_bindM {β : Type} (l : List (Fin 32)) (e : Fin 32 → TpuEff nD τ sig (Elt F) Λ₀ .tc PUnit) (c : Dev nD) (k : TcProg F α) (g : α → TcProg F β) :
    (each l e c k >>= g) = each l e c (k >>= g) := each_bind l e c k g
/-- `signals_bind`, for the bind of the monad. -/
theorem signals_bindM {β : Type} (c : Dev nD) (l : List (Fin 32)) (k : TcProg F α) (g : α → TcProg F β) :
    (signals c l k >>= g) = signals c l (k >>= g) := signals_bind c l k g

/-- The bind of programs is the bind of the monad. -/
theorem bind_raw {β : Type} (p : TcProg F α) (g : α → TcProg F β) : p.bind g = (p >>= g) := rfl

set_option maxHeartbeats 4000000 in
/-- The printed body is the program of loops. -/
theorem body_eq : here (cc0_body (F := F)) = .op .deviceId kernel := by
  obtain ⟨a1, b1, d1, h1⟩ := part1_eq (F := F)
  unfold cc0_body k0_part66
  simp only [here]
  simp only [h1, Prog.bind_op, Prog.bind_ret, bind_raw, signals_bindM]
  refine op_step fun c => ?_
  obtain ⟨a2, b2, d2, h2⟩ := part2_eq (F := F) c (a1 c) (b1 c) (d1 c)
  obtain ⟨a3, b3, d3, h3⟩ := part3_eq (F := F) c a2 b2 d2
  obtain ⟨a4, b4, d4, h4⟩ := part4_eq (F := F) c a3 b3 d3
  obtain ⟨a5, b5, d5, h5⟩ := part5_eq (F := F) c a4 b4 d4
  obtain ⟨a6, b6, d6, h6⟩ := part6_eq (F := F) c a5 b5 d5
  obtain ⟨a7, b7, d7, h7⟩ := part7_eq (F := F) c a6 b6 d6
  obtain ⟨a8, b8, d8, h8⟩ := part8_eq (F := F) c a7 b7 d7
  obtain ⟨a9, b9, d9, h9⟩ := part9_eq (F := F) c a8 b8 d8
  obtain ⟨a10, b10, d10, h10⟩ := part10_eq (F := F) c a9 b9 d9
  obtain ⟨a11, b11, d11, h11⟩ := part11_eq (F := F) c a10 b10 d10
  obtain ⟨a12, b12, d12, h12⟩ := part12_eq (F := F) c a11 b11 d11
  simp only [h2, h3, h4, h5, h6, h7, h8, h9, h10, h11, h12, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, part55_eq, part56_eq, part57_eq, part58_eq, part59_eq, part60_eq, part61_eq, part62_eq, part63_eq, part64_eq, part65_eq,
    firstLo, ownCopy, shareSum, layerLo, layerHi,
    Prog.lift, Prog.pure_eq_ret, Prog.bind_op, Prog.bind_ret, bind_raw, signals_bindM, each_bindM]
  simp only [signals_signals, each_each, Nat.reduceAdd]
  rfl

end Cert.Exchange
-- ==== Proof.Slots.lean ====
/-
Geometry of the slots: which elements of a `32x8x256` buffer a slot covers, where a slot's coordinates
sit, and that the semaphores of the four arrays are all different.
-/
module

public import proofs.«01_k».proof.Proof.Steps

@[expose] public section

set_option synthInstance.maxSize 4096
set_option maxRecDepth 65536

noncomputable section

namespace Cert.Exchange

open Cert.KernelIdeal Cert.KernelIdeal.Gen
open Idealize.ShloMosaic Idealize.SL.Sem

variable {F : FTy → Type} [FloatOps F]

/-- The elements of slot `n`: first coordinate `n`. -/
def slot (n : Fin 32) : Finset S32x8x256.Idx := Finset.univ.filter fun i => (i 0).val = n.val

/-- An element lies in slot `n` when its first coordinate is `n`. -/
theorem mem_slot {n : Fin 32} {i : S32x8x256.Idx} : i ∈ slot n ↔ (i 0).val = n.val := by simp [slot]

/-- Different slots share no element. -/
theorem slot_disjoint {n n' : Fin 32} (h : n ≠ n') : Disjoint (slot n) (slot n') :=
  Finset.disjoint_left.mpr fun i hi hi' => h (Fin.ext ((mem_slot.mp hi).symm.trans (mem_slot.mp hi')))

/-- The slots of a set of numbers: the elements whose first coordinate is one of them. -/
theorem mem_slots {T : Finset (Fin 32)} {i : S32x8x256.Idx} : i ∈ T.biUnion slot ↔ (⟨(i 0).val, (i 0).isLt⟩ : Fin 32) ∈ T := by
  rw [Finset.mem_biUnion]
  constructor
  · rintro ⟨n, hn, hi⟩
    rwa [show (⟨(i 0).val, (i 0).isLt⟩ : Fin 32) = n from Fin.ext (mem_slot.mp hi)]
  · exact fun h => ⟨_, h, mem_slot.mpr rfl⟩

/-- All 32 slots are the buffer. -/
theorem slots_univ : (Finset.univ : Finset (Fin 32)).biUnion slot = Finset.univ :=
  Finset.eq_univ_iff_forall.mpr fun i => mem_slots.mpr (Finset.mem_univ _)

/-- An element is inside the rectangle of a slot when its first coordinate is the slot's number. -/
theorem slotRect_set (n : Fin 32) (h) : (Rect.unit (s := S32x8x256) (rowOff n.val) S1x8x256.size h).set = slot n := by
  ext i
  rw [Rect.mem_set_unit, mem_slot]
  constructor
  · intro hi
    have := hi 0
    simp only [Matrix.cons_val_zero] at this
    have h1 : S1x8x256.size 0 = 1 := rfl
    omega
  · intro hi a
    fin_cases a
    · have h1 : S1x8x256.size 0 = 1 := rfl
      simp only [Fin.zero_eta, Matrix.cons_val_zero]; omega
    · exact ⟨Nat.zero_le _, by simpa using (i 1).isLt⟩
    · exact ⟨Nat.zero_le _, by simpa using (i 2).isLt⟩

/-- The first sixteen slots; the other sixteen. -/
theorem loRect_set : loR.set = (Finset.univ.filter fun n : Fin 32 => n.val < 16).biUnion slot := by
  ext i
  rw [Rect.mem_set_unit, mem_slots, Finset.mem_filter]
  constructor
  · intro hi
    have := hi 0
    simp only [Matrix.cons_val_zero] at this
    have h1 : S16x8x256.size 0 = 16 := rfl
    exact ⟨Finset.mem_univ _, by simp only; omega⟩
  · rintro ⟨-, hi⟩ a
    fin_cases a
    · have h1 : S16x8x256.size 0 = 16 := rfl
      simp only [Fin.zero_eta, Matrix.cons_val_zero]; simp only at hi; omega
    · exact ⟨Nat.zero_le _, by simpa using (i 1).isLt⟩
    · exact ⟨Nat.zero_le _, by simpa using (i 2).isLt⟩

/-- The upper half of a buffer is its slots from sixteen on. -/
theorem hiRect_set : hiR.set = (Finset.univ.filter fun n : Fin 32 => ¬ n.val < 16).biUnion slot := by
  ext i
  rw [Rect.mem_set_unit, mem_slots, Finset.mem_filter]
  constructor
  · intro hi
    have := hi 0
    simp only [Matrix.cons_val_zero] at this
    exact ⟨Finset.mem_univ _, by simp only; omega⟩
  · rintro ⟨-, hi⟩ a
    fin_cases a
    · have h1 : S16x8x256.size 0 = 16 := rfl
      have h2 : (i 0).val < 32 := (i 0).isLt
      simp only [Fin.zero_eta, Matrix.cons_val_zero]; simp only at hi; omega
    · exact ⟨Nat.zero_le _, by simpa using (i 1).isLt⟩
    · exact ⟨Nat.zero_le _, by simpa using (i 2).isLt⟩

/-! ## A slot as a view -/

/-- Slot `n` of a buffer, as a view of eight rows. -/
abbrev slotAt (M : Memref sig .tc .vmem S32x8x256 .bf16) (n : Fin 32) : Memref sig .tc .vmem S8x256 .bf16 := rowAt M (rowOff n.val) (rowIn n)

/-- The elements of slot `n` of the buffer of products. -/
theorem slotAt_part_set (n : Fin 32) : (slotAt partM n).view.set = slot n :=
  ((View.set_reshape _ _).trans (View.set_slice_whole _ _)).trans (slotRect_set n _)
/-- The elements of slot `n` of the scatter's buffer. -/
theorem slotAt_rs_set (n : Fin 32) : (slotAt rsM n).view.set = slot n :=
  ((View.set_reshape _ _).trans (View.set_slice_whole _ _)).trans (slotRect_set n _)
/-- The elements of slot `n` of the gather's buffer. -/
theorem slotAt_ag_set (n : Fin 32) : (slotAt agM n).view.set = slot n :=
  ((View.set_reshape _ _).trans (View.set_slice_whole _ _)).trans (slotRect_set n _)

/-- The slot of an element, and its place in it (a leading coordinate 0, the row, the column). -/
def slotOf (i : S32x8x256.Idx) : Fin 32 := ⟨(i 0).val, (i 0).isLt⟩
/-- An element's place within its slot. -/
def tail (i : S32x8x256.Idx) : S1x8x256.Idx
  | ⟨0, _⟩ => ⟨0, Nat.one_pos⟩
  | ⟨1, _⟩ => ⟨(i 1).val, (i 1).isLt⟩
  | ⟨2, _⟩ => ⟨(i 2).val, (i 2).isLt⟩
/-- The element of slot `n` at a place. -/
def place (n : Fin 32) (y : S1x8x256.Idx) : S32x8x256.Idx := (Rect.unit (s := S32x8x256) (rowOff n.val) S1x8x256.size (rowIn n)).emb y

/-- The coordinates of a place in slot `n`. -/
theorem place_val (n : Fin 32) (y : S1x8x256.Idx) (a : Fin 3) : (place n y a : ℕ) = rowOff n.val a + (y a : ℕ) := by
  refine (Rect.emb_apply (Rect.unit (s := S32x8x256) (rowOff n.val) S1x8x256.size (rowIn n)) y a).trans ?_
  rw [Rect.stride_unit, Nat.one_mul, Rect.off_unit]

/-- A place in slot `n` lies in slot `n`. -/
theorem slotOf_place (n : Fin 32) (y : S1x8x256.Idx) : slotOf (place n y) = n := by
  refine Fin.ext ((place_val n y 0).trans ?_)
  have h : (y 0 : ℕ) < 1 := (y 0).isLt
  simp only [Matrix.cons_val_zero]; omega

/-- A place in slot `n`, seen within its slot. -/
theorem tail_place (n : Fin 32) (y : S1x8x256.Idx) : tail (place n y) = y := by
  funext a
  refine Fin.ext ?_
  have h0 : (y 0 : ℕ) < 1 := (y 0).isLt
  match a with
  | ⟨0, _⟩ => show 0 = (y 0 : ℕ); omega
  | ⟨1, _⟩ => exact (place_val n y 1).trans (Nat.zero_add _)
  | ⟨2, _⟩ => exact (place_val n y 2).trans (Nat.zero_add _)

/-- An element is at its own place in its own slot. -/
theorem place_tail (i : S32x8x256.Idx) : place (slotOf i) (tail i) = i := by
  funext a
  refine Fin.ext ((place_val _ _ a).trans ?_)
  match a with
  | ⟨0, _⟩ => exact Nat.add_zero _
  | ⟨1, _⟩ => exact Nat.zero_add _
  | ⟨2, _⟩ => exact Nat.zero_add _

/-- The slot of an element of slot `n` is `n`. -/
theorem slotOf_of_mem {n : Fin 32} {i : S32x8x256.Idx} (h : i ∈ slot n) : slotOf i = n := Fin.ext (mem_slot.mp h)
/-- A place in slot `n` is one of the slot's elements. -/
theorem place_mem (n : Fin 32) (y : S1x8x256.Idx) : place n y ∈ slot n :=
  mem_slot.mpr (congrArg Fin.val (slotOf_place n y))

/-- The place in a slot of the row and column of an eight-row view of it. -/
def under (x : S8x256.Idx) : S1x8x256.Idx := Shape.reshapeEquiv (show S8x256.numel = S1x8x256.numel by rfl) x

/-- Where a slot's view puts a row and column. -/
theorem slotAt_part_emb (n : Fin 32) (x : S8x256.Idx) : (slotAt partM n).view.emb x = place n (under x) := rfl
/-- Where an element of slot `n` of the scatter's buffer lies. -/
theorem slotAt_rs_emb (n : Fin 32) (x : S8x256.Idx) : (slotAt rsM n).view.emb x = place n (under x) := rfl
/-- Where an element of slot `n` of the gather's buffer lies. -/
theorem slotAt_ag_emb (n : Fin 32) (x : S8x256.Idx) : (slotAt agM n).view.emb x = place n (under x) := rfl

/-- Every element of a slot is at some row and column of it. -/
theorem exists_under {n : Fin 32} {i : S32x8x256.Idx} (h : i ∈ slot n) : ∃ x, i = place n (under x) := by
  refine ⟨(Shape.reshapeEquiv (show S8x256.numel = S1x8x256.numel by rfl)).symm (tail i), ?_⟩
  rw [under, Equiv.apply_symm_apply]
  conv_lhs => rw [← place_tail i, slotOf_of_mem h]

/-- The device's own slot is the slot of its number. -/
theorem ownR_emb (c : Dev nD) (y : S1x8x256.Idx) : (ownR c).emb y = place c y := by
  have h : ∀ (n : ℕ) (hn), n = c.val → (Rect.unit (s := S32x8x256) (rowOff n) S1x8x256.size hn).emb y = place c y := by
    rintro _ _ rfl; rfl
  exact h _ _ (myWord_toNat c)
/-- The block a device loads as its own is its own slot. -/
theorem ownR_set (c : Dev nD) : (ownR c).set = slot c := by
  have h : ∀ (n : ℕ) (hn), n = c.val → (Rect.unit (s := S32x8x256) (rowOff n) S1x8x256.size hn).set = slot c := by
    rintro _ _ rfl; exact slotRect_set c _
  exact h _ _ (myWord_toNat c)

/-! ## What a copy of one slot credits -/

/-- The credit of a copy of eight rows. -/
def N : ℕ := (slotAt rsM 0).view.dmaCredit

/-- One slot's credit is positive. -/
theorem N_pos : 0 < N := View.dmaCredit_pos _ (by decide)
/-- A copy of a slot of the buffer of products is worth one slot's credit. -/
theorem credit_part (n : Fin 32) : (slotAt partM n).view.dmaCredit = N := rfl
/-- A copy into a slot of the scatter's buffer is worth one slot's credit. -/
theorem credit_rs (n : Fin 32) : (slotAt rsM n).view.dmaCredit = N := rfl
/-- A copy into a slot of the gather's buffer is worth one slot's credit. -/
theorem credit_ag (n : Fin 32) : (slotAt agM n).view.dmaCredit = N := rfl
/-- A copy of the reduced block is worth one slot's credit. -/
theorem credit_red : (redM : Memref sig .tc .vmem S8x256 .bf16).view.dmaCredit = N := rfl

/-! ## The semaphores -/

/-- The four arrays: the scatter's at its source, the gather's at its source, the scatter's at its
    destination, the gather's at its destination. -/
def arr : Fin 4 → DmaSems sig S32
  | 0 => rsSndA
  | 1 => agSndA
  | 2 => rsRcvA
  | 3 => agRcvA

/-- Semaphore `s` of array `k`. -/
def dsem (k : Fin 4) (s : Fin 32) : DmaSem sig := semAt (arr k) (semOff s.val) (semIn s)

/-- The number of family `k`'s semaphore for peer `s`. -/
theorem dsem_val : ∀ (k : Fin 4) (s : Fin 32), (dsem k s).val = 8 + 32 * k.val + s.val := by decide +kernel

/-- They are all different. -/
theorem dsem_inj {k k' : Fin 4} {s s' : Fin 32} (h : dsem k s = dsem k' s') : k = k' ∧ s = s' := by
  have h1 := dsem_val k s
  have h2 := dsem_val k' s'
  rw [h] at h1
  exact ⟨Fin.ext (by omega), Fin.ext (by omega)⟩

end Cert.Exchange
-- ==== Proof.Schedule.lean ====
/-
The protocol of the exchange: the contents that travel, the semaphore cells, and the schedule of rounds —
per cell and round, who pays it, how much, and what resource the payment hands over.

Device `c`'s slot `s` of a landing buffer is written by device `s` alone. Whoever may write it holds it:
the barrier's signals hand every device its slots of the others' scatter buffers for layer 0; the copy that
fills a scatter slot hands over the sender's gather slot for the answer, and the copy that fills a gather
slot the sender's scatter slot for the next layer. So a slot is handed on only after its contents were
consumed, and no device writes into a buffer that is still being read.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the exchange's, its duties named by devices -/

/-- The ghost state of the exchange: rounds of duties, over the cells, with a payer's number as the name of a duty. -/
abbrev UB : Type := URounds (GSem nD τ sig) (Fin 32)
/-- The ghost state of the pipeline and that of the exchange. -/
abbrev UU : Type := UR sig nD τ × UB

/-- The propositions of the proof: waits indexed by the round, levels by numbers. -/
abbrev MM (F : FTy → Type) [FloatOps F] := MT nD τ sig ℕ (Elt F) ℕ UU ℕ

/-- Where the pipeline's ghost state lies. -/
abbrev EP : Emb (UR sig nD τ) (MM F) := embL
/-- Where the exchange's ghost state lies. -/
abbrev ER : Emb UB (MM F) := embR

/-! ## Contents -/

/-- The contents of a `32x8x256` buffer. -/
abbrev Slab (F : FTy → Type) [FloatOps F] : Type := FVec F S32x8x256 .bf16

section Contents
variable (P : ℕ → Dev nD → Slab F)

/-- What the scatter of round `l` leaves on device `c`: in slot `s`, device `s`'s partial product for `c`. -/
def rsB (l : ℕ) (c : Dev nD) : Slab F := fun i => P l (slotOf i) (place c (tail i))
/-- The sum device `c` takes of it. -/
def redB (l : ℕ) (c : Dev nD) : FVec F S8x256 .bf16 := k0_pay7 (rsB P l c)
/-- What the gather of round `l` leaves on every device: in slot `s`, device `s`'s sum. -/
def agB (l : ℕ) : Slab F := fun i => k0_pay8 (redB P l (slotOf i)) (tail i)

/-! ## Ownership of the slots -/

/-- Slot `s` of the buffer of products, with its contents. -/
def partPts (c : Dev nD) (s : Fin 32) (f : Slab F) : sProp (MM F) := ((c : Thread nD τ).loc cc0_scratch0) ↦[slot s]{fullShare} f
/-- Slot `s` of the scatter's buffer, with its contents. -/
def rsPts (c : Dev nD) (s : Fin 32) (f : Slab F) : sProp (MM F) := ((c : Thread nD τ).loc cc0_scratch2) ↦[slot s]{fullShare} f
/-- Slot `s` of the gather's buffer, with its contents. -/
def agPts (c : Dev nD) (s : Fin 32) (f : Slab F) : sProp (MM F) := ((c : Thread nD τ).loc cc0_scratch3) ↦[slot s]{fullShare} f
/-- The part of the reduced chunk lent to the copy to device `s`. -/
def redPts (c : Dev nD) (s : Fin 32) (f : FVec F S8x256 .bf16) : sProp (MM F) :=
  ((c : Thread nD τ).loc cc0_scratch1) ↦[Finset.univ]{ShareLeaves.leaf 5 fullShare s} f
/-- A slot at whatever contents. -/
def rsAny (c : Dev nD) (s : Fin 32) : sProp (MM F) := iprop(∃ f, rsPts c s f)
/-- Slot `s` of the gather's buffer, with any contents. -/
def agAny (c : Dev nD) (s : Fin 32) : sProp (MM F) := iprop(∃ f, agPts c s f)

/-! ## The cells -/

/-- The role of a cell: the barrier, or one semaphore of one of the four arrays. -/
abbrev Role : Type := Option (Fin 4 × Fin 32)

/-- The semaphore of a role: the barrier's, or a family's for a peer. -/
def csem : Role → SemLoc sig
  | none => .reg barS
  | some (k, s) => .dma (dsem k s)

/-- The cell of a role on a device. -/
abbrev kcell (x : Dev nD × Role) : GSem nD τ sig := ((x.1 : Thread nD τ), csem x.2)
/-- A device's barrier cell. -/
abbrev barCell (c : Dev nD) : GSem nD τ sig := kcell (c, none)
/-- A device's cell of family `k` for peer `s`. -/
abbrev dcell (c : Dev nD) (k : Fin 4) (s : Fin 32) : GSem nD τ sig := kcell (c, some (k, s))

/-- The role of a semaphore, if it is one of the exchange's. -/
def role : SemLoc sig → Option Role
  | .reg _ => some none
  | .dma q => if h : 8 ≤ q.val ∧ q.val < 136 then
      some (some (⟨(q.val - 8) / 32, by omega⟩, ⟨(q.val - 8) % 32, Nat.mod_lt _ (by decide)⟩)) else none

/-- A semaphore's role is the one it was given for. -/
theorem role_csem (x : Role) : role (csem x) = some x := by
  rcases x with _ | ⟨k, s⟩
  · rfl
  · have hv := dsem_val k s
    have hk := k.isLt
    have hs := s.isLt
    show (if h : 8 ≤ (dsem k s).val ∧ (dsem k s).val < 136 then _ else none) = _
    rw [dif_pos ⟨by omega, by omega⟩]
    refine congrArg some (congrArg some (Prod.ext (Fin.ext ?_) (Fin.ext ?_)))
    · show ((dsem k s).val - 8) / 32 = k.val; omega
    · show ((dsem k s).val - 8) % 32 = s.val; omega

/-- Different roles have different semaphores. -/
theorem csem_inj : Function.Injective csem := fun x y h => by
  have := role_csem x
  rw [h, role_csem] at this
  exact (Option.some.inj this).symm

/-- Different devices or roles have different cells. -/
theorem kcell_inj : Function.Injective kcell := fun x y h =>
  Prod.ext (congrArg (fun g : GSem nD τ sig => g.1.1) h) (csem_inj (congrArg Prod.snd h))

/-! ## The schedule -/

/-- Rounds of each array: three scatters, two gathers. -/
def rounds : Fin 4 → ℕ
  | 0 => 3
  | 1 => 2
  | 2 => 3
  | 3 => 2

/-- What a device needs to send to device `s` in round `r` of the scatter: slot `c` of its landing buffer, and
    that `s` has come to that round. -/
def rsReady (r : ℕ) (s c : Dev nD) : sProp (MM F) := iprop(rsAny s c ∗ reached ER (dcell s 2 c) r)
/-- The same for the gather. -/
def agReady (r : ℕ) (s c : Dev nD) : sProp (MM F) := iprop(agAny s c ∗ reached ER (dcell s 3 c) r)

/-- What the copy of round `r` of the scatter hands over beside its contents: the sender's slot of the gather that
    follows, if one follows. -/
def rsGive (r : ℕ) (s c : Dev nD) : sProp (MM F) := if r < 2 then agReady r s c else iprop(emp)

/-- What is handed to device `c` by the payment of round `r` of its cell `k`, `s`. -/
def dmaPay (c : Dev nD) (k : Fin 4) (s : Fin 32) (r : ℕ) : sProp (MM F) :=
  match k with
  | 0 => partPts c s (P r c)
  | 1 => redPts c s (redB P r c)
  | 2 => iprop(rsPts c s (rsB P r c) ∗ rsGive r s c)
  | 3 => iprop(agPts c s (agB P r) ∗ rsReady (r + 1) s c)

/-- The schedule: a barrier cell has one round, paid by every other device; a semaphore for the peer `s` has the
    rounds of its array, each paid once, and none if `s` is the device itself. -/
def Rd : Rounds.Schedule (GSem nD τ sig) (Fin 32) (MM F) where
  duties g r := match role g.2 with
    | none => ∅
    | some none => if r = 0 then Finset.univ.erase g.1.1 else ∅
    | some (some (k, s)) => if s ≠ g.1.1 ∧ r < rounds k then {0} else ∅
  unitless _ := False
  amount g _ _ := if role g.2 = some none then 1 else N
  payload g r d := match role g.2 with
    | none => iprop(emp)
    | some none => rsReady 0 d g.1.1
    | some (some (k, s)) => dmaPay P g.1.1 k s r
  amount_pos g _ _ _ := by
    by_cases h : role g.2 = some none
    · rw [if_pos h]; exact Nat.one_pos
    · rw [if_neg h]; exact N_pos

omit [FloatOps F] in
instance rsAny_storable [FloatOps F] (c : Dev nD) (s : Fin 32) : BI.Storable (upEmb : UEmb _ (MM F)) (rsAny (F := F) c s) := by unfold rsAny rsPts; infer_instance
instance agAny_storable (c : Dev nD) (s : Fin 32) : BI.Storable (upEmb : UEmb _ (MM F)) (agAny (F := F) c s) := by unfold agAny agPts; infer_instance
instance rsReady_storable (r : ℕ) (s c : Dev nD) : BI.Storable (upEmb : UEmb _ (MM F)) (rsReady (F := F) r s c) := by unfold rsReady; infer_instance
instance agReady_storable (r : ℕ) (s c : Dev nD) : BI.Storable (upEmb : UEmb _ (MM F)) (agReady (F := F) r s c) := by unfold agReady; infer_instance
instance rsGive_storable (r : ℕ) (s c : Dev nD) : BI.Storable (upEmb : UEmb _ (MM F)) (rsGive (F := F) r s c) := by unfold rsGive; split <;> infer_instance
instance dmaPay_storable (c : Dev nD) (k : Fin 4) (s : Fin 32) (r : ℕ) : BI.Storable (upEmb : UEmb _ (MM F)) (dmaPay P c k s r) := by
  unfold dmaPay partPts redPts rsPts agPts
  split <;> infer_instance
instance payload_storable (g : GSem nD τ sig) (r : ℕ) (d : Fin 32) : BI.Storable (upEmb : UEmb _ (MM F)) ((Rd P).payload g r d) := by
  dsimp only [Rd]
  split <;> infer_instance

/-- A barrier cell is due one signal from every peer. -/
theorem duties_bar (c : Dev nD) : (Rd P).duties (barCell c) 0 = Finset.univ.erase c := rfl
/-- After its first round a barrier cell is due nothing. -/
theorem duties_bar_later (c : Dev nD) (r : ℕ) (h : 1 ≤ r) : (Rd P).duties (barCell c) r = ∅ := if_neg (by omega)
/-- A copy's cell for a peer is due one payment in each of its rounds. -/
theorem duties_dma {c : Dev nD} {k : Fin 4} {s : Fin 32} {r : ℕ} (hs : s ≠ c) (hr : r < rounds k) : (Rd P).duties (dcell c k s) r = {0} := by
  dsimp only [Rd]; rw [role_csem]; exact if_pos ⟨hs, hr⟩
/-- A device's cell for itself is due nothing. -/
theorem duties_own (c : Dev nD) (k : Fin 4) (r : ℕ) : (Rd P).duties (dcell c k c) r = ∅ := by
  dsimp only [Rd]; rw [role_csem]; exact if_neg fun h => h.1 rfl
/-- After its last round a copy's cell is due nothing. -/
theorem duties_dma_later (c : Dev nD) (k : Fin 4) (s : Fin 32) (r : ℕ) (h : rounds k ≤ r) : (Rd P).duties (dcell c k s) r = ∅ := by
  dsimp only [Rd]; rw [role_csem]; exact if_neg fun h' => by omega
/-- A barrier signal is worth one. -/
theorem amount_bar (c : Dev nD) (r : ℕ) (d : Fin 32) : (Rd P).amount (barCell c) r d = 1 := rfl
/-- A copy's payment is worth one slot's credit. -/
theorem amount_dma (c : Dev nD) (k : Fin 4) (s : Fin 32) (r : ℕ) (d : Fin 32) : (Rd P).amount (dcell c k s) r d = N := by
  dsimp only [Rd]; rw [role_csem]; exact if_neg (by simp)
/-- A barrier signal brings leave to write the signaller's scatter slot in the first layer. -/
theorem payload_bar (c : Dev nD) (r : ℕ) (d : Fin 32) : (Rd P).payload (barCell c) r d = rsReady 0 d c := rfl
/-- What a copy's payment brings. -/
theorem payload_dma (c : Dev nD) (k : Fin 4) (s : Fin 32) (r : ℕ) (d : Fin 32) : (Rd P).payload (dcell c k s) r d = dmaPay P c k s r := by
  dsimp only [Rd]; rw [role_csem]

/-- A barrier cell expects thirty-one in its only round. -/
theorem expect_bar (c : Dev nD) : (Rd P).expect (barCell c) 0 = 31 := by
  unfold Schedule.expect Schedule.amountOf
  rw [duties_bar, Finset.sum_congr rfl fun d _ => amount_bar P c 0 d, Finset.sum_const, Finset.card_erase_of_mem (Finset.mem_univ _), smul_eq_mul]
  rfl
/-- A copy's cell for a peer expects one slot's credit in each of its rounds. -/
theorem expect_dma {c : Dev nD} {k : Fin 4} {s : Fin 32} {r : ℕ} (hs : s ≠ c) (hr : r < rounds k) : (Rd P).expect (dcell c k s) r = N := by
  unfold Schedule.expect Schedule.amountOf
  rw [duties_dma P hs hr, Finset.sum_singleton, amount_dma]

/-! ## Levels -/

/-- The rounds waits and credits on a TensorCore's cells are indexed by. -/
def L (g : GSem nD τ sig) : Finset ℕ := if g.1.2 = .tc then Finset.range 3 else ∅

/-- The order of the waits: staging and the copies' sources first, then the barrier, then scatter and gather, layer
    after layer. -/
def lv (g : GSem nD τ sig) (r : ℕ) : ℕ := match role g.2 with
  | none => 0
  | some none => 1
  | some (some (k, _)) => match k with
    | 0 => 0
    | 1 => 0
    | 2 => 2 + 2 * r
    | 3 => 3 + 2 * r

/-- Only tensor cores have levels. -/
theorem L_of_ne (g : GSem nD τ sig) (h : g.1.2 ≠ .tc) : L g = ∅ := if_neg h
/-- A tensor core's cells have levels for three rounds. -/
theorem mem_L (c : Dev nD) (sm : SemLoc sig) {r : ℕ} : r ∈ L ((c : Thread nD τ), sm) ↔ r < 3 := by
  rw [show L ((c : Thread nD τ), sm) = Finset.range 3 from if_pos rfl, Finset.mem_range]
/-- The barrier's level is one. -/
theorem lv_bar (c : Dev nD) (r : ℕ) : lv (barCell c) r = 1 := rfl
/-- A departure's level is zero; an arrival's grows with the layer, the scatter's before the gather's. -/
theorem lv_dma (c : Dev nD) (k : Fin 4) (s : Fin 32) (r : ℕ) :
    lv (dcell c k s) r = match k with | 0 => 0 | 1 => 0 | 2 => 2 + 2 * r | 3 => 3 + 2 * r := by
  dsimp only [lv]; rw [role_csem]

end Contents

end Cert.Exchange
-- ==== Proof.Landing.lean ====
/-
What lands where: the contents of a slot after a copy into it, or after the device's own store, are the
contents the schedule names.
-/
module

public import proofs.«01_k».proof.Proof.Schedule

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (P : ℕ → Dev nD → Slab F)

/-- A copy of slot `s` of device `c`'s partial products into slot `c` of device `s` leaves there what the scatter
    is to leave there. -/
theorem land_rs (r : ℕ) (c s : Dev nD) (fd : Slab F) (i : S32x8x256.Idx) (hi : i ∈ slot c) :
    (slotAt rsM c).view.write (Elt F) fd ((slotAt partM s).view.read (Elt F) (P r c)) Finset.univ i = rsB P r s i := by
  obtain ⟨x, rfl⟩ := exists_under hi
  refine ((slotAt rsM c).view.write_emb_of_mem (Val := Elt F) fd _ (Finset.mem_univ x)).trans ?_
  show P r c (place s (under x)) = P r (slotOf (place c (under x))) (place s (tail (place c (under x))))
  rw [slotOf_place, tail_place]

/-- A copy of device `c`'s sum into slot `c` leaves there what the gather is to leave there. -/
theorem land_ag (r : ℕ) (c : Dev nD) (fd : Slab F) (i : S32x8x256.Idx) (hi : i ∈ slot c) :
    (slotAt agM c).view.write (Elt F) fd ((redM : Memref sig .tc .vmem S8x256 .bf16).view.read (Elt F) (redB P r c)) Finset.univ i = agB P r i := by
  obtain ⟨x, rfl⟩ := exists_under hi
  refine ((slotAt agM c).view.write_emb_of_mem (Val := Elt F) fd _ (Finset.mem_univ x)).trans ?_
  show redB P r c x = redB P r (slotOf (place c (under x))) (Shape.reshapeEquiv _ (tail (place c (under x))))
  rw [slotOf_place, tail_place, under, Shape.reshapeEquiv_reshapeEquiv, Shape.reshapeEquiv_self]

/-- Copying the own chunk through a register changes nothing. -/
theorem pay6_eq (v : FVec F S1x8x256 .bf16) : k0_pay6 v = v := by
  funext y
  show v (Shape.reshapeEquiv _ (Shape.reshapeEquiv _ y)) = v y
  rw [Shape.reshapeEquiv_reshapeEquiv, Shape.reshapeEquiv_self]

/-- The own chunk of the partial products, read and stored in the own slot. -/
theorem own_rs (r : ℕ) (c : Dev nD) (fd : Slab F) (i : S32x8x256.Idx) (hi : i ∈ slot c) :
    ((rsM : Memref sig .tc .vmem S32x8x256 .bf16).access (ownR c)).write (Elt F) fd
      (k0_pay6 ((partM : Memref sig .tc .vmem S32x8x256 .bf16).view.readAt (Elt F) (ownR c).toLoadRect (P r c))) Finset.univ i = rsB P r c i := by
  obtain ⟨x, rfl⟩ := exists_under hi
  rw [pay6_eq]
  have h := (((rsM : Memref sig .tc .vmem S32x8x256 .bf16).access (ownR c)).write_emb_of_mem (Val := Elt F) fd
    ((partM : Memref sig .tc .vmem S32x8x256 .bf16).view.readAt (Elt F) (ownR c).toLoadRect (P r c)) (Finset.mem_univ (under x)))
  rw [show ((rsM : Memref sig .tc .vmem S32x8x256 .bf16).access (ownR c)).emb (under x) = place c (under x) from ownR_emb c _] at h
  refine h.trans ?_
  show P r c ((ownR c).emb (under x)) = P r (slotOf (place c (under x))) (place c (tail (place c (under x))))
  rw [ownR_emb, slotOf_place, tail_place]

/-- The own sum stored in the own slot of the gather. -/
theorem own_ag (r : ℕ) (c : Dev nD) (fd : Slab F) (i : S32x8x256.Idx) (hi : i ∈ slot c) :
    ((agM : Memref sig .tc .vmem S32x8x256 .bf16).access (ownR c)).write (Elt F) fd (k0_pay8 (redB P r c)) Finset.univ i = agB P r i := by
  obtain ⟨x, rfl⟩ := exists_under hi
  have h := (((agM : Memref sig .tc .vmem S32x8x256 .bf16).access (ownR c)).write_emb_of_mem (Val := Elt F) fd
    (k0_pay8 (redB P r c)) (Finset.mem_univ (under x)))
  rw [show ((agM : Memref sig .tc .vmem S32x8x256 .bf16).access (ownR c)).emb (under x) = place c (under x) from ownR_emb c _] at h
  refine h.trans ?_
  show k0_pay8 (redB P r c) (under x) = k0_pay8 (redB P r (slotOf (place c (under x)))) (tail (place c (under x)))
  rw [slotOf_place, tail_place]

end

end Cert.Exchange
-- ==== Proof.Owing.lean ====
/-
What a device owes, as lists of peers still to be paid, and why it may wait while it owes it: a loop over the
peers pays one summand a step, and everything still owed sits above the wait.
-/
module

public import proofs.«01_k».proof.Proof.Schedule

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The peers of a loop -/

/-- The peers a loop over the list `l` runs its step for. -/
def peers (c : Dev nD) (l : List (Fin 32)) : Finset (Fin 32) := l.toFinset.filter (· ≠ c)

/-- The peers in a list are its members other than the device itself. -/
theorem mem_peers {c : Dev nD} {l : List (Fin 32)} {s : Fin 32} : s ∈ peers c l ↔ s ∈ l ∧ s ≠ c := by
  rw [peers, Finset.mem_filter, List.mem_toFinset]
/-- An empty list has no peers. -/
theorem peers_nil (c : Dev nD) : peers c [] = ∅ := rfl
/-- The device itself is skipped. -/
theorem peers_cons_own (c : Dev nD) (l : List (Fin 32)) : peers c (c :: l) = peers c l := by
  ext s; rw [mem_peers, mem_peers, List.mem_cons]
  exact ⟨fun h => ⟨h.1.resolve_left h.2, h.2⟩, fun h => ⟨Or.inr h.1, h.2⟩⟩
/-- Another device at the head of a list is one more peer. -/
theorem peers_cons {c s : Fin 32} (l : List (Fin 32)) (h : s ≠ c) : peers c (s :: l) = insert s (peers c l) := by
  ext s'; rw [mem_peers, Finset.mem_insert, mem_peers, List.mem_cons]
  constructor
  · rintro ⟨rfl | h1, h2⟩
    · exact Or.inl rfl
    · exact Or.inr ⟨h1, h2⟩
  · rintro (rfl | h1)
    · exact ⟨Or.inl rfl, h⟩
    · exact ⟨Or.inr h1.1, h1.2⟩
/-- A device outside a list is not among its peers. -/
theorem not_mem_peers {c s : Fin 32} {l : List (Fin 32)} (h : s ∉ l) : s ∉ peers c l := fun h' => h (mem_peers.mp h').1

/-- The first sixteen peers, the other sixteen, all. -/
abbrev lo : List (Fin 32) := span 0 16
/-- The sixteen devices of the upper half. -/
abbrev hi : List (Fin 32) := span 16 16
/-- All thirty-two devices. -/
abbrev all : List (Fin 32) := span 0 32

/-- The lower half names each of its devices once. -/
theorem lo_nodup : lo.Nodup := by decide
/-- The upper half names each of its devices once. -/
theorem hi_nodup : hi.Nodup := by decide
/-- The list of all devices names each once. -/
theorem all_nodup : all.Nodup := by decide
/-- The lower half is the devices below sixteen. -/
theorem mem_lo : ∀ s : Fin 32, s ∈ lo ↔ s.val < 16 := by decide
/-- The upper half is the devices from sixteen on. -/
theorem mem_hi : ∀ s : Fin 32, s ∈ hi ↔ ¬ s.val < 16 := by decide
/-- Every device is in the list of all. -/
theorem mem_all : ∀ s : Fin 32, s ∈ all := by decide

/-- All the peers of a device are the devices other than it. -/
theorem peers_all (c : Dev nD) : peers c all = Finset.univ.erase c := by
  ext s; rw [mem_peers, Finset.mem_erase]; exact ⟨fun h => ⟨h.2, Finset.mem_univ _⟩, fun h => ⟨mem_all s, h.1⟩⟩
/-- The peers in the lower half and those in the upper half are apart. -/
theorem peers_disjoint (c : Dev nD) : Disjoint (peers c lo) (peers c hi) :=
  Finset.disjoint_left.mpr fun s h h' => (mem_hi s).mp (mem_peers.mp h').1 ((mem_lo s).mp (mem_peers.mp h).1)
/-- The peers in the two halves are all the peers. -/
theorem peers_union (c : Dev nD) : peers c lo ∪ peers c hi = peers c all := by
  ext s; rw [Finset.mem_union, mem_peers, mem_peers, mem_peers, mem_lo, mem_hi]
  have := mem_all s
  tauto

/-! ## What is owed -/

/-- What the loop over `l` still owes: `f s` for each `s` of it. -/
def owedL (f : Fin 32 → CellTallies nD τ sig ℕ) : List (Fin 32) → CellTallies nD τ sig ℕ
  | [] => 0
  | s :: l => owedL f l + f s

/-- The copies of the scatter of round `r`, by destination; of the gather. -/
def rsDue (c : Dev nD) (r : ℕ) (s : Fin 32) : CellTallies nD τ sig ℕ := if s = c then 0 else tallyAt (dcell s 2 c) r N
/-- The credit a device owes to peer `s` for the gather of layer `r`; nothing to itself. -/
def agDue (c : Dev nD) (r : ℕ) (s : Fin 32) : CellTallies nD τ sig ℕ := if s = c then 0 else tallyAt (dcell s 3 c) r N

/-- The device `j` places on. -/
def onDev (c : Dev nD) (j : Fin 32) : Dev nD := ⟨(c.val + j.val) % 32, Nat.mod_lt _ (by decide)⟩
/-- A signal to the device `j` places on. -/
def barDue (c : Dev nD) (j : Fin 32) : CellTallies nD τ sig ℕ := tallyAt (barCell (onDev c j)) 0 1

/-- What is owed when layer `r` has yet to send its sums and, after that, the next partial products, and `O` after. -/
def layerOwed (c : Dev nD) (r : ℕ) (O : CellTallies nD τ sig ℕ) : CellTallies nD τ sig ℕ :=
  ((O + owedL (rsDue c (r + 1)) hi) + owedL (rsDue c (r + 1)) lo) + owedL (agDue c r) all

/-- What a device owes at launch: the signals first, then the first scatter, then the two layers. -/
def owedAfterBar (c : Dev nD) : CellTallies nD τ sig ℕ :=
  (layerOwed c 0 (layerOwed c 1 0) + owedL (rsDue c 0) hi) + owedL (rsDue c 0) lo
/-- All that a device owes at the start: its barrier signals, and what it owes after the barrier. -/
def owedAtStart (c : Dev nD) : CellTallies nD τ sig ℕ := owedAfterBar c + owedL (barDue c) (span 1 31)

/-- Everything in `O` sits above level `n`. -/
def Above (n : ℕ) (O : CellTallies nD τ sig ℕ) : Prop := ∀ g u, 0 < O g u → u ∈ L g ∧ n < lv g u

/-- Owing nothing, a device may wait at any level. -/
theorem above_zero (n : ℕ) : Above n 0 := fun g u h => absurd h (Nat.lt_irrefl 0)
/-- Two debts above a level are above it together. -/
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt above a level is above every lower one. -/
theorem Above.mono {n n' : ℕ} {O : CellTallies nD τ sig ℕ} (h : Above n O) (hn : n' ≤ n) : Above n' O := fun g u hg =>
  ⟨(h g u hg).1, Nat.lt_of_le_of_lt hn (h g u hg).2⟩
/-- A listed debt is above a level if each of its entries is. -/
theorem above_owedL {n : ℕ} {f : Fin 32 → CellTallies nD τ sig ℕ} (h : ∀ s, Above n (f s)) : ∀ l, Above n (owedL f l)
  | [] => above_zero n
  | s :: l => (above_owedL h l).add (h s)
/-- Credit owed to a single cell is above a level if the cell's level is. -/
theorem above_tallyAt {n : ℕ} {g : GSem nD τ sig} {r k : ℕ} (hL : r ∈ L g) (h : n < lv g r) : Above n (tallyAt g r k) := fun g' u hg => by
  rw [tallyAt_apply] at hg
  by_cases e : g' = g ∧ u = r
  · obtain ⟨rfl, rfl⟩ := e; exact ⟨hL, h⟩
  · rw [if_neg e] at hg; exact absurd hg (Nat.lt_irrefl 0)
/-- What is owed for the scatter of layer `r` is above every level below `2 + 2 * r`. -/
theorem above_rsDue {n : ℕ} (c : Dev nD) {r : ℕ} (hr : r < 3) (h : n < 2 + 2 * r) (s : Fin 32) : Above n (rsDue c r s) := by
  unfold rsDue; split
  · exact above_zero n
  · exact above_tallyAt ((mem_L _ _).mpr hr) (by rw [lv_dma]; exact h)
/-- What is owed for the gather of layer `r` is above every level below `3 + 2 * r`. -/
theorem above_agDue {n : ℕ} (c : Dev nD) {r : ℕ} (hr : r < 3) (h : n < 3 + 2 * r) (s : Fin 32) : Above n (agDue c r s) := by
  unfold agDue; split
  · exact above_zero n
  · exact above_tallyAt ((mem_L _ _).mpr hr) (by rw [lv_dma]; exact h)
/-- What is owed from a layer's gather on is above every level below `3 + 2 * r`, if what is owed after it is. -/
theorem above_layerOwed {n : ℕ} (c : Dev nD) {r : ℕ} (hr : r < 2) (h : n < 3 + 2 * r) {O : CellTallies nD τ sig ℕ} (hO : Above n O) :
    Above n (layerOwed c r O) :=
  ((hO.add (above_owedL (above_rsDue c (by omega) (by omega)) _)).add (above_owedL (above_rsDue c (by omega) (by omega)) _)).add
    (above_owedL (above_agDue c (by omega) h) _)
/-- What is owed after the barrier is above the barrier's level. -/
theorem above_afterBar (c : Dev nD) : Above 1 (owedAfterBar c) :=
  ((above_layerOwed c (by omega) (by omega) (above_layerOwed c (by omega) (by omega) (above_zero _))).add
    (above_owedL (above_rsDue c (by omega) (by omega)) _)).add (above_owedL (above_rsDue c (by omega) (by omega)) _)
/-- Everything owed at the start is above level zero. -/
theorem above_atStart (c : Dev nD) : Above 0 (owedAtStart c) :=
  ((above_afterBar c).mono (by omega)).add (above_owedL (fun j => above_tallyAt ((mem_L _ _).mpr (by omega)) (by rw [lv_bar]; omega)) _)

/-- A device may wait on a cell at or below level `n` while everything it owes sits above. -/
theorem mayWait {n : ℕ} {O : CellTallies nD τ sig ℕ} (c : Dev nD) (sm : SemLoc sig) {r : ℕ} (hr : r < 3)
    (hlv : lv ((c : Thread nD τ), sm) r ≤ n) (hO : Above n O) : (levAts L lv : sProp (MM F)) ⊢ MayWait (c : Thread nD τ) sm r O :=
  MayOwe.of_cut (L := L) (lev := lv) n (fun p hp => by rw [Finset.mem_singleton.mp hp]; exact (mem_L c sm).mpr hr)
    (fun g u h => (hO g u h).1) (fun p hp => by rw [Finset.mem_singleton.mp hp]; exact hlv) (fun g u h => (hO g u h).2)

/-- What a device owes, whatever it waited for before. -/
def owesE (c : Dev nD) (O : CellTallies nD τ sig ℕ) : sProp (MM F) := iprop(∃ W, owes (c : Thread nD τ) O W)

end Cert.Exchange
-- ==== Proof.Each.lean ====
/-
The loops' rules: a loop over the peers from a rule for its step, then the steps themselves — a signal, the
waits, the two kinds of copies — each proved once for a symbolic device and peer.
-/
module

public import proofs.«01_k».proof.Proof.Landing
public import proofs.«01_k».proof.Proof.Owing

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One index more, two index sets, all but one: the separating conjunctions over them, written with the proof mode's
    connective. -/
theorem sep_insert {I : Type} [DecidableEq I] {S : Finset I} {i : I} (h : i ∉ S) (A : I → sProp (MM F)) :
    bigSep (insert i S) A = iprop(A i ∗ bigSep S A) := BI.bigSep_insert h
/-- A separating product over a disjoint union is the two products side by side. -/
theorem sep_union {I : Type} [DecidableEq I] {S T : Finset I} (h : Disjoint S T) (A : I → sProp (MM F)) :
    bigSep (S ∪ T) A = iprop(bigSep S A ∗ bigSep T A) := BI.bigSep_union h
/-- A separating product with one of its members taken out. -/
theorem sep_erase {I : Type} [DecidableEq I] {S : Finset I} {i : I} (h : i ∈ S) (A : I → sProp (MM F)) :
    bigSep S A = iprop(A i ∗ bigSep (S.erase i) A) := BI.bigSep_erase h

/-- No loop of the kernel needs a variant. -/
abbrev 𝒱₀ : Variants := Variants.none

/-- The device's program `p` runs safely and ends in `Q`. -/
abbrev Runs {α : Type} (c : Dev nD) (p : TcProg F α) (Q : α → sProp (MM F)) : sProp (MM F) :=
  wp frame (wpE (defs₀ (F := F)) 𝒱₀ (c : Thread nD τ) none) Set.univ p Q

/-- A loop from its step: every peer's step turns `A s` into `B s` and the running resource `I` at the list that
    starts with `s` into `I` at the rest. -/
theorem wp_each {α : Type} (c : Dev nD) (e : Fin 32 → TpuEff nD τ sig (Elt F) Λ₀ .tc PUnit) (C : sProp (MM F)) [BI.Persistent C]
    (A B : Fin 32 → sProp (MM F)) (I : List (Fin 32) → sProp (MM F)) (k : TcProg F α) (Q : α → sProp (MM F))
    (hstep : ∀ s l (k : TcProg F α), s ≠ c → iprop(C ∗ A s ∗ I (s :: l)) ⊢ iprop(((B s ∗ I l) -∗ Runs c k Q) -∗ Runs c (.op (e s) fun _ => k) Q))
    (hskip : ∀ l, I (c :: l) ⊢ I l) :
    ∀ l : List (Fin 32), l.Nodup →
      iprop(C ∗ bigSep (peers c l) A ∗ I l) ⊢ iprop(((bigSep (peers c l) B ∗ I []) -∗ Runs c k Q) -∗ Runs c (each l e c k) Q)
  | [], _ => by
    rw [peers_nil, bigSep_empty, bigSep_empty]
    iintro ⟨#HC, -, HI⟩ Hk
    iapply Hk
    isplitr; · iempintro
    iexact HI
  | s :: l, hl => by
    have hs := (List.nodup_cons.mp hl).1
    have ih := wp_each c e C A B I k Q hstep hskip l (List.nodup_cons.mp hl).2
    by_cases h : s = c
    · subst h
      rw [peers_cons_own]
      have hp : each (s :: l) e s k = each l e s k := by
        show guarded _ _ _ = _
        exact dif_neg fun h' => (isPeer_iff s s).mp h' rfl
      rw [hp]
      exact (sep_mono_right (sep_mono_right (hskip l))).trans ih
    · have hp : each (s :: l) e c k = .op (e s) fun _ => each l e c k := by
        show guarded _ _ _ = _
        exact dif_pos ((isPeer_iff c s).mpr fun h' => h (Fin.ext h'))
      rw [hp, peers_cons l h, sep_insert (not_mem_peers hs), sep_insert (not_mem_peers hs)]
      iintro ⟨#HC, ⟨HA, HAs⟩, HI⟩ Hk
      iapply (hstep s l _ h) $$ [HA HI]
      · isplitr; · iexact HC
        isplitl [HA] <;> iassumption
      iintro ⟨HB, HI⟩
      iapply ih $$ [HAs HI]
      · isplitr; · iexact HC
        isplitl [HAs] <;> iassumption
      iintro ⟨HBs, HI⟩
      iapply Hk
      isplitr [HI]
      · isplitl [HB] <;> iassumption
      iexact HI

section
variable (P : ℕ → Dev nD → Slab F) (K : Dev nD × Role → ℕ)

/-- The invariants of all the cells, and the levels. -/
def ctx : sProp (MM F) := iprop((bigSep Finset.univ fun x => cellInv ER (Rd P) (K x) (kcell x)) ∗ levAts L lv)

instance ctx_persistent : BI.Persistent (ctx P K) := by unfold ctx; infer_instance

/-- The context holds the invariant of every cell. -/
theorem ctx_inv (x : Dev nD × Role) : ctx P K ⊢ cellInv ER (Rd P) (K x) (kcell x) := by
  unfold ctx
  exact sep_elim_left.trans (bigSep_elim (Finset.mem_univ x))
/-- The context holds the levels of all cells. -/
theorem ctx_lev : ctx P K ⊢ (levAts L lv : sProp (MM F)) := by unfold ctx; exact sep_elim_right

/-- What a signal to device `d` spends: the token of the duty, what it hands over, and that the barrier has begun. -/
def sigRes (c d : Dev nD) : sProp (MM F) := iprop(dutyTok ER (barCell d) 0 c ∗ rsReady 0 c d ∗ reached ER (barCell d) 0)

/-- The device `j` steps on is another device, unless `j` is zero. -/
theorem onDev_ne (c : Dev nD) (j : Fin 32) (hj : j.val ≠ 0) : onDev c j ≠ c := fun h => by
  have := congrArg Fin.val h
  simp only [onDev] at this
  have := j.isLt; have := c.isLt
  omega

/-- The run of signals. -/
theorem wp_signals {α : Type} (c : Dev nD) (k : TcProg F α) (Q : α → sProp (MM F)) (O : CellTallies nD τ sig ℕ) :
    ∀ l : List (Fin 32), l.Nodup → (∀ j ∈ l, j.val ≠ 0) →
      iprop(ctx P K ∗ (bigSep l.toFinset fun j => sigRes c (onDev c j)) ∗ owesE c (O + owedL (barDue c) l))
        ⊢ iprop((owesE c O -∗ Runs c k Q) -∗ Runs c (signals c l k) Q)
  | [], _, _ => by
    show iprop(_ ∗ _ ∗ owesE c (O + 0)) ⊢ _
    rw [add_zero]
    iintro ⟨#HC, -, HO⟩ Hk
    iapply Hk
    iexact HO
  | j :: l, hl, h0 => by
    have ih := wp_signals c k Q O l (List.nodup_cons.mp hl).2 fun i hi => h0 i (List.mem_cons_of_mem _ hi)
    have hp : signals c (j :: l) k = .op (.semSignal (onDev c j, .tc) barS (1#32 : BitVec 32).toInt) (fun _ => signals c l k) := by
      rw [← show (⟨(onWord c j).toNat, onWord_lt c j⟩ : Dev nD) = onDev c j from Fin.ext (onWord_toNat c j)]
      rfl
    rw [hp, List.toFinset_cons, sep_insert (by rw [List.mem_toFinset]; exact (List.nodup_cons.mp hl).1)]
    iintro ⟨#HC, ⟨HA, HAs⟩, HO⟩ Hk
    unfold owesE sigRes
    icases HO with ⟨%W, HO⟩
    icases HA with ⟨Ht, Hp, #Hr⟩
    iapply (Rounds.wp_signal 𝒱₀ ER (Rd P) (c : Thread nD τ) none (dst := (onDev c j : Thread nD τ)) (κ := K (onDev c j, none))
        (r := 0) (d := c) (show c ∈ Finset.univ.erase (onDev c j) from Finset.mem_erase.mpr ⟨(onDev_ne c j (h0 j List.mem_cons_self)).symm, Finset.mem_univ _⟩)
        ((amount_bar P (onDev c j) 0 c).trans (by decide)) 0 (O + owedL (barDue c) l) (add_assoc _ _ _).symm (W := W)) $$ [HO Ht Hp]
    · isplitr; · iapply (ctx_inv P K (onDev c j, none)); iexact HC
      isplitl [HO]; · iexact HO
      isplitl [Ht]; · iexact Ht
      isplitl [Hp]; · iapply (show rsReady (F := F) 0 c (onDev c j) ⊢ (Rd P).payload ((onDev c j : Thread nD τ), .reg barS) 0 c from Entails.rfl); iexact Hp
      iexact Hr
    iintro HO
    iapply ih $$ [HAs HO]
    · isplitr; · iexact HC
      isplitl [HAs]; · unfold sigRes; iexact HAs
      unfold owesE; iexists W; iexact HO
    iexact Hk

/-- The wait on the barrier: every peer's slot for the first scatter. -/
theorem wp_barWait {α : Type} (c : Dev nD) (k : TcProg F α) (Q : α → sProp (MM F)) (O : CellTallies nD τ sig ℕ) (hO : Above 1 O) :
    iprop(ctx P K ∗ cred (tallyAt (barCell c) 0 31) ∗ owesE c O ∗ atPos ER (barCell c) 0 ∅ 0)
      ⊢ iprop(((owesE c O ∗ atPos ER (barCell c) 1 ∅ 0 ∗ bigSep (peers c all) fun s => rsReady 0 s c) -∗ Runs c k Q)
          -∗ Runs c (.op barWait fun _ => k) Q) := by
  unfold owesE
  iintro ⟨#HC, Hc, ⟨%W, HO⟩, Ha⟩ Hk
  iapply (Rounds.wp_wait_rest_token 𝒱₀ ER (Rd P) (c : Thread nD τ) none (κ := K (c, none))
      (wpE_semWait_eq 𝒱₀ (c : Thread nD τ) none Set.univ) (Set.mem_univ _) 0 (O := O) (W := W) (R := 0) (m := 0) (T := ∅)
      ((show 0 + (31#32 : BitVec 32).toInt.toNat = 31 by decide).trans (expect_bar P c).symm)) $$ [Hc HO Ha]
  · isplitr; · iapply (ctx_inv P K (c, none)); iexact HC
    isplitl [Hc]; · iexact Hc
    isplitl [HO]; · iexact HO
    isplitr
    · iapply (mayWait (n := 1) c (.reg barS) (by omega) (by exact le_refl 1) hO)
      iapply (ctx_lev P K); iexact HC
    iexact Ha
  iintro ⟨HO, Ha, -, Hp⟩
  iapply Hk
  isplitl [HO]; · iexists _; iexact HO
  isplitl [Ha]; · iexact Ha
  ihave Hp' := (Entails.of_eq (show bigSep ((Rd P).duties ((c : Thread nD τ), .reg barS) 0 \ ∅) (fun d => (Rd P).payload ((c : Thread nD τ), .reg barS) 0 d)
      = bigSep (peers c all) fun s => rsReady 0 s c by
    rw [peers_all, Finset.sdiff_empty]; exact congrArg (fun S => bigSep S fun s => rsReady 0 s c) (duties_bar P c))) $$ Hp
  iexact Hp'

/-- No family of semaphores has more than three rounds. -/
theorem rounds_le : ∀ k, rounds k ≤ 3 := by decide

/-- The payload of a round of a copy's semaphore. -/
theorem rest_dma {c : Dev nD} {k : Fin 4} {s : Fin 32} (hs : s ≠ c) {r : ℕ} (hr : r < rounds k) :
    bigSep ((Rd P).duties ((c : Thread nD τ), .dma (dsem k s)) r \ ∅) (fun d => (Rd P).payload ((c : Thread nD τ), .dma (dsem k s)) r d) = dmaPay P c k s r := by
  rw [Finset.sdiff_empty, show (Rd P).duties ((c : Thread nD τ), .dma (dsem k s)) r = {0} from duties_dma P hs hr, bigSep_singleton]
  exact payload_dma P c k s r 0

/-- A wait on one of the copies' semaphores: what the copy hands over. -/
theorem wp_dmaWait {α : Type} (c : Dev nD) (k : Fin 4) (s : Fin 32) (hs : s ≠ c) (r : ℕ) (hr : r < rounds k)
    {w : TpuEff nD τ sig (Elt F) Λ₀ .tc PUnit}
    (hw : ∀ X : PUnit → sProp (MM F), wpE (defs₀ (F := F)) 𝒱₀ (c : Thread nD τ) none Set.univ w X = waitSpec (c : Thread nD τ) Set.univ (.dma (dsem k s)) N X)
    (p : TcProg F α) (Q : α → sProp (MM F)) (O : CellTallies nD τ sig ℕ) {n : ℕ} (hO : Above n O) (hn : lv (dcell c k s) r ≤ n) :
    iprop(ctx P K ∗ (cred (tallyAt (dcell c k s) r N) ∗ atPos ER (dcell c k s) r ∅ 0) ∗ owesE c O)
      ⊢ iprop((((atPos ER (dcell c k s) (r + 1) ∅ 0 ∗ reached ER (dcell c k s) (r + 1) ∗ dmaPay P c k s r) ∗ owesE c O) -∗ Runs c p Q)
          -∗ Runs c (.op w fun _ => p) Q) := by
  unfold owesE
  have h3 : rounds k ≤ 3 := rounds_le k
  iintro ⟨#HC, ⟨Hc, Ha⟩, ⟨%W, HO⟩⟩ Hk
  iapply (Rounds.wp_wait_rest_token 𝒱₀ ER (Rd P) (c : Thread nD τ) none (κ := K (c, some (k, s))) hw
      (Set.mem_univ _) r (O := O) (W := W) (R := r) (m := 0) (T := ∅)
      (by rw [Nat.zero_add]; exact (expect_dma P hs hr).symm)) $$ [Hc HO Ha]
  · isplitr; · iapply (ctx_inv P K (c, some (k, s))); iexact HC
    isplitl [Hc]; · iexact Hc
    isplitl [HO]; · iexact HO
    isplitr
    · iapply (mayWait c (.dma (dsem k s)) (by omega) hn hO)
      iapply (ctx_lev P K); iexact HC
    iexact Ha
  iintro ⟨HO, Ha, Hr, Hp⟩
  iapply Hk
  isplitr [HO]
  · isplitl [Ha]; · iexact Ha
    isplitl [Hr]; · iexact Hr
    ihave Hp' := (Entails.of_eq (rest_dma P hs hr)) $$ Hp
    iexact Hp'
  iexists _; iexact HO

end

end Cert.Exchange
-- ==== Proof.Sends.lean ====
/-
The copies and the waits of the exchange as rules for whole loops.
-/
module

public import proofs.«01_k».proof.Proof.Each

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (P : ℕ → Dev nD → Slab F) (K : Dev nD × Role → ℕ)

/-- A loop's peer that is the device itself pays nothing. -/
theorem owed_skip_rs (c : Dev nD) (r : ℕ) (O : CellTallies nD τ sig ℕ) (l : List (Fin 32)) :
    owesE (F := F) c (O + owedL (rsDue c r) (c :: l)) ⊢ owesE c (O + owedL (rsDue c r) l) :=
  Entails.of_eq (congrArg (fun o => owesE (F := F) c (O + o)) (by
    show owedL (rsDue c r) l + rsDue c r c = _
    rw [show rsDue c r c = 0 from if_pos rfl, add_zero]))
/-- A device owes itself nothing for a gather. -/
theorem owed_skip_ag (c : Dev nD) (r : ℕ) (O : CellTallies nD τ sig ℕ) (l : List (Fin 32)) :
    owesE (F := F) c (O + owedL (agDue c r) (c :: l)) ⊢ owesE c (O + owedL (agDue c r) l) :=
  Entails.of_eq (congrArg (fun o => owesE (F := F) c (O + o)) (by
    show owedL (agDue c r) l + agDue c r c = _
    rw [show agDue c r c = 0 from if_pos rfl, add_zero]))

/-- The words of a scatter's copy named: from slot `s` here to slot `c` there. -/
theorem rsSend_eq (c : Dev nD) (s : Fin 32) : rsSend (F := F) c s =
    .enqueueDma (slotAt partM s) (.remote (Dev.tc (s : Dev nD)) (slotAt rsM c) (.dma (dsem 0 s))) (.dma (dsem 2 c))
      (rowAt_wordExact (Memref.isWhole_whole _) (rowWords s)) (rowAt_wordExact (Memref.isWhole_whole _) (rowWords c)) ⟨⟨rfl, Or.inl rfl⟩, trivial⟩ := by
  have h : ∀ (n m : ℕ) (hn : n < nD) (hm) (hm') (hw), n = s.val → m = c.val →
      (.enqueueDma (rowAt partM (rowOff s.val) (rowIn s))
        (.remote (Dev.tc (⟨n, hn⟩ : Dev nD)) (rowAt rsM (rowOff m) hm) (.dma (semAt rsSndA (semOff s.val) (semIn s))))
        (.dma (semAt rsRcvA (semOff m) hm'))
        (rowAt_wordExact (Memref.isWhole_whole _) (rowWords s)) (rowAt_wordExact (Memref.isWhole_whole _) hw) ⟨⟨rfl, Or.inl rfl⟩, trivial⟩
        : TpuEff nD τ sig (Elt F) Λ₀ .tc PUnit) =
      .enqueueDma (slotAt partM s) (.remote (Dev.tc (s : Dev nD)) (slotAt rsM c) (.dma (dsem 0 s))) (.dma (dsem 2 c))
        (rowAt_wordExact (Memref.isWhole_whole _) (rowWords s)) (rowAt_wordExact (Memref.isWhole_whole _) (rowWords c)) ⟨⟨rfl, Or.inl rfl⟩, trivial⟩ := by
    rintro _ _ _ _ _ _ rfl rfl; rfl
  exact h _ _ (peerWord_lt s) (myRowIn c) (mySemIn c) (myRowWords c) (peerWord_toNat s) (myWord_toNat c)

/-- The words of a gather's copy named: from the sum here to slot `c` there. -/
theorem agSend_eq (c : Dev nD) (s : Fin 32) : agSend (F := F) c s =
    .enqueueDma redM (.remote (Dev.tc (s : Dev nD)) (slotAt agM c) (.dma (dsem 1 s))) (.dma (dsem 3 c))
      (Memref.isWhole_whole _).wordExact (rowAt_wordExact (Memref.isWhole_whole _) (rowWords c)) ⟨⟨rfl, Or.inl rfl⟩, trivial⟩ := by
  have h : ∀ (n m : ℕ) (hn : n < nD) (hm) (hm') (hw), n = s.val → m = c.val →
      (.enqueueDma redM
        (.remote (Dev.tc (⟨n, hn⟩ : Dev nD)) (rowAt agM (rowOff m) hm) (.dma (semAt agSndA (semOff s.val) (semIn s))))
        (.dma (semAt agRcvA (semOff m) hm'))
        (Memref.isWhole_whole _).wordExact (rowAt_wordExact (Memref.isWhole_whole _) hw) ⟨⟨rfl, Or.inl rfl⟩, trivial⟩
        : TpuEff nD τ sig (Elt F) Λ₀ .tc PUnit) =
      .enqueueDma redM (.remote (Dev.tc (s : Dev nD)) (slotAt agM c) (.dma (dsem 1 s))) (.dma (dsem 3 c))
        (Memref.isWhole_whole _).wordExact (rowAt_wordExact (Memref.isWhole_whole _) (rowWords c)) ⟨⟨rfl, Or.inl rfl⟩, trivial⟩ := by
    rintro _ _ _ _ _ _ rfl rfl; rfl
  exact h _ _ (peerWord_lt s) (myRowIn c) (mySemIn c) (myRowWords c) (peerWord_toNat s) (myWord_toNat c)

/-- The tokens of the two duties a copy pays: at its source and at its destination. -/
def rsTok (r : ℕ) (c s : Dev nD) : sProp (MM F) := iprop(dutyTok ER (dcell c 0 s) r 0 ∗ dutyTok ER (dcell s 2 c) r 0)
/-- The tokens for one gathered copy from `c` to `s`: that of its departure and that of its arrival. -/
def agTok (r : ℕ) (c s : Dev nD) : sProp (MM F) := iprop(dutyTok ER (dcell c 1 s) r 0 ∗ dutyTok ER (dcell s 3 c) r 0)

/-- One copy of the scatter. -/
theorem wp_rsSend {α : Type} (c : Dev nD) (r : ℕ) (hr : r < 3) (O : CellTallies nD τ sig ℕ) (Q : α → sProp (MM F)) (s : Fin 32) (l : List (Fin 32)) (k : TcProg F α) (hs : s ≠ c) :
    iprop(ctx P K ∗ (partPts c s (P r c) ∗ rsReady r s c ∗ rsTok r c s ∗ reached ER (dcell c 0 s) r ∗ rsGive r c s) ∗ owesE c (O + owedL (rsDue c r) (s :: l)))
      ⊢ iprop(((cred (tallyAt (dcell c 0 s) r N) ∗ owesE c (O + owedL (rsDue c r) l)) -∗ Runs c k Q) -∗ Runs c (.op (rsSend c s) fun _ => k) Q) := by
  rw [rsSend_eq]
  unfold owesE rsReady rsAny rsTok partPts rsPts
  iintro ⟨#HC, ⟨Hs, ⟨⟨%fd, Hd⟩, Hr2⟩, ⟨Ht1, Ht2⟩, Hr1, Hg⟩, ⟨%W, HO⟩⟩ Hk
  iapply (Rounds.wp_send_pointsTo_with 𝒱₀ ER (Rd P) (c : Thread nD τ) none (c' := (s : Thread nD τ)) (src := slotAt partM s) (dst := slotAt rsM c)
      (κ₁ := K (c, some (0, s))) (κ₂ := K (s, some (2, c))) (q := fullShare) (fs := P r c) (fd := fd) (F := rsGive r c s)
      (r₁ := r) (r₂ := r) (d₁ := 0) (d₂ := 0)
      (show (0 : Fin 32) ∈ (Rd P).duties (dcell c 0 s) r by rw [duties_dma P hs hr]; exact Finset.mem_singleton_self _)
      (show (0 : Fin 32) ∈ (Rd P).duties (dcell s 2 c) r by rw [duties_dma P (Ne.symm hs) hr]; exact Finset.mem_singleton_self _)
      r r N rfl (amount_dma P c 0 s r 0) (amount_dma P s 2 c r 0) (O + owedL (rsDue c r) l)
      (show O + (owedL (rsDue c r) l + rsDue c r s) = _ by rw [show rsDue c r s = tallyAt (dcell s 2 c) r N from if_neg hs]; exact (add_assoc _ _ _).symm) (W := W)
      (Entails.of_eq ((congrArg (fun S : Finset S32x8x256.Idx => (pointsTo ((c : Thread nD τ).loc cc0_scratch0) S fullShare (P r c) : sProp (MM F))) (slotAt_part_set s)).trans (payload_dma P c 0 s r 0).symm))
      (BIBase.Entails.trans (Entails.of_eq (congrArg (fun A : sProp (MM F) => iprop(A ∗ rsGive r c s))
        ((congrArg (fun S : Finset S32x8x256.Idx => (pointsTo ((s : Thread nD τ).loc cc0_scratch2) S fullShare _ : sProp (MM F))) (slotAt_rs_set c)).trans
          (pointsTo_congr fun i hi => land_rs P r c s fd i hi)))) (Entails.of_eq (payload_dma P s 2 c r 0).symm))) $$ [Hs Hd Hg HO Ht1 Ht2 Hr1 Hr2]
  · isplitr; · iapply (ctx_inv P K (c, some (0, s))); iexact HC
    isplitr; · iapply (ctx_inv P K (s, some (2, c))); iexact HC
    isplitl [Hs]
    · iapply (Entails.of_eq (congrArg (fun S : Finset S32x8x256.Idx => (pointsTo ((c : Thread nD τ).loc cc0_scratch0) S fullShare (P r c) : sProp (MM F))) (slotAt_part_set s)).symm)
      iexact Hs
    isplitl [Hd Hg]
    · isplitl [Hd]
      · iapply (Entails.of_eq (congrArg (fun S : Finset S32x8x256.Idx => (pointsTo ((s : Thread nD τ).loc cc0_scratch2) S fullShare fd : sProp (MM F))) (slotAt_rs_set c)).symm)
        iexact Hd
      iexact Hg
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- One copy of the gather. -/
theorem wp_agSend {α : Type} (c : Dev nD) (r : ℕ) (hr : r < 2) (O : CellTallies nD τ sig ℕ) (Q : α → sProp (MM F)) (s : Fin 32) (l : List (Fin 32)) (k : TcProg F α) (hs : s ≠ c) :
    iprop(ctx P K ∗ (redPts c s (redB P r c) ∗ agReady r s c ∗ agTok r c s ∗ reached ER (dcell c 1 s) r ∗ rsReady (r + 1) c s) ∗ owesE c (O + owedL (agDue c r) (s :: l)))
      ⊢ iprop(((cred (tallyAt (dcell c 1 s) r N) ∗ owesE c (O + owedL (agDue c r) l)) -∗ Runs c k Q) -∗ Runs c (.op (agSend c s) fun _ => k) Q) := by
  rw [agSend_eq]
  unfold owesE agReady agAny agTok redPts agPts
  iintro ⟨#HC, ⟨Hs, ⟨⟨%fd, Hd⟩, Hr2⟩, ⟨Ht1, Ht2⟩, Hr1, Hg⟩, ⟨%W, HO⟩⟩ Hk
  iapply (Rounds.wp_send_pointsTo_with 𝒱₀ ER (Rd P) (c : Thread nD τ) none (c' := (s : Thread nD τ)) (src := redM) (dst := slotAt agM c)
      (κ₁ := K (c, some (1, s))) (κ₂ := K (s, some (3, c))) (q := ShareLeaves.leaf 5 fullShare s) (fs := redB P r c) (fd := fd) (F := rsReady (r + 1) c s)
      (r₁ := r) (r₂ := r) (d₁ := 0) (d₂ := 0)
      (show (0 : Fin 32) ∈ (Rd P).duties (dcell c 1 s) r by rw [duties_dma P hs hr]; exact Finset.mem_singleton_self _)
      (show (0 : Fin 32) ∈ (Rd P).duties (dcell s 3 c) r by rw [duties_dma P (Ne.symm hs) hr]; exact Finset.mem_singleton_self _)
      r r N rfl (amount_dma P c 1 s r 0) (amount_dma P s 3 c r 0) (O + owedL (agDue c r) l)
      (show O + (owedL (agDue c r) l + agDue c r s) = _ by rw [show agDue c r s = tallyAt (dcell s 3 c) r N from if_neg hs]; exact (add_assoc _ _ _).symm) (W := W)
      (Entails.of_eq ((congrArg (fun S : Finset S8x256.Idx => (pointsTo ((c : Thread nD τ).loc cc0_scratch1) S (ShareLeaves.leaf 5 fullShare s) (redB P r c) : sProp (MM F))) (View.set_whole _)).trans (payload_dma P c 1 s r 0).symm))
      (BIBase.Entails.trans (Entails.of_eq (congrArg (fun A : sProp (MM F) => iprop(A ∗ rsReady (r + 1) c s))
        ((congrArg (fun S : Finset S32x8x256.Idx => (pointsTo ((s : Thread nD τ).loc cc0_scratch3) S fullShare _ : sProp (MM F))) (slotAt_ag_set c)).trans
          (pointsTo_congr fun i hi => land_ag P r c fd i hi)))) (Entails.of_eq (payload_dma P s 3 c r 0).symm))) $$ [Hs Hd Hg HO Ht1 Ht2 Hr1 Hr2]
  · isplitr; · iapply (ctx_inv P K (c, some (1, s))); iexact HC
    isplitr; · iapply (ctx_inv P K (s, some (3, c))); iexact HC
    isplitl [Hs]
    · iapply (Entails.of_eq (congrArg (fun S : Finset S8x256.Idx => (pointsTo ((c : Thread nD τ).loc cc0_scratch1) S (ShareLeaves.leaf 5 fullShare s) (redB P r c) : sProp (MM F))) (View.set_whole _)).symm)
      iexact Hs
    isplitl [Hd Hg]
    · isplitl [Hd]
      · iapply (Entails.of_eq (congrArg (fun S : Finset S32x8x256.Idx => (pointsTo ((s : Thread nD τ).loc cc0_scratch3) S fullShare fd : sProp (MM F))) (slotAt_ag_set c)).symm)
        iexact Hd
      iexact Hg
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The scatter to the peers of a list. -/
theorem wp_rsSends {α : Type} (c : Dev nD) (r : ℕ) (hr : r < 3) (O : CellTallies nD τ sig ℕ) (l : List (Fin 32)) (hl : l.Nodup) (k : TcProg F α) (Q : α → sProp (MM F)) :
    iprop(ctx P K ∗ ((bigSep (peers c l) fun s => partPts c s (P r c)) ∗ (bigSep (peers c l) fun s => rsReady r s c) ∗ (bigSep (peers c l) fun s => rsTok r c s)
        ∗ (bigSep (peers c l) fun s => reached ER (dcell c 0 s) r) ∗ (bigSep (peers c l) fun s => rsGive r c s)) ∗ owesE c (O + owedL (rsDue c r) l))
      ⊢ iprop((((bigSep (peers c l) fun s => cred (tallyAt (dcell c 0 s) r N)) ∗ owesE c O) -∗ Runs c k Q) -∗ Runs c (each l (rsSend c) c k) Q) := by
  have h := wp_each c (rsSend c) (ctx P K) (fun s => iprop(partPts c s (P r c) ∗ rsReady r s c ∗ rsTok r c s ∗ reached ER (dcell c 0 s) r ∗ rsGive r c s))
    (fun s => cred (tallyAt (dcell c 0 s) r N)) (fun l => owesE c (O + owedL (rsDue c r) l)) k Q
    (fun s l k hs => wp_rsSend P K c r hr O Q s l k hs) (owed_skip_rs c r O) l hl
  simp only [bigSep_sep', owedL, add_zero] at h
  exact h

/-- The gather to all peers. -/
theorem wp_agSends {α : Type} (c : Dev nD) (r : ℕ) (hr : r < 2) (O : CellTallies nD τ sig ℕ) (l : List (Fin 32)) (hl : l.Nodup) (k : TcProg F α) (Q : α → sProp (MM F)) :
    iprop(ctx P K ∗ ((bigSep (peers c l) fun s => redPts c s (redB P r c)) ∗ (bigSep (peers c l) fun s => agReady r s c) ∗ (bigSep (peers c l) fun s => agTok r c s)
        ∗ (bigSep (peers c l) fun s => reached ER (dcell c 1 s) r) ∗ (bigSep (peers c l) fun s => rsReady (r + 1) c s)) ∗ owesE c (O + owedL (agDue c r) l))
      ⊢ iprop((((bigSep (peers c l) fun s => cred (tallyAt (dcell c 1 s) r N)) ∗ owesE c O) -∗ Runs c k Q) -∗ Runs c (each l (agSend c) c k) Q) := by
  have h := wp_each c (agSend c) (ctx P K) (fun s => iprop(redPts c s (redB P r c) ∗ agReady r s c ∗ agTok r c s ∗ reached ER (dcell c 1 s) r ∗ rsReady (r + 1) c s))
    (fun s => cred (tallyAt (dcell c 1 s) r N)) (fun l => owesE c (O + owedL (agDue c r) l)) k Q
    (fun s l k hs => wp_agSend P K c r hr O Q s l k hs) (owed_skip_ag c r O) l hl
  simp only [bigSep_sep', owedL, add_zero] at h
  exact h

/-- The waits of a list of peers on one array of semaphores. -/
theorem wp_waits {α : Type} (c : Dev nD) (k : Fin 4) (r : ℕ) (hr : r < rounds k) (e : Fin 32 → TpuEff nD τ sig (Elt F) Λ₀ .tc PUnit)
    (he : ∀ s (X : PUnit → sProp (MM F)), wpE (defs₀ (F := F)) 𝒱₀ (c : Thread nD τ) none Set.univ (e s) X = waitSpec (c : Thread nD τ) Set.univ (.dma (dsem k s)) N X)
    (O : CellTallies nD τ sig ℕ) {n : ℕ} (hO : Above n O) (hn : ∀ s, lv (dcell c k s) r ≤ n) (l : List (Fin 32)) (hl : l.Nodup) (p : TcProg F α) (Q : α → sProp (MM F)) :
    iprop(ctx P K ∗ ((bigSep (peers c l) fun s => cred (tallyAt (dcell c k s) r N)) ∗ (bigSep (peers c l) fun s => atPos ER (dcell c k s) r ∅ 0)) ∗ owesE c O)
      ⊢ iprop(((((bigSep (peers c l) fun s => atPos ER (dcell c k s) (r + 1) ∅ 0) ∗ (bigSep (peers c l) fun s => reached ER (dcell c k s) (r + 1))
            ∗ bigSep (peers c l) fun s => dmaPay P c k s r) ∗ owesE c O) -∗ Runs c p Q) -∗ Runs c (each l e c p) Q) := by
  have h := wp_each c e (ctx P K) (fun s => iprop(cred (tallyAt (dcell c k s) r N) ∗ atPos ER (dcell c k s) r ∅ 0))
    (fun s => iprop(atPos ER (dcell c k s) (r + 1) ∅ 0 ∗ reached ER (dcell c k s) (r + 1) ∗ dmaPay P c k s r)) (fun _ => owesE c O) p Q
    (fun s l p hs => wp_dmaWait P K c k s hs r hr (he s) p Q O hO (hn s)) (fun _ => Entails.rfl) l hl
  simp only [bigSep_sep'] at h
  exact h

/-- What the four kinds of waits ask for. -/
theorem rsRecv_waits (c : Dev nD) (s : Fin 32) (X : PUnit → sProp (MM F)) :
    wpE (defs₀ (F := F)) 𝒱₀ (c : Thread nD τ) none Set.univ (rsRecv s) X = waitSpec (c : Thread nD τ) Set.univ (.dma (dsem 2 s)) N X := by
  unfold rsRecv; exact wpE_waitDma2_eq 𝒱₀ (c : Thread nD τ) none Set.univ X
/-- Waiting for a gathered block is a wait for one slot's credit at its arrival cell. -/
theorem agRecv_waits (c : Dev nD) (s : Fin 32) (X : PUnit → sProp (MM F)) :
    wpE (defs₀ (F := F)) 𝒱₀ (c : Thread nD τ) none Set.univ (agRecv s) X = waitSpec (c : Thread nD τ) Set.univ (.dma (dsem 3 s)) N X := by
  unfold agRecv; exact wpE_waitDma2_eq 𝒱₀ (c : Thread nD τ) none Set.univ X
/-- Waiting for a scattered block to have left is a wait for one slot's credit at its departure cell. -/
theorem rsSent_waits (c : Dev nD) (s : Fin 32) (X : PUnit → sProp (MM F)) :
    wpE (defs₀ (F := F)) 𝒱₀ (c : Thread nD τ) none Set.univ (rsSent c s) X = waitSpec (c : Thread nD τ) Set.univ (.dma (dsem 0 s)) N X := by
  unfold rsSent; exact wpE_waitDma2_eq 𝒱₀ (c : Thread nD τ) none Set.univ X
/-- Waiting for a gathered block to have left is a wait for one slot's credit at its departure cell. -/
theorem agSent_waits (c : Dev nD) (s : Fin 32) (X : PUnit → sProp (MM F)) :
    wpE (defs₀ (F := F)) 𝒱₀ (c : Thread nD τ) none Set.univ (agSent c s) X = waitSpec (c : Thread nD τ) Set.univ (.dma (dsem 1 s)) N X := by
  unfold agSent; exact wpE_waitDma2_eq 𝒱₀ (c : Thread nD τ) none Set.univ X

end

end Cert.Exchange
-- ==== Proof.Straight.lean ====
/-
The straight-line pieces of the kernel as rules: the loads and stores between the loops.
-/
module

public import proofs.«01_k».proof.Proof.Sends

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Slots of a list of devices -/

/-- The list's elements that are the device itself: the device or nothing. -/
def mine (c : Dev nD) (l : List (Fin 32)) : Finset (Fin 32) := l.toFinset.filter (· = c)

/-- Over all elements of a list: over the peers among them and over the device, if it is among them. -/
theorem sep_peers (c : Dev nD) (l : List (Fin 32)) (A : Fin 32 → sProp (MM F)) :
    bigSep l.toFinset A = iprop(bigSep (peers c l) A ∗ bigSep (mine c l) A) := by
  have hd : Disjoint (peers c l) (mine c l) := Finset.disjoint_left.mpr fun s h h' => (mem_peers.mp h).2 (Finset.mem_filter.mp h').2
  rw [← sep_union hd]
  congr 1
  ext s
  rw [Finset.mem_union, mem_peers, mine, Finset.mem_filter, List.mem_toFinset]
  tauto

/-- The device is in one of the two halves. -/
theorem sep_mine (c : Dev nD) (A : Fin 32 → sProp (MM F)) : A c = iprop(bigSep (mine c lo) A ∗ bigSep (mine c hi) A) := by
  have hd : Disjoint (mine c lo) (mine c hi) := Finset.disjoint_left.mpr fun s h h' =>
    (mem_hi s).mp (List.mem_toFinset.mp (Finset.mem_filter.mp h').1) ((mem_lo s).mp (List.mem_toFinset.mp (Finset.mem_filter.mp h).1))
  rw [← sep_union hd]
  conv_lhs => rw [← bigSep_singleton (Φ := A) (i := c)]
  congr 1
  ext s
  rw [Finset.mem_singleton, Finset.mem_union, mine, mine, Finset.mem_filter, Finset.mem_filter, List.mem_toFinset, List.mem_toFinset, mem_lo, mem_hi]
  tauto

/-- All peers: those in the first half and those in the second. -/
theorem sep_halves (c : Dev nD) (A : Fin 32 → sProp (MM F)) :
    bigSep (peers c all) A = iprop(bigSep (peers c lo) A ∗ bigSep (peers c hi) A) := by
  rw [← peers_union, sep_union (peers_disjoint c)]
/-- All devices: the device itself and its peers. -/
theorem sep_all (c : Dev nD) (A : Fin 32 → sProp (MM F)) : bigSep Finset.univ A = iprop(A c ∗ bigSep (peers c all) A) := by
  rw [peers_all, sep_erase (Finset.mem_univ c)]

/-- The elements of the slots of a list. -/
abbrev slotsOf (l : List (Fin 32)) : Finset S32x8x256.Idx := l.toFinset.biUnion slot

/-- Different slots have no element in common. -/
theorem slots_pair (S : Finset (Fin 32)) : ∀ t ∈ S, ∀ t' ∈ S, t ≠ t' → Disjoint (slot t) (slot t') := fun _ _ _ _ h => slot_disjoint h

/-- The lower half of a buffer is the slots of the lower half's devices. -/
theorem lo_set : loR.set = slotsOf lo := by
  rw [loRect_set]; congr 1
/-- The upper half of a buffer is the slots of the upper half's devices. -/
theorem hi_set : hiR.set = slotsOf hi := by
  rw [hiRect_set]; congr 1

/-- The slots held one by one are their elements held together. -/
theorem partPts_slots (c : Dev nD) (S : Finset (Fin 32)) (f : Slab F) :
    (bigSep S fun s => partPts c s f) = (((c : Thread nD τ).loc cc0_scratch0) ↦[S.biUnion slot]{fullShare} f : sProp (MM F)) :=
  (pointsTo_biUnion (ℓ := (c : Thread nD τ).loc cc0_scratch0) S slot (slots_pair S)).symm
/-- Some slots of the scatter's buffer, as one set of elements. -/
theorem rsPts_slots (c : Dev nD) (S : Finset (Fin 32)) (f : Slab F) :
    (bigSep S fun s => rsPts c s f) = (((c : Thread nD τ).loc cc0_scratch2) ↦[S.biUnion slot]{fullShare} f : sProp (MM F)) :=
  (pointsTo_biUnion (ℓ := (c : Thread nD τ).loc cc0_scratch2) S slot (slots_pair S)).symm
/-- Some slots of the gather's buffer, as one set of elements. -/
theorem agPts_slots (c : Dev nD) (S : Finset (Fin 32)) (f : Slab F) :
    (bigSep S fun s => agPts c s f) = (((c : Thread nD τ).loc cc0_scratch3) ↦[S.biUnion slot]{fullShare} f : sProp (MM F)) :=
  (pointsTo_biUnion (ℓ := (c : Thread nD τ).loc cc0_scratch3) S slot (slots_pair S)).symm

/-! ## What an access of a whole buffer touches -/

/-- The elements a block of a whole buffer loads. -/
theorem setOn_whole_eq (b : Ref sig .tc) (r : Rect b.ty.shape) : (Memref.whole b).view.setOn r.toLoadRect.set = r.set :=
  Finset.map_refl
/-- The elements a block of a whole buffer stores. -/
theorem access_whole_eq (b : Ref sig .tc) (r : Rect b.ty.shape) : ((Memref.whole b).access r).setOn Finset.univ = r.set :=
  View.set_slice_whole _ _

/-! ## Two halves as one buffer -/

/-- The place of an element of the first half, of the second half, in its half. -/
def loIdx (i : S32x8x256.Idx) (h : (i 0).val < 16) : S16x8x256.Idx
  | ⟨0, _⟩ => ⟨(i 0).val, h⟩
  | ⟨1, _⟩ => ⟨(i 1).val, (i 1).isLt⟩
  | ⟨2, _⟩ => ⟨(i 2).val, (i 2).isLt⟩
/-- A slot of the upper half, counted from sixteen, is below sixteen. -/
theorem sub_lt (i : S32x8x256.Idx) : (i 0).val - 16 < 16 := by
  have h : (i 0).val < 32 := (i 0).isLt
  omega
/-- An element of the upper half, counted from slot sixteen. -/
def hiIdx (i : S32x8x256.Idx) : S16x8x256.Idx
  | ⟨0, _⟩ => ⟨(i 0).val - 16, sub_lt i⟩
  | ⟨1, _⟩ => ⟨(i 1).val, (i 1).isLt⟩
  | ⟨2, _⟩ => ⟨(i 2).val, (i 2).isLt⟩

/-- The buffer with the given halves. -/
def halves (a b : FVec F S16x8x256 .bf16) : Slab F := fun i => if h : (i 0).val < 16 then a (loIdx i h) else b (hiIdx i)

/-- An element of the lower half is found where its index in the half says. -/
theorem lo_emb (i : S32x8x256.Idx) (h : (i 0).val < 16) : loR.emb (loIdx i h) = i := by
  funext a
  refine Fin.ext ((Rect.emb_apply loR _ a).trans ?_)
  rw [Rect.stride_unit, Nat.one_mul, Rect.off_unit]
  match a with
  | ⟨0, _⟩ => exact Nat.zero_add _
  | ⟨1, _⟩ => exact Nat.zero_add _
  | ⟨2, _⟩ => exact Nat.zero_add _
/-- An element of the upper half is found where its index in the half says. -/
theorem hi_emb (i : S32x8x256.Idx) (h : ¬ (i 0).val < 16) : hiR.emb (hiIdx i) = i := by
  funext a
  refine Fin.ext ((Rect.emb_apply hiR _ a).trans ?_)
  rw [Rect.stride_unit, Nat.one_mul, Rect.off_unit]
  match a with
  | ⟨0, _⟩ => show 16 + ((i 0).val - 16) = (i 0).val; omega
  | ⟨1, _⟩ => exact Nat.zero_add _
  | ⟨2, _⟩ => exact Nat.zero_add _

/-- The slots of the lower half are those below sixteen. -/
theorem mem_slotsLo {i : S32x8x256.Idx} : i ∈ slotsOf lo ↔ (i 0).val < 16 := by rw [mem_slots, List.mem_toFinset, mem_lo]
/-- The slots of the upper half are those from sixteen on. -/
theorem mem_slotsHi {i : S32x8x256.Idx} : i ∈ slotsOf hi ↔ ¬ (i 0).val < 16 := by rw [mem_slots, List.mem_toFinset, mem_hi]

/-- Storing a half leaves, on its slots, the buffer with that half. -/
theorem write_lo (f : Slab F) (a b : FVec F S16x8x256 .bf16) (i : S32x8x256.Idx) (hi : i ∈ slotsOf lo) :
    ((partM : Memref sig .tc .vmem S32x8x256 .bf16).access loR).write (Elt F) f a Finset.univ i = halves a b i := by
  have h := mem_slotsLo.mp hi
  have e := (((partM : Memref sig .tc .vmem S32x8x256 .bf16).access loR).write_emb_of_mem (Val := Elt F) f a (Finset.mem_univ (loIdx i h)))
  rw [show ((partM : Memref sig .tc .vmem S32x8x256 .bf16).access loR).emb (loIdx i h) = i from lo_emb i h] at e
  refine e.trans ?_
  unfold halves
  rw [dif_pos h]; rfl
/-- Storing the upper half of the buffer of products, by elements. -/
theorem write_hi (f : Slab F) (a b : FVec F S16x8x256 .bf16) (i : S32x8x256.Idx) (hi : i ∈ slotsOf hi) :
    ((partM : Memref sig .tc .vmem S32x8x256 .bf16).access hiR).write (Elt F) f b Finset.univ i = halves a b i := by
  have h := mem_slotsHi.mp hi
  have e := (((partM : Memref sig .tc .vmem S32x8x256 .bf16).access hiR).write_emb_of_mem (Val := Elt F) f b (Finset.mem_univ (hiIdx i)))
  rw [show ((partM : Memref sig .tc .vmem S32x8x256 .bf16).access hiR).emb (hiIdx i) = i from hi_emb i h] at e
  refine e.trans ?_
  unfold halves
  rw [dif_neg h]; rfl

/-! ## The rules -/

section
variable {α : Type} (c : Dev nD) (k : TcProg F α) (Q : α → sProp (MM F))

/-- Loads and stores of a half. -/
theorem wp_loadLoPart (f : Slab F) (k : Vec F S16x8x256 .bf16 → TcProg F α) :
    iprop(bigSep lo.toFinset fun s => partPts c s f)
      ⊢ iprop(((bigSep lo.toFinset fun s => partPts c s f) -∗ Runs c (k ((partM : Memref sig .tc .vmem S32x8x256 .bf16).view.readAt (Elt F) loR.toLoadRect f)) Q)
          -∗ Runs c (.op (loadLo partM) k) Q) := by
  rw [partPts_slots]
  exact wp_load 𝒱₀ (c : Thread nD τ) none Set.univ (m := partM) (by rw [setOn_whole_eq, lo_set])
/-- Loading the upper half of the buffer of products. -/
theorem wp_loadHiPart (f : Slab F) (k : Vec F S16x8x256 .bf16 → TcProg F α) :
    iprop(bigSep hi.toFinset fun s => partPts c s f)
      ⊢ iprop(((bigSep hi.toFinset fun s => partPts c s f) -∗ Runs c (k ((partM : Memref sig .tc .vmem S32x8x256 .bf16).view.readAt (Elt F) hiR.toLoadRect f)) Q)
          -∗ Runs c (.op (loadHi partM) k) Q) := by
  rw [partPts_slots]
  exact wp_load 𝒱₀ (c : Thread nD τ) none Set.univ (m := partM) (by rw [setOn_whole_eq, hi_set])
/-- Loading the lower half of the gather's buffer. -/
theorem wp_loadLoAg (f : Slab F) (k : Vec F S16x8x256 .bf16 → TcProg F α) :
    iprop(bigSep lo.toFinset fun s => agPts c s f)
      ⊢ iprop(((bigSep lo.toFinset fun s => agPts c s f) -∗ Runs c (k ((agM : Memref sig .tc .vmem S32x8x256 .bf16).view.readAt (Elt F) loR.toLoadRect f)) Q)
          -∗ Runs c (.op (loadLo agM) k) Q) := by
  rw [agPts_slots]
  exact wp_load 𝒱₀ (c : Thread nD τ) none Set.univ (m := agM) (by rw [setOn_whole_eq, lo_set])
/-- Loading the upper half of the gather's buffer. -/
theorem wp_loadHiAg (f : Slab F) (k : Vec F S16x8x256 .bf16 → TcProg F α) :
    iprop(bigSep hi.toFinset fun s => agPts c s f)
      ⊢ iprop(((bigSep hi.toFinset fun s => agPts c s f) -∗ Runs c (k ((agM : Memref sig .tc .vmem S32x8x256 .bf16).view.readAt (Elt F) hiR.toLoadRect f)) Q)
          -∗ Runs c (.op (loadHi agM) k) Q) := by
  rw [agPts_slots]
  exact wp_load 𝒱₀ (c : Thread nD τ) none Set.univ (m := agM) (by rw [setOn_whole_eq, hi_set])
/-- Storing the lower half of the buffer of products. -/
theorem wp_storeLoPart (f a' : Slab F) (v b : FVec F S16x8x256 .bf16) (h : a' = halves v b) :
    iprop(bigSep lo.toFinset fun s => partPts c s f)
      ⊢ iprop(((bigSep lo.toFinset fun s => partPts c s a') -∗ Runs c k Q) -∗ Runs c (.op (storeLo v) fun _ => k) Q) := by
  rw [partPts_slots, partPts_slots, h]
  iintro Hp Hk
  iapply (wp_store 𝒱₀ (c : Thread nD τ) none Set.univ (m := partM) (r := loR) (Mk := Finset.univ) (S := slotsOf lo) (by rw [access_whole_eq, lo_set])) $$ Hp
  iintro Hp
  iapply Hk
  iapply (Entails.of_eq (pointsTo_congr (ℓ := (c : Thread nD τ).loc cc0_scratch0) fun i hi => write_lo f v b i hi))
  iexact Hp
/-- Storing the upper half of the buffer of products. -/
theorem wp_storeHiPart (f a' : Slab F) (v b : FVec F S16x8x256 .bf16) (h : a' = halves b v) :
    iprop(bigSep hi.toFinset fun s => partPts c s f)
      ⊢ iprop(((bigSep hi.toFinset fun s => partPts c s a') -∗ Runs c k Q) -∗ Runs c (.op (storeHi v) fun _ => k) Q) := by
  rw [partPts_slots, partPts_slots, h]
  iintro Hp Hk
  iapply (wp_store 𝒱₀ (c : Thread nD τ) none Set.univ (m := partM) (r := hiR) (Mk := Finset.univ) (S := slotsOf hi) (by rw [access_whole_eq, hi_set])) $$ Hp
  iintro Hp
  iapply Hk
  iapply (Entails.of_eq (pointsTo_congr (ℓ := (c : Thread nD τ).loc cc0_scratch0) fun i hi => write_hi f b v i hi))
  iexact Hp

/-- A load of a whole buffer of weights, of the activations. -/
theorem wp_loadWin (M : Memref sig .tc .vmem S256x512 .bf16) (f : Buf (Elt F) (M.view.loc (c : Thread nD τ))) (k : Vec F S256x512 .bf16 → TcProg F α) :
    iprop(M.view.loc (c : Thread nD τ) ↦[Finset.univ]{fullShare} f)
      ⊢ iprop(((M.view.loc (c : Thread nD τ) ↦[Finset.univ]{fullShare} f) -∗ Runs c (k (M.view.readAt (Elt F) winR.toLoadRect f)) Q) -∗ Runs c (.op (loadWin M) k) Q) :=
  wp_load 𝒱₀ (c : Thread nD τ) none Set.univ (m := M) (Finset.subset_univ _)
/-- Loading a layer's outer weights. -/
theorem wp_loadWout (M : Memref sig .tc .vmem S512x256 .bf16) (f : Buf (Elt F) (M.view.loc (c : Thread nD τ))) (k : Vec F S512x256 .bf16 → TcProg F α) :
    iprop(M.view.loc (c : Thread nD τ) ↦[Finset.univ]{fullShare} f)
      ⊢ iprop(((M.view.loc (c : Thread nD τ) ↦[Finset.univ]{fullShare} f) -∗ Runs c (k (M.view.readAt (Elt F) woutR.toLoadRect f)) Q) -∗ Runs c (.op (loadWout M) k) Q) :=
  wp_load 𝒱₀ (c : Thread nD τ) none Set.univ (m := M) (Finset.subset_univ _)
/-- Loading the input. -/
theorem wp_loadX (f : FVec F S256x256 .bf16) (k : Vec F S256x256 .bf16 → TcProg F α) :
    iprop(((c : Thread nD τ).loc cc0_stg0_0) ↦[Finset.univ]{fullShare} f)
      ⊢ iprop(((((c : Thread nD τ).loc cc0_stg0_0) ↦[Finset.univ]{fullShare} f) -∗ Runs c (k f) Q) -∗ Runs c (.op loadX k) Q) := by
  have h : (((c : Thread nD τ).loc cc0_stg0_0) ↦[Finset.univ]{fullShare} f : sProp (MM F))
      ⊢ iprop(((((c : Thread nD τ).loc cc0_stg0_0) ↦[Finset.univ]{fullShare} f) -∗ Runs c (k ((xM : Memref sig .tc .vmem S256x256 .bf16).view.readAt (Elt F) xR.toLoadRect f)) Q) -∗ Runs c (.op loadX k) Q) :=
    wp_load 𝒱₀ (c : Thread nD τ) none Set.univ (m := xM) (Finset.subset_univ _)
  rw [show (xM : Memref sig .tc .vmem S256x256 .bf16).view.readAt (Elt F) xR.toLoadRect f = f from Memref.readAt_unit_zero (Elt F) cc0_stg0_0 (by decide) _ f] at h
  exact h

/-- The weights of a layer: the two buffers held whole, at what a load reads. -/
def weights (Win : Memref sig .tc .vmem S256x512 .bf16) (Wout : Memref sig .tc .vmem S512x256 .bf16) (w : FVec F S256x512 .bf16) (o : FVec F S512x256 .bf16) : sProp (MM F) :=
  iprop((∃ f, ⌜Win.view.readAt (Elt F) winR.toLoadRect f = w⌝ ∗ (Win.view.loc (c : Thread nD τ) ↦[Finset.univ]{fullShare} f))
    ∗ (∃ f, ⌜Wout.view.readAt (Elt F) woutR.toLoadRect f = o⌝ ∗ (Wout.view.loc (c : Thread nD τ) ↦[Finset.univ]{fullShare} f)))

/-- The two loads of the weights. -/
theorem wp_loadWeights (Win : Memref sig .tc .vmem S256x512 .bf16) (Wout : Memref sig .tc .vmem S512x256 .bf16) (w : FVec F S256x512 .bf16) (o : FVec F S512x256 .bf16)
    (k : Vec F S256x512 .bf16 → Vec F S512x256 .bf16 → TcProg F α) :
    weights c Win Wout w o
      ⊢ iprop((weights c Win Wout w o -∗ Runs c (k w o) Q) -∗ Runs c (.op (loadWin Win) fun w => .op (loadWout Wout) fun o => k w o) Q) := by
  unfold weights
  iintro ⟨⟨%fw, %hw, Hw⟩, ⟨%fo, %ho, Ho⟩⟩ Hk
  iapply (wp_loadWin c Q Win fw) $$ Hw
  iintro Hw
  iapply (wp_loadWout c Q Wout fo) $$ Ho
  iintro Ho
  rw [hw, ho]
  iapply Hk
  isplitl [Hw]
  · iexists fw; isplitr; · ipureintro; exact hw
    iexact Hw
  · iexists fo; isplitr; · ipureintro; exact ho
    iexact Ho

/-- The first partial product of the first half of the rows; of the second half. -/
theorem wp_firstLo (x : FVec F S256x256 .bf16) (w : FVec F S256x512 .bf16) (o : FVec F S512x256 .bf16) (f : Slab F)
    (k : Vec F S256x256 .bf16 → FVec F S16x8x256 .bf16 → TcProg F α) :
    iprop((((c : Thread nD τ).loc cc0_stg0_0) ↦[Finset.univ]{fullShare} x) ∗ weights c win0M wout0M w o ∗ (bigSep lo.toFinset fun s => partPts c s f))
      ⊢ iprop((((((c : Thread nD τ).loc cc0_stg0_0) ↦[Finset.univ]{fullShare} x) ∗ weights c win0M wout0M w o ∗ (bigSep lo.toFinset fun s => partPts c s f))
            -∗ Runs c (k x (k0_pay3 x w o)) Q) -∗ Runs c (firstLo k) Q) := by
  unfold firstLo
  iintro ⟨Hx, Hw, Hp⟩ Hk
  iapply (wp_loadX c Q x) $$ Hx
  iintro Hx
  iapply (wp_loadWeights c Q win0M wout0M w o) $$ Hw
  iintro Hw
  iapply (wp_loadLoPart c Q f) $$ Hp
  iintro Hp
  iapply Hk
  isplitl [Hx]; · iexact Hx
  isplitl [Hw]; · iexact Hw
  iexact Hp
/-- The first layer's product for the upper half runs, and leaves that half of the products in their slots. -/
theorem wp_firstHi (x : FVec F S256x256 .bf16) (w : FVec F S256x512 .bf16) (o : FVec F S512x256 .bf16) (f a' : Slab F) (b : FVec F S16x8x256 .bf16)
    (h : a' = halves b (k0_pay5 (k0_pay4 (k0_pay2 x) w o))) :
    iprop(weights c win0M wout0M w o ∗ (bigSep hi.toFinset fun s => partPts c s f))
      ⊢ iprop(((weights c win0M wout0M w o ∗ (bigSep hi.toFinset fun s => partPts c s a')) -∗ Runs c k Q) -∗ Runs c (firstHi x k) Q) := by
  unfold firstHi
  iintro ⟨Hw, Hp⟩ Hk
  iapply (wp_loadWeights c Q win0M wout0M w o) $$ Hw
  iintro Hw
  iapply (wp_loadHiPart c Q f) $$ Hp
  iintro Hp
  iapply (wp_storeHiPart c k Q f a' _ b h) $$ Hp
  iintro Hp
  iapply Hk
  isplitl [Hw]; · iexact Hw
  iexact Hp

/-- A later partial product of the first half of the rows; of the second half. -/
theorem wp_layerLo (Win : Memref sig .tc .vmem S256x512 .bf16) (Wout : Memref sig .tc .vmem S512x256 .bf16) (w : FVec F S256x512 .bf16) (o : FVec F S512x256 .bf16)
    (A f a' : Slab F) (b : FVec F S16x8x256 .bf16)
    (h : a' = halves (k0_pay9 ((agM : Memref sig .tc .vmem S32x8x256 .bf16).view.readAt (Elt F) loR.toLoadRect A) w o) b) :
    iprop((bigSep lo.toFinset fun s => agPts c s A) ∗ weights c Win Wout w o ∗ (bigSep lo.toFinset fun s => partPts c s f))
      ⊢ iprop((((bigSep lo.toFinset fun s => agPts c s A) ∗ weights c Win Wout w o ∗ (bigSep lo.toFinset fun s => partPts c s a')) -∗ Runs c k Q)
          -∗ Runs c (layerLo Win Wout k) Q) := by
  unfold layerLo
  iintro ⟨Ha, Hw, Hp⟩ Hk
  iapply (wp_loadLoAg c Q A) $$ Ha
  iintro Ha
  iapply (wp_loadWeights c Q Win Wout w o) $$ Hw
  iintro Hw
  iapply (wp_loadLoPart c Q f) $$ Hp
  iintro Hp
  iapply (wp_storeLoPart c k Q f a' _ b h) $$ Hp
  iintro Hp
  iapply Hk
  isplitl [Ha]; · iexact Ha
  isplitl [Hw]; · iexact Hw
  iexact Hp
/-- A later layer's product for the upper half runs, and leaves that half of the products in their slots. -/
theorem wp_layerHi (Win : Memref sig .tc .vmem S256x512 .bf16) (Wout : Memref sig .tc .vmem S512x256 .bf16) (w : FVec F S256x512 .bf16) (o : FVec F S512x256 .bf16)
    (A f a' : Slab F) (b : FVec F S16x8x256 .bf16)
    (h : a' = halves b (k0_pay10 ((agM : Memref sig .tc .vmem S32x8x256 .bf16).view.readAt (Elt F) hiR.toLoadRect A) w o)) :
    iprop((bigSep hi.toFinset fun s => agPts c s A) ∗ weights c Win Wout w o ∗ (bigSep hi.toFinset fun s => partPts c s f))
      ⊢ iprop((((bigSep hi.toFinset fun s => agPts c s A) ∗ weights c Win Wout w o ∗ (bigSep hi.toFinset fun s => partPts c s a')) -∗ Runs c k Q)
          -∗ Runs c (layerHi Win Wout k) Q) := by
  unfold layerHi
  iintro ⟨Ha, Hw, Hp⟩ Hk
  iapply (wp_loadHiAg c Q A) $$ Ha
  iintro Ha
  iapply (wp_loadWeights c Q Win Wout w o) $$ Hw
  iintro Hw
  iapply (wp_loadHiPart c Q f) $$ Hp
  iintro Hp
  iapply (wp_storeHiPart c k Q f a' _ b h) $$ Hp
  iintro Hp
  iapply Hk
  isplitl [Ha]; · iexact Ha
  isplitl [Hw]; · iexact Hw
  iexact Hp

end

section
variable (P : ℕ → Dev nD → Slab F) {α : Type} (c : Dev nD) (k : TcProg F α) (Q : α → sProp (MM F))

/-- The device's own chunk into its own slot. -/
theorem wp_ownCopy (r : ℕ) :
    iprop(partPts c c (P r c) ∗ rsAny c c) ⊢ iprop(((partPts c c (P r c) ∗ rsPts c c (rsB P r c)) -∗ Runs c k Q) -∗ Runs c (ownCopy c k) Q) := by
  unfold ownCopy rsAny rsPts partPts
  iintro ⟨Hp, ⟨%f, Hr⟩⟩ Hk
  iapply (wp_load 𝒱₀ (c : Thread nD τ) none Set.univ (m := partM) (S := slot c) (by rw [setOn_whole_eq, ownR_set])) $$ Hp
  iintro Hp
  iapply (wp_load 𝒱₀ (c : Thread nD τ) none Set.univ (m := rsM) (S := slot c) (by rw [setOn_whole_eq, ownR_set])) $$ Hr
  iintro Hr
  iapply (wp_store 𝒱₀ (c : Thread nD τ) none Set.univ (m := rsM) (r := ownR c) (Mk := Finset.univ) (S := slot c) (by rw [access_whole_eq, ownR_set])) $$ Hr
  iintro Hr
  iapply Hk
  isplitl [Hp]; · iexact Hp
  iapply (Entails.of_eq (pointsTo_congr (ℓ := (c : Thread nD τ).loc cc0_scratch2) fun i hi => own_rs P r c f i hi))
  iexact Hr

/-- The reduced chunk held whole. -/
def redHeld (f : FVec F S8x256 .bf16) : sProp (MM F) := ((c : Thread nD τ).loc cc0_scratch1) ↦[Finset.univ]{fullShare} f

/-- The whole landing buffer of the scatter, read. -/
theorem wp_loadRs (f : Slab F) (k : Vec F S32x8x256 .bf16 → TcProg F α) :
    iprop(bigSep Finset.univ fun s => rsPts c s f) ⊢ iprop(((bigSep Finset.univ fun s => rsPts c s f) -∗ Runs c (k f) Q) -∗ Runs c (.op (loadAll rsM) k) Q) := by
  rw [rsPts_slots, slots_univ]
  have h : (((c : Thread nD τ).loc cc0_scratch2) ↦[Finset.univ]{fullShare} f : sProp (MM F))
      ⊢ iprop(((((c : Thread nD τ).loc cc0_scratch2) ↦[Finset.univ]{fullShare} f) -∗ Runs c (k ((rsM : Memref sig .tc .vmem S32x8x256 .bf16).view.readAt (Elt F) allR.toLoadRect f)) Q) -∗ Runs c (.op (loadAll rsM) k) Q) :=
    wp_load 𝒱₀ (c : Thread nD τ) none Set.univ (m := rsM) (Finset.subset_univ _)
  rw [show (rsM : Memref sig .tc .vmem S32x8x256 .bf16).view.readAt (Elt F) allR.toLoadRect f = f from Memref.readAt_unit_zero (Elt F) cc0_scratch2 (by decide) _ f] at h
  exact h
/-- Loading the reduced block. -/
theorem wp_loadRed (f : FVec F S8x256 .bf16) (k : Vec F S8x256 .bf16 → TcProg F α) :
    redHeld c f ⊢ iprop((redHeld c f -∗ Runs c (k f) Q) -∗ Runs c (.op loadRed k) Q) := by
  have h : (((c : Thread nD τ).loc cc0_scratch1) ↦[Finset.univ]{fullShare} f : sProp (MM F))
      ⊢ iprop(((((c : Thread nD τ).loc cc0_scratch1) ↦[Finset.univ]{fullShare} f) -∗ Runs c (k ((redM : Memref sig .tc .vmem S8x256 .bf16).view.readAt (Elt F) chR.toLoadRect f)) Q) -∗ Runs c (.op loadRed k) Q) :=
    wp_load 𝒱₀ (c : Thread nD τ) none Set.univ (m := redM) (Finset.subset_univ _)
  rw [show (redM : Memref sig .tc .vmem S8x256 .bf16).view.readAt (Elt F) chR.toLoadRect f = f from Memref.readAt_unit_zero (Elt F) cc0_scratch1 (by decide) _ f] at h
  exact h
/-- Storing the reduced block. -/
theorem wp_storeRed (f v : FVec F S8x256 .bf16) :
    redHeld c f ⊢ iprop((redHeld c v -∗ Runs c k Q) -∗ Runs c (.op (storeRed v) fun _ => k) Q) := by
  unfold redHeld
  iintro Hp Hk
  iapply (wp_store 𝒱₀ (c : Thread nD τ) none Set.univ (m := redM) (r := chR) (Mk := Finset.univ) (S := Finset.univ) (Finset.subset_univ _)) $$ Hp
  iintro Hp
  iapply Hk
  iapply (Entails.of_eq (congrArg (fun v : FVec F S8x256 .bf16 => (((c : Thread nD τ).loc cc0_scratch1) ↦[Finset.univ]{fullShare} v : sProp (MM F)))
    (Memref.write_access_unit_zero_univ (Elt F) cc0_scratch1 (off := ![0, 0]) (by decide) inb_S8x256_S8x256_0_0 f v)))
  iexact Hp

/-- The sum of the 32 chunks, kept whole and in the own slot of the gather. -/
theorem wp_shareSum (r : ℕ) :
    iprop((bigSep Finset.univ fun s => rsPts c s (rsB P r c)) ∗ (∃ f, redHeld c f) ∗ agAny c c)
      ⊢ iprop((((bigSep Finset.univ fun s => rsPts c s (rsB P r c)) ∗ redHeld c (redB P r c) ∗ agPts c c (agB P r)) -∗ Runs c k Q) -∗ Runs c (shareSum c k) Q) := by
  unfold shareSum agAny agPts
  iintro ⟨Hr, ⟨%f, Hd⟩, ⟨%g, Ha⟩⟩ Hk
  iapply (wp_loadRs c Q (rsB P r c)) $$ Hr
  iintro Hr
  iapply (wp_loadRed c Q f) $$ Hd
  iintro Hd
  iapply (wp_storeRed c _ Q f (redB P r c)) $$ Hd
  iintro Hd
  iapply (wp_loadRed c Q (redB P r c)) $$ Hd
  iintro Hd
  iapply (wp_load 𝒱₀ (c : Thread nD τ) none Set.univ (m := agM) (S := slot c) (by rw [setOn_whole_eq, ownR_set])) $$ Ha
  iintro Ha
  iapply (wp_store 𝒱₀ (c : Thread nD τ) none Set.univ (m := agM) (r := ownR c) (Mk := Finset.univ) (S := slot c) (by rw [access_whole_eq, ownR_set])) $$ Ha
  iintro Ha
  iapply Hk
  isplitl [Hr]; · iexact Hr
  isplitl [Hd]; · iexact Hd
  iapply (Entails.of_eq (pointsTo_congr (ℓ := (c : Thread nD τ).loc cc0_scratch3) fun i hi => own_ag P r c g i hi))
  iexact Ha

/-- The result held whole. -/
def outHeld (f : FVec F S8x256 .f32) : sProp (MM F) := ((c : Thread nD τ).loc cc0_stg7_0) ↦[Finset.univ]{fullShare} f

/-- The last sum, stored as the result. -/
theorem wp_lastStore (f : Slab F) :
    iprop((bigSep Finset.univ fun s => rsPts c s f) ∗ (∃ g, outHeld c g))
      ⊢ iprop((((bigSep Finset.univ fun s => rsPts c s f) ∗ outHeld c (k0_pay1 (k0_pay17 f))) -∗ Runs c k Q)
          -∗ Runs c (.op (loadAll rsM) fun v => .op loadOut fun _ => .op (storeOut (k0_pay1 (k0_pay17 v))) fun _ => k) Q) := by
  iintro ⟨Hr, ⟨%g, Ho⟩⟩ Hk
  iapply (wp_loadRs c Q f) $$ Hr
  iintro Hr
  unfold outHeld
  iapply (wp_load 𝒱₀ (c : Thread nD τ) none Set.univ (m := outM) (S := Finset.univ) (Finset.subset_univ _)) $$ Ho
  iintro Ho
  iapply (wp_store 𝒱₀ (c : Thread nD τ) none Set.univ (m := outM) (r := chR) (Mk := Finset.univ) (S := Finset.univ) (Finset.subset_univ _)) $$ Ho
  iintro Ho
  iapply Hk
  isplitl [Hr]; · iexact Hr
  iapply (Entails.of_eq (congrArg (fun v : FVec F S8x256 .f32 => (((c : Thread nD τ).loc cc0_stg7_0) ↦[Finset.univ]{fullShare} v : sProp (MM F)))
    (Memref.write_access_unit_zero_univ (Elt F) cc0_stg7_0 (off := ![0, 0]) (by decide) inb_S8x256_S8x256_0_0 g (k0_pay1 (k0_pay17 f)))))
  iexact Ho

end

end Cert.Exchange
-- ==== Proof.Layer.lean ====
/-
One layer, the last exchange, and the kernel from its start to its end, for a symbolic device.
-/
module

public import proofs.«01_k».proof.Proof.Body
public import proofs.«01_k».proof.Proof.Straight

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (P : ℕ → Dev nD → Slab F) (K : Dev nD × Role → ℕ)

/-- The device's position in the cells of an array, for all peers. -/
def pos (c : Dev nD) (k : Fin 4) (r : ℕ) : sProp (MM F) := bigSep (peers c all) fun s => atPos ER (dcell c k s) r ∅ 0
/-- That it came to a round of them. -/
def came (c : Dev nD) (k : Fin 4) (r : ℕ) (l : List (Fin 32)) : sProp (MM F) := bigSep (peers c l) fun s => reached ER (dcell c k s) r
/-- The credits of a round of an array. -/
def credits (c : Dev nD) (k : Fin 4) (r : ℕ) : sProp (MM F) := bigSep (peers c all) fun s => cred (tallyAt (dcell c k s) r N)
/-- The tokens of the copies of a round of the scatter, of the gather. -/
def rsToks (c : Dev nD) (r : ℕ) : sProp (MM F) := bigSep (peers c all) fun s => rsTok r c s
/-- A device's tokens for the gather of layer `r`, one pair for each peer. -/
def agToks (c : Dev nD) (r : ℕ) : sProp (MM F) := bigSep (peers c all) fun s => agTok r c s

instance came_persistent (c : Dev nD) (k : Fin 4) (r : ℕ) (l : List (Fin 32)) : BI.Persistent (came (F := F) c k r l) := by unfold came; infer_instance

/-- What device `c` holds of the exchange when its copies of round `r` of the scatter are on the way. -/
def between (c : Dev nD) (r : ℕ) : sProp (MM F) :=
  iprop(rsPts c c (rsB P r c) ∗ partPts c c (P r c) ∗ (∃ f, redHeld c f) ∗ agAny c c
    ∗ credits c 0 r ∗ pos c 0 r ∗ pos c 1 r ∗ pos c 2 r ∗ pos c 3 r ∗ came c 1 r all)

/-- A slot of the gather stays here after the last gather, and goes with the next copy of the scatter before. -/
def agLeft (c : Dev nD) (r : ℕ) (s : Fin 32) : sProp (MM F) := if r < 2 then iprop(emp) else agAny c s

/-- A gather slot with its round reached is what this round's copy of the scatter hands back, or stays here when no
    gather follows. -/
theorem give (c : Dev nD) (r : ℕ) (s : Fin 32) (f : Slab F) :
    iprop(agPts c s f ∗ reached ER (dcell c 3 s) r) ⊢ iprop(rsGive r c s ∗ agLeft c r s) := by
  unfold rsGive agLeft
  by_cases h : r < 2
  · rw [if_pos h, if_pos h]
    unfold agReady agAny
    iintro ⟨Ha, Hr⟩
    isplitl
    · isplitl [Ha]; · iexists f; iexact Ha
      iexact Hr
    · iempintro
  · rw [if_neg h, if_neg h]
    unfold agAny
    iintro ⟨Ha, -⟩
    isplitr; · iempintro
    iexists f; iexact Ha

/-- The same for a list. -/
theorem give_list (c : Dev nD) (r : ℕ) (l : List (Fin 32)) (f : Slab F) :
    iprop((bigSep (peers c l) fun s => agPts c s f) ∗ came c 3 r l)
      ⊢ iprop((bigSep (peers c l) fun s => rsGive (F := F) r c s) ∗ bigSep (peers c l) fun s => agLeft c r s) := by
  unfold came
  rw [← bigSep_sep', ← bigSep_sep']
  exact bigSep_mono fun s _ => give c r s f

/-- What a wait for the scatter, for the gather, hands over. -/
theorem pay_rs (c : Dev nD) (r : ℕ) (S : Finset (Fin 32)) :
    (bigSep S fun s => dmaPay P c 2 s r) = iprop((bigSep S fun s => rsPts c s (rsB P r c)) ∗ bigSep S fun s => rsGive r s c) := by
  rw [← bigSep_sep']; rfl
/-- What the gather's arrivals bring: the slots they filled, and leave to write the peers' scatter slots of the next
    layer. -/
theorem pay_ag (c : Dev nD) (r : ℕ) (S : Finset (Fin 32)) :
    (bigSep S fun s => dmaPay P c 3 s r) = iprop((bigSep S fun s => agPts c s (agB P r)) ∗ bigSep S fun s => rsReady (r + 1) s c) := by
  rw [← bigSep_sep']; rfl
/-- Before the last layer, what goes out with a scattered row is leave to write the gather slot. -/
theorem give_ready (c : Dev nD) (r : ℕ) (hr : r < 2) (S : Finset (Fin 32)) :
    (bigSep S fun s => rsGive (F := F) r s c) = bigSep S fun s => agReady r s c := bigSep_congr fun s _ => if_pos hr

/-- A received slot of the scatter, given on with that the next round has come; all of them. -/
theorem rs_ready_one (c : Dev nD) (r : ℕ) (s : Fin 32) (f : Slab F) :
    iprop(rsPts c s f ∗ reached ER (dcell c 2 s) r) ⊢ rsReady (F := F) r c s := by
  unfold rsReady rsAny
  iintro ⟨Hs, Hr⟩
  isplitl [Hs]; · iexists f; iexact Hs
  iexact Hr
/-- A device's free scatter slots, all of one round arrived, are leave for every peer to write them in that round. -/
theorem rs_ready (c : Dev nD) (r : ℕ) (f : Slab F) :
    iprop((bigSep (peers c all) fun s => rsPts c s f) ∗ came c 2 r all) ⊢ bigSep (peers c all) fun s => rsReady (F := F) r c s := by
  unfold came
  rw [← bigSep_sep']
  exact bigSep_mono fun s _ => rs_ready_one c r s f

/-- The reduced chunk lent out in 32 shares. -/
theorem red_shares (c : Dev nD) (f : FVec F S8x256 .bf16) :
    redHeld c f = iprop(redPts c c f ∗ bigSep (peers c all) fun s => redPts c s f) := by
  rw [← sep_all c fun s => redPts c s f]
  unfold redHeld redPts
  have h := ShareLeaves.pointsTo_leaves (Ix := ℕ) (Name := ℕ) (U := UU) (Lvl := ℕ) (Val := Elt F) (ℓ := (c : Thread nD τ).loc cc0_scratch1) Finset.univ f 5 fullShare
  exact h

set_option maxHeartbeats 1600000 in
/-- One layer after the first. -/
theorem wp_layer {α : Type} (c : Dev nD) (r : ℕ) (hr : r < 2) (Win : Memref sig .tc .vmem S256x512 .bf16) (Wout : Memref sig .tc .vmem S512x256 .bf16)
    (w : FVec F S256x512 .bf16) (o : FVec F S512x256 .bf16)
    (hP : P (r + 1) c = halves (k0_pay9 ((agM : Memref sig .tc .vmem S32x8x256 .bf16).view.readAt (Elt F) loR.toLoadRect (agB P r)) w o)
      (k0_pay10 ((agM : Memref sig .tc .vmem S32x8x256 .bf16).view.readAt (Elt F) hiR.toLoadRect (agB P r)) w o))
    (O : CellTallies nD τ sig ℕ) (hO : Above (3 + 2 * r) O) (k : TcProg F α) (Q : α → sProp (MM F)) :
    iprop(ctx P K ∗ between P c r ∗ (credits c 2 r ∗ credits c 3 r ∗ agToks c r ∗ rsToks c (r + 1)) ∗ weights c Win Wout w o ∗ owesE c (layerOwed c r O))
      ⊢ iprop(((between P c (r + 1) ∗ (bigSep (peers c all) fun s => agLeft c (r + 1) s) ∗ weights c Win Wout w o ∗ owesE c O) -∗ Runs c k Q)
          -∗ Runs c (layer c Win Wout k) Q) := by
  have a1 : Above (3 + 2 * r) (O + owedL (rsDue c (r + 1)) hi) := hO.add (above_owedL (above_rsDue c (by omega) (by omega)) _)
  have a2 : Above (3 + 2 * r) ((O + owedL (rsDue c (r + 1)) hi) + owedL (rsDue c (r + 1)) lo) := a1.add (above_owedL (above_rsDue c (by omega) (by omega)) _)
  have a3 : Above (2 + 2 * r) (layerOwed c r O) := above_layerOwed c hr (by omega) (hO.mono (by omega))
  have r3 : ∀ k : Fin 4, r < rounds k := fun k => by
    have : ∀ k, 2 ≤ rounds k := by decide
    exact Nat.lt_of_lt_of_le hr (this k)
  unfold between layer credits pos agToks rsToks
  iintro ⟨#HC, ⟨HrsO, HpO, Hred, HagO, Hc0, Hp0, Hp1, Hp2, Hp3, #Hb1⟩, ⟨Hc2, Hc3, HtA, HtR⟩, Hw, HO⟩ Hk
  -- the chunks of the scatter arrive, and those sent are gone
  iapply (wp_waits P K c 2 r (r3 2) rsRecv (rsRecv_waits c) _ a3 (fun s => by rw [lv_dma]) all all_nodup) $$ [Hc2 Hp2 HO]
  · isplitr; · iexact HC
    isplitr [HO]; · isplitl [Hc2] <;> iassumption
    iexact HO
  rw [pay_rs, give_ready c r hr]
  iintro ⟨⟨Hp2, #Hb2, ⟨Hrs, Hag⟩⟩, HO⟩
  iapply (wp_waits P K c 0 r (r3 0) (rsSent c) (rsSent_waits c) _ a3 (fun s => by rw [lv_dma]; exact Nat.zero_le _) all all_nodup) $$ [Hc0 Hp0 HO]
  · isplitr; · iexact HC
    isplitr [HO]; · isplitl [Hc0] <;> iassumption
    iexact HO
  iintro ⟨⟨Hp0, #Hb0, Hpart⟩, HO⟩
  -- the sum of the device's rows, and its copies
  iapply (wp_shareSum P c _ Q r) $$ [HrsO Hrs Hred HagO]
  · isplitl [HrsO Hrs]
    · rw [sep_all c]
      isplitl [HrsO] <;> iassumption
    isplitl [Hred] <;> iassumption
  rw [sep_all c]
  iintro ⟨⟨HrsO, Hrs⟩, Hred, HagO⟩
  ihave Hred := (Entails.of_eq (red_shares c (redB P r c))) $$ Hred
  icases Hred with ⟨HredO, Hred⟩
  ihave Hrs := (rs_ready c (r + 1) (rsB P r c)) $$ [Hrs]
  · isplitl [Hrs]; · iexact Hrs
    unfold came; iexact Hb2
  iapply (wp_agSends P K c r hr _ all all_nodup) $$ [Hred Hag HtA Hrs HO]
  · isplitr; · iexact HC
    isplitr [HO]
    · isplitl [Hred]; · iexact Hred
      isplitl [Hag]; · iexact Hag
      isplitl [HtA]; · iexact HtA
      isplitr; · unfold came; iexact Hb1
      iexact Hrs
    unfold layerOwed; iexact HO
  iintro ⟨Hc1, HO⟩
  -- the sums of the first half of the rows arrive; the next partial products of these rows go out
  simp only [sep_halves c]
  icases Hpart with ⟨HpL, HpH⟩
  icases Hc3 with ⟨Hc3L, Hc3H⟩
  icases Hp3 with ⟨Hp3L, Hp3H⟩
  icases HtR with ⟨HtRL, HtRH⟩
  ihave HpO := (Entails.of_eq (sep_mine c fun s => partPts c s (P r c))) $$ HpO
  icases HpO with ⟨HpOL, HpOH⟩
  ihave HagO := (Entails.of_eq (sep_mine c fun s => agPts c s (agB P r))) $$ HagO
  icases HagO with ⟨HagOL, HagOH⟩
  iapply (wp_waits P K c 3 r (r3 3) agRecv (agRecv_waits c) _ a2 (fun s => by rw [lv_dma]) lo lo_nodup) $$ [Hc3L Hp3L HO]
  · isplitr; · iexact HC
    isplitr [HO]; · isplitl [Hc3L] <;> iassumption
    iexact HO
  rw [pay_ag]
  iintro ⟨⟨Hp3L, #Hb3L, ⟨HagL, HrdL⟩⟩, HO⟩
  iapply (wp_layerLo c _ Q Win Wout w o (agB P r) (P r c) (P (r + 1) c) _ hP) $$ [HagL HagOL Hw HpL HpOL]
  · rw [sep_peers c lo, sep_peers c lo]
    isplitl [HagL HagOL]; · isplitl [HagL] <;> iassumption
    isplitl [Hw]; · iexact Hw
    isplitl [HpL]; · iexact HpL
    iexact HpOL
  rw [sep_peers c lo, sep_peers c lo]
  iintro ⟨⟨HagL, HagOL⟩, Hw, ⟨HpL, HpOL⟩⟩
  ihave HgL := (give_list c (r + 1) lo (agB P r)) $$ [HagL]
  · isplitl [HagL]; · iexact HagL
    unfold came; iexact Hb3L
  icases HgL with ⟨HgL, HlL⟩
  icases Hb0 with ⟨#Hb0L, #Hb0H⟩
  iapply (wp_rsSends P K c (r + 1) (by omega) _ lo lo_nodup) $$ [HpL HrdL HtRL HgL HO]
  · isplitr; · iexact HC
    isplitr [HO]
    · isplitl [HpL]; · iexact HpL
      isplitl [HrdL]; · iexact HrdL
      isplitl [HtRL]; · iexact HtRL
      isplitr; · iexact Hb0L
      iexact HgL
    iexact HO
  iintro ⟨Hc0L, HO⟩
  -- the same for the second half
  iapply (wp_waits P K c 3 r (r3 3) agRecv (agRecv_waits c) _ a1 (fun s => by rw [lv_dma]) hi hi_nodup) $$ [Hc3H Hp3H HO]
  · isplitr; · iexact HC
    isplitr [HO]; · isplitl [Hc3H] <;> iassumption
    iexact HO
  rw [pay_ag]
  iintro ⟨⟨Hp3H, #Hb3H, ⟨HagH, HrdH⟩⟩, HO⟩
  iapply (wp_layerHi c _ Q Win Wout w o (agB P r) (P r c) (P (r + 1) c) _ hP) $$ [HagH HagOH Hw HpH HpOH]
  · rw [sep_peers c hi, sep_peers c hi]
    isplitl [HagH HagOH]; · isplitl [HagH] <;> iassumption
    isplitl [Hw]; · iexact Hw
    isplitl [HpH]; · iexact HpH
    iexact HpOH
  rw [sep_peers c hi, sep_peers c hi]
  iintro ⟨⟨HagH, HagOH⟩, Hw, ⟨HpH, HpOH⟩⟩
  ihave HgH := (give_list c (r + 1) hi (agB P r)) $$ [HagH]
  · isplitl [HagH]; · iexact HagH
    unfold came; iexact Hb3H
  icases HgH with ⟨HgH, HlH⟩
  iapply (wp_rsSends P K c (r + 1) (by omega) _ hi hi_nodup) $$ [HpH HrdH HtRH HgH HO]
  · isplitr; · iexact HC
    isplitr [HO]
    · isplitl [HpH]; · iexact HpH
      isplitl [HrdH]; · iexact HrdH
      isplitl [HtRH]; · iexact HtRH
      isplitr; · iexact Hb0H
      iexact HgH
    iexact HO
  iintro ⟨Hc0H, HO⟩
  -- the device's own chunk, and the copies of the sum are gone
  iapply (wp_ownCopy P c _ Q (r + 1)) $$ [HpOL HpOH HrsO]
  · isplitl [HpOL HpOH]
    · iapply (Entails.of_eq (sep_mine c fun s => partPts c s (P (r + 1) c)).symm)
      isplitl [HpOL] <;> iassumption
    unfold rsAny; iexists _; iexact HrsO
  iintro ⟨HpO, HrsO⟩
  iapply (wp_waits P K c 1 r (r3 1) (agSent c) (agSent_waits c) _ hO (fun s => by rw [lv_dma]; exact Nat.zero_le _) all all_nodup) $$ [Hc1 Hp1 HO]
  · isplitr; · iexact HC
    isplitr [HO]
    · simp only [sep_halves c]
      isplitl [Hc1] <;> iassumption
    iexact HO
  simp only [sep_halves c]
  iintro ⟨⟨Hp1, #Hb1', Hred⟩, HO⟩
  iapply Hk
  isplitr [HO Hw HlL HlH]
  · isplitl [HrsO]; · iexact HrsO
    isplitl [HpO]; · iexact HpO
    isplitl [HredO Hred]
    · iexists _
      rw [red_shares c (redB P r c), sep_halves c]
      isplitl [HredO]; · iexact HredO
      iexact Hred
    isplitl [HagOL HagOH]
    · unfold agAny
      iexists _
      rw [sep_mine c fun s => agPts c s (agB P r)]
      isplitl [HagOL] <;> iassumption
    isplitl [Hc0L Hc0H]; · isplitl [Hc0L] <;> iassumption
    isplitl [Hp0]; · iexact Hp0
    isplitl [Hp1]; · iexact Hp1
    isplitl [Hp2]; · iexact Hp2
    isplitl [Hp3L Hp3H]; · isplitl [Hp3L] <;> iassumption
    unfold came
    iapply (Entails.of_eq (sep_halves c fun s => iprop(reached ER (dcell c 1 s) (r + 1))).symm)
    iexact Hb1'
  isplitl [HlL HlH]; · isplitl [HlL] <;> iassumption
  isplitl [Hw]; · iexact Hw
  iexact HO

/-- What is left of the exchange at the end. -/
def finished (c : Dev nD) : sProp (MM F) :=
  iprop((∃ f, bigSep Finset.univ fun s => rsPts c s f) ∗ (bigSep Finset.univ fun s => partPts c s (P 2 c)) ∗ (∃ f, redHeld c f) ∗ agAny c c
    ∗ pos c 0 3 ∗ pos c 1 2 ∗ pos c 2 3 ∗ pos c 3 2)

/-- The last exchange and the result. -/
theorem wp_lastSum (c : Dev nD) (Q : PUnit → sProp (MM F)) :
    iprop(ctx P K ∗ between P c 2 ∗ credits c 2 2 ∗ (∃ g, outHeld c g) ∗ owesE c 0)
      ⊢ iprop(((finished P c ∗ outHeld c (k0_pay1 (k0_pay17 (rsB P 2 c))) ∗ owesE c 0) -∗ Q ⟨⟩) -∗ Runs c (lastSum c) Q) := by
  unfold between lastSum credits pos
  iintro ⟨#HC, ⟨HrsO, HpO, Hred, HagO, Hc0, Hp0, Hp1, Hp2, Hp3, -⟩, Hc2, Hout, HO⟩ Hk
  iapply (wp_waits P K c 2 2 (by decide) rsRecv (rsRecv_waits c) _ (above_zero 6) (fun s => by rw [lv_dma]) all all_nodup) $$ [Hc2 Hp2 HO]
  · isplitr; · iexact HC
    isplitr [HO]; · isplitl [Hc2] <;> iassumption
    iexact HO
  rw [pay_rs]
  iintro ⟨⟨Hp2, -, ⟨Hrs, -⟩⟩, HO⟩
  iapply (wp_waits P K c 0 2 (by decide) (rsSent c) (rsSent_waits c) _ (above_zero 0) (fun s => by rw [lv_dma]) all all_nodup) $$ [Hc0 Hp0 HO]
  · isplitr; · iexact HC
    isplitr [HO]; · isplitl [Hc0] <;> iassumption
    iexact HO
  iintro ⟨⟨Hp0, -, Hpart⟩, HO⟩
  iapply (wp_lastStore c _ Q (rsB P 2 c)) $$ [HrsO Hrs Hout]
  · isplitr [Hout]
    · rw [sep_all c]; isplitl [HrsO] <;> iassumption
    iexact Hout
  iintro ⟨Hrs, Hout⟩
  unfold Runs
  rw [wp_ret]
  imodintro
  iapply Hk
  unfold finished pos
  isplitr [HO Hout]
  · isplitl [Hrs]; · iexists _; iexact Hrs
    isplitl [HpO Hpart]
    · rw [sep_all c]
      isplitl [HpO]; · iexact HpO
      iexact Hpart
    isplitl [Hred]; · iexact Hred
    isplitl [HagO]; · iexact HagO
    isplitl [Hp0]; · iexact Hp0
    isplitl [Hp1]; · iexact Hp1
    isplitl [Hp2]; · iexact Hp2
    iexact Hp3
  isplitl [Hout]; · iexact Hout
  iexact HO

end

end Cert.Exchange
-- ==== Proof.Whole.lean ====
/-
The whole kernel on one device, from its slots, positions, tokens and credits at the start to its result and the
buffers given back.
-/
module

public import proofs.«01_k».proof.Proof.Layer

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (P : ℕ → Dev nD → Slab F) (K : Dev nD × Role → ℕ)

/-- Different distances lead to different devices. -/
theorem onDev_inj (c : Dev nD) : Function.Injective (onDev c) := fun j j' h => by
  have := congrArg Fin.val h
  simp only [onDev] at this
  have := j.isLt; have := j'.isLt
  exact Fin.ext (by omega)

/-- The devices the signals go to are the peers. -/
theorem signalled (c : Dev nD) : (span 1 31).toFinset.map ⟨onDev c, onDev_inj c⟩ = peers c all := by
  have h : ∀ j : Fin 32, j ∈ span 1 31 ↔ j.val ≠ 0 := by decide
  rw [peers_all]
  ext s
  rw [Finset.mem_map, Finset.mem_erase]
  constructor
  · rintro ⟨j, hj, rfl⟩
    exact ⟨onDev_ne c j ((h j).mp (List.mem_toFinset.mp hj)), Finset.mem_univ _⟩
  · rintro ⟨hs, -⟩
    have hs' : s.val ≠ c.val := fun e => hs (Fin.ext e)
    have h1 : s.val < 32 := s.isLt
    have h2 : c.val < 32 := c.isLt
    refine ⟨⟨(s.val + 32 - c.val) % 32, Nat.mod_lt _ (by decide)⟩, List.mem_toFinset.mpr ((h _).mpr ?_), Fin.ext ?_⟩
    · show (s.val + 32 - c.val) % 32 ≠ 0
      omega
    · show (c.val + (s.val + 32 - c.val) % 32) % 32 = s.val
      omega
/-- The devices signalled at the barrier, one for each step around the ring, are all the peers. -/
theorem sep_signalled (c : Dev nD) (A : Dev nD → sProp (MM F)) :
    (bigSep (span 1 31).toFinset fun j => A (onDev c j)) = bigSep (peers c all) A := by
  rw [← signalled c, BI.bigSep_map]; rfl

/-- What a device starts with: its positions, that its cells have begun, the tokens of all it pays. -/
def startGhost (c : Dev nD) : sProp (MM F) :=
  iprop(atPos ER (barCell c) 0 ∅ 0 ∗ (pos c 0 0 ∗ pos c 1 0 ∗ pos c 2 0 ∗ pos c 3 0)
    ∗ (came c 0 0 all ∗ came c 1 0 all ∗ came c 2 0 all ∗ came c 3 0 all)
    ∗ ((bigSep (peers c all) fun d => dutyTok ER (barCell d) 0 c) ∗ bigSep (peers c all) fun d => reached ER (barCell d) 0)
    ∗ (rsToks c 0 ∗ rsToks c 1 ∗ rsToks c 2) ∗ (agToks c 0 ∗ agToks c 1))
/-- The credits of all it waits for. -/
def startCred (c : Dev nD) : sProp (MM F) :=
  iprop(cred (tallyAt (barCell c) 0 31) ∗ (credits c 2 0 ∗ credits c 2 1 ∗ credits c 2 2) ∗ (credits c 3 0 ∗ credits c 3 1))
/-- The exchange's buffers, whole. -/
def buffers (c : Dev nD) : sProp (MM F) :=
  iprop((∃ f, bigSep Finset.univ fun s => partPts c s f) ∗ (∃ f, redHeld c f) ∗ (∃ f, bigSep Finset.univ fun s => rsPts c s f)
    ∗ (∃ f, bigSep Finset.univ fun s => agPts c s f))
/-- The staged operands. -/
def operands (c : Dev nD) (x : FVec F S256x256 .bf16) (w : ℕ → FVec F S256x512 .bf16) (o : ℕ → FVec F S512x256 .bf16) : sProp (MM F) :=
  iprop((((c : Thread nD τ).loc cc0_stg0_0) ↦[Finset.univ]{fullShare} x)
    ∗ weights c win0M wout0M (w 0) (o 0) ∗ weights c win1M wout1M (w 1) (o 1) ∗ weights c win2M wout2M (w 2) (o 2))

/-- What a signal to every peer spends, from the slots of the scatter. -/
theorem sig_ready (c : Dev nD) (f : Slab F) :
    iprop((bigSep (peers c all) fun d => dutyTok ER (barCell d) 0 c) ∗ (bigSep (peers c all) fun d => reached ER (barCell d) 0)
        ∗ (bigSep (peers c all) fun d => rsPts c d f) ∗ came c 2 0 all)
      ⊢ bigSep (peers c all) fun d => sigRes c d := by
  have h : (bigSep (peers c all) fun d => sigRes (F := F) c d) = iprop((bigSep (peers c all) fun d => dutyTok ER (barCell d) 0 c)
      ∗ (bigSep (peers c all) fun d => rsReady 0 c d) ∗ bigSep (peers c all) fun d => reached ER (barCell d) 0) := by
    rw [← bigSep_sep', ← bigSep_sep']; rfl
  rw [h]
  iintro ⟨Ht, Hr, Hs⟩
  isplitl [Ht]; · iexact Ht
  isplitr [Hr]
  · iapply (rs_ready c 0 f); iexact Hs
  iexact Hr

set_option maxHeartbeats 1600000 in
/-- The kernel on device `c`. -/
theorem wp_kernel (c : Dev nD) (x : FVec F S256x256 .bf16) (w : ℕ → FVec F S256x512 .bf16) (o : ℕ → FVec F S512x256 .bf16)
    (hP0 : P 0 c = halves (k0_pay3 x (w 0) (o 0)) (k0_pay5 (k0_pay4 (k0_pay2 x) (w 0) (o 0))))
    (hP : ∀ r, P (r + 1) c = halves (k0_pay9 ((agM : Memref sig .tc .vmem S32x8x256 .bf16).view.readAt (Elt F) loR.toLoadRect (agB P r)) (w (r + 1)) (o (r + 1)))
      (k0_pay10 ((agM : Memref sig .tc .vmem S32x8x256 .bf16).view.readAt (Elt F) hiR.toLoadRect (agB P r)) (w (r + 1)) (o (r + 1))))
    (Q : PUnit → sProp (MM F)) :
    iprop(ctx P K ∗ startGhost c ∗ startCred c ∗ buffers c ∗ operands c x w o ∗ (∃ g, outHeld c g) ∗ owesE c (owedAtStart c))
      ⊢ iprop(((finished P c ∗ (bigSep (peers c all) fun s => agAny c s) ∗ atPos ER (barCell c) 1 ∅ 0 ∗ operands c x w o
            ∗ outHeld c (k0_pay1 (k0_pay17 (rsB P 2 c))) ∗ owesE c 0) -∗ Q ⟨⟩) -∗ Runs c (kernel c) Q) := by
  unfold kernel startGhost startCred buffers operands
  iintro ⟨#HC, ⟨Hpb, ⟨Hp0, Hp1, Hp2, Hp3⟩, ⟨#Hb0, #Hb1, #Hb2, #Hb3⟩, ⟨HtB, HrB⟩, ⟨HtR0, HtR1, HtR2⟩, HtA0, HtA1⟩,
    ⟨HcB, ⟨Hc20, Hc21, Hc22⟩, Hc30, Hc31⟩, ⟨⟨%fp, Hpart⟩, Hred, ⟨%fr, Hrs⟩, ⟨%fg, Hag⟩⟩, ⟨Hx, Hw0, Hw1, Hw2⟩, Hout, HO⟩ Hk
  icases (Entails.of_eq (sep_all c fun s => rsPts c s fr)) $$ Hrs with ⟨HrsO, Hrs⟩
  icases (Entails.of_eq (sep_all c fun s => agPts c s fg)) $$ Hag with ⟨HagO, Hag⟩
  icases (Entails.of_eq (sep_all c fun s => partPts c s fp)) $$ Hpart with ⟨HpO, Hp⟩
  icases (Entails.of_eq (sep_mine c fun s => partPts c s fp)) $$ HpO with ⟨HpOL, HpOH⟩
  icases (Entails.of_eq (sep_halves c fun s => partPts c s fp)) $$ Hp with ⟨HpL, HpH⟩
  -- the signals
  iapply (wp_signals P K c _ Q (owedAfterBar c) (span 1 31) (by decide) (by decide)) $$ [HtB HrB Hrs HO]
  · isplitr; · iexact HC
    isplitr [HO]
    · rw [sep_signalled c fun d => sigRes c d]
      iapply (sig_ready c fr)
      isplitl [HtB]; · iexact HtB
      isplitl [HrB]; · iexact HrB
      isplitl [Hrs]; · iexact Hrs
      iexact Hb2
    iexact HO
  iintro HO
  -- the first half of the first partial product
  iapply (wp_firstLo c Q x (w 0) (o 0) fp _) $$ [Hx Hw0 HpL HpOL]
  · rw [sep_peers c lo]
    isplitl [Hx]; · iexact Hx
    isplitl [Hw0]; · iexact Hw0
    isplitl [HpL] <;> iassumption
  iintro ⟨Hx, Hw0, HpL⟩
  iapply (wp_storeLoPart c _ Q fp (P 0 c) _ _ hP0) $$ HpL
  rw [sep_peers c lo]
  iintro ⟨HpL, HpOL⟩
  iapply (wp_barWait P K c _ Q (owedAfterBar c) (above_afterBar c)) $$ [HcB HO Hpb]
  · isplitr; · iexact HC
    isplitl [HcB]; · iexact HcB
    isplitl [HO] <;> iassumption
  iintro ⟨HO, Hpb, Hrd⟩
  unfold rsToks
  icases (Entails.of_eq (sep_halves c fun s => rsReady 0 s c)) $$ Hrd with ⟨HrdL, HrdH⟩
  icases (Entails.of_eq (sep_halves c fun s => rsTok 0 c s)) $$ HtR0 with ⟨HtRL, HtRH⟩
  ihave Hg := (give_list c 0 all fg) $$ [Hag]
  · isplitl [Hag]; · iexact Hag
    iexact Hb3
  icases Hg with ⟨Hg, -⟩
  icases (Entails.of_eq (sep_halves c fun s => rsGive 0 c s)) $$ Hg with ⟨HgL, HgH⟩
  ihave #Hb0' := (show came (F := F) c 0 0 all ⊢ iprop(came c 0 0 lo ∗ came c 0 0 hi) from Entails.of_eq (sep_halves c fun s => reached ER (dcell c 0 s) 0)) $$ Hb0
  icases Hb0' with ⟨#Hb0L, #Hb0H⟩
  iapply (wp_rsSends P K c 0 (by omega) _ lo lo_nodup) $$ [HpL HrdL HtRL HgL HO]
  · isplitr; · iexact HC
    isplitr [HO]
    · isplitl [HpL]; · iexact HpL
      isplitl [HrdL]; · iexact HrdL
      isplitl [HtRL]; · iexact HtRL
      isplitr; · unfold came; iexact Hb0L
      iexact HgL
    iexact HO
  iintro ⟨Hc0L, HO⟩
  -- the second half
  iapply (wp_firstHi c _ Q x (w 0) (o 0) fp (P 0 c) _ hP0) $$ [Hw0 HpH HpOH]
  · rw [sep_peers c hi]
    isplitl [Hw0]; · iexact Hw0
    isplitl [HpH] <;> iassumption
  rw [sep_peers c hi]
  iintro ⟨Hw0, ⟨HpH, HpOH⟩⟩
  iapply (wp_rsSends P K c 0 (by omega) _ hi hi_nodup) $$ [HpH HrdH HtRH HgH HO]
  · isplitr; · iexact HC
    isplitr [HO]
    · isplitl [HpH]; · iexact HpH
      isplitl [HrdH]; · iexact HrdH
      isplitl [HtRH]; · iexact HtRH
      isplitr; · unfold came; iexact Hb0H
      iexact HgH
    iexact HO
  iintro ⟨Hc0H, HO⟩
  iapply (wp_ownCopy P c _ Q 0) $$ [HpOL HpOH HrsO]
  · isplitl [HpOL HpOH]
    · iapply (Entails.of_eq (sep_mine c fun s => partPts c s (P 0 c)).symm)
      isplitl [HpOL] <;> iassumption
    unfold rsAny; iexists _; iexact HrsO
  iintro ⟨HpO, HrsO⟩
  -- the two layers
  iapply (wp_layer P K c 0 (by omega) win1M wout1M (w 1) (o 1) (hP 0) (layerOwed c 1 0)
      (above_layerOwed c (by omega) (by omega) (above_zero _)) _ Q) $$ [HpO HrsO Hred HagO Hc0L Hc0H Hp0 Hp1 Hp2 Hp3 Hc20 Hc30 HtA0 HtR1 Hw1 HO]
  · isplitr; · iexact HC
    isplitr [Hc20 Hc30 HtA0 HtR1 Hw1 HO]
    · unfold between
      isplitl [HrsO]; · iexact HrsO
      isplitl [HpO]; · iexact HpO
      isplitl [Hred]; · iexact Hred
      isplitl [HagO]; · unfold agAny; iexists _; iexact HagO
      isplitl [Hc0L Hc0H]
      · unfold credits
        iapply (Entails.of_eq (sep_halves c fun s => cred (tallyAt (dcell c 0 s) 0 N)).symm)
        isplitl [Hc0L] <;> iassumption
      isplitl [Hp0]; · iexact Hp0
      isplitl [Hp1]; · iexact Hp1
      isplitl [Hp2]; · iexact Hp2
      isplitl [Hp3]; · iexact Hp3
      iexact Hb1
    isplitr [Hw1 HO]
    · isplitl [Hc20]; · iexact Hc20
      isplitl [Hc30]; · iexact Hc30
      isplitl [HtA0]; · iexact HtA0
      unfold rsToks; iexact HtR1
    isplitl [Hw1] <;> iassumption
  iintro ⟨Hbt, -, Hw1, HO⟩
  iapply (wp_layer P K c 1 (by omega) win2M wout2M (w 2) (o 2) (hP 1) 0 (above_zero _) _ Q) $$ [Hbt Hc21 Hc31 HtA1 HtR2 Hw2 HO]
  · isplitr; · iexact HC
    isplitl [Hbt]; · iexact Hbt
    isplitr [Hw2 HO]
    · isplitl [Hc21]; · iexact Hc21
      isplitl [Hc31]; · iexact Hc31
      isplitl [HtA1]; · iexact HtA1
      unfold rsToks; iexact HtR2
    isplitl [Hw2] <;> iassumption
  iintro ⟨Hbt, Hleft, Hw2, HO⟩
  iapply (wp_lastSum P K c Q) $$ [Hbt Hc22 Hout HO]
  · isplitr; · iexact HC
    isplitl [Hbt]; · iexact Hbt
    isplitl [Hc22]; · iexact Hc22
    isplitl [Hout] <;> iassumption
  iintro ⟨Hfin, Hout, HO⟩
  iapply Hk
  isplitl [Hfin]; · iexact Hfin
  isplitl [Hleft]
  · iapply (Entails.of_eq (show (bigSep (peers c all) fun s => agLeft (F := F) c (1 + 1) s) = bigSep (peers c all) fun s => agAny c s from
      bigSep_congr fun s _ => if_neg (by omega)))
    iexact Hleft
  isplitl [Hpb]; · iexact Hpb
  isplitr [Hout HO]
  · isplitl [Hx]; · iexact Hx
    isplitl [Hw0]; · iexact Hw0
    isplitl [Hw1]; · iexact Hw1
    iexact Hw2
  isplitl [Hout] <;> iassumption

end

end Cert.Exchange
-- ==== Proof.Credit.lean ====
/-
The credits at launch: what all devices together owe is, device by device, what each waits for.
-/
module

public import proofs.«01_k».proof.Proof.Whole

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What is owed, as sums over the peers -/

/-- What a loop over different peers owes is the sum of what it owes each. -/
theorem owedL_sum (f : Fin 32 → CellTallies nD τ sig ℕ) : ∀ l : List (Fin 32), l.Nodup → owedL f l = ∑ s ∈ l.toFinset, f s
  | [], _ => rfl
  | s :: l, h => by
    rw [show owedL f (s :: l) = owedL f l + f s from rfl, owedL_sum f l (List.nodup_cons.mp h).2, List.toFinset_cons,
      Finset.sum_insert (fun hs => (List.nodup_cons.mp h).1 (List.mem_toFinset.mp hs)), add_comm]

/-- The two halves of the devices are all of them. -/
theorem sum_halves (f : Fin 32 → CellTallies nD τ sig ℕ) : owedL f hi + owedL f lo = ∑ s, f s := by
  have hd : Disjoint hi.toFinset lo.toFinset := by decide
  rw [owedL_sum f hi hi_nodup, owedL_sum f lo lo_nodup, ← Finset.sum_union hd]
  exact congrArg (fun S : Finset (Fin 32) => ∑ s ∈ S, f s) (by decide)
/-- A debt listed over all devices is the sum of its entries over them. -/
theorem sum_whole (f : Fin 32 → CellTallies nD τ sig ℕ) : owedL f all = ∑ s, f s := by
  rw [owedL_sum f all all_nodup]
  exact congrArg (fun S : Finset (Fin 32) => ∑ s ∈ S, f s) (by decide)

/-- The signals owed: one to every peer. -/
theorem sum_signals (c : Dev nD) : owedL (barDue c) (span 1 31) = ∑ d : Dev nD, if d = c then 0 else tallyAt (barCell d) 0 1 := by
  rw [owedL_sum _ _ (by decide)]
  have h : ∑ j ∈ (span 1 31).toFinset, barDue c j = ∑ d ∈ (span 1 31).toFinset.map ⟨onDev c, onDev_inj c⟩, tallyAt (barCell d) 0 1 :=
    (Finset.sum_map (span 1 31).toFinset ⟨onDev c, onDev_inj c⟩ fun d : Dev nD => (tallyAt (barCell d) 0 1 : CellTallies nD τ sig ℕ)).symm
  rw [h, signalled, peers_all, ← Finset.sum_erase (s := Finset.univ) (a := c) (f := fun d : Dev nD => if d = c then (0 : CellTallies nD τ sig ℕ) else tallyAt (barCell d) 0 1) (if_pos rfl)]
  exact Finset.sum_congr rfl fun d hd => (if_neg (Finset.ne_of_mem_erase hd)).symm

/-- All a device owes at launch: three scatters, two gathers, the signals. -/
theorem owed_split : owedAtStart = fun d => ((∑ s, rsDue d 0 s) + ((∑ s, rsDue d 1 s) + ∑ s, rsDue d 2 s))
    + (((∑ s, agDue d 0 s) + ∑ s, agDue d 1 s) + ∑ e : Dev nD, if e = d then 0 else tallyAt (barCell e) 0 1) := by
  funext d
  unfold owedAtStart owedAfterBar layerOwed
  rw [sum_signals, sum_whole, sum_whole, ← sum_halves (rsDue d 0), ← sum_halves (rsDue d 1), ← sum_halves (rsDue d 2)]
  rw [show (0 : ℕ) + 1 = 1 from rfl, show (1 : ℕ) + 1 = 2 from rfl, zero_add]
  ac_rfl

/-! ## The credits -/

/-- A tally on a cell of another device is no tally on this device's. -/
theorem tallyAt_dev {g g' : GSem nD τ sig} {r k : ℕ} (h : (tallyAt g r k : CellTallies nD τ sig ℕ) g' ≠ 0) : g' = g := by
  by_contra hne
  exact h (Finsupp.ext fun i => by rw [tallyAt_apply, if_neg fun e => hne e.1]; rfl)

/-- A sum of such tallies neither. -/
theorem sum_dev {f : Dev nD → CellTallies nD τ sig ℕ} {g : GSem nD τ sig} {t : Thread nD τ} (hf : ∀ s, f s g ≠ 0 → g.1 = t)
    (h : (∑ s, f s) g ≠ 0) : g.1 = t := by
  rw [Finset.sum_apply] at h
  obtain ⟨s, -, hs⟩ := Finset.exists_ne_zero_of_sum_ne_zero h
  exact hf s hs

/-- Every device owing each peer a tally on the cell `g s d`, each device's launch credit is one from each peer. -/
theorem credit_exchange (g : Dev nD → Dev nD → GSem nD τ sig) (hg : ∀ c s, (g c s).1 = (c : Thread nD τ)) (r n : ℕ) (c : Dev nD) :
    (Pipeline.launchCred (fun d => ∑ s : Dev nD, if s = d then 0 else tallyAt (g s d) r n) c : sProp (MM F))
      = cred (∑ s : Dev nD, if s = c then 0 else tallyAt (g c s) r n) := by
  refine Pipeline.launchCred_of_sum _ (fun c => ∑ s : Dev nD, if s = c then 0 else tallyAt (g c s) r n) ?_ ?_ c
  · rw [Finset.sum_comm]
    refine Finset.sum_congr rfl fun s _ => Finset.sum_congr rfl fun d _ => ?_
    by_cases h : s = d
    · rw [if_pos h, if_pos h.symm]
    · rw [if_neg h, if_neg fun e => h e.symm]
  · intro d g' h
    refine sum_dev (fun s hs => ?_) h
    by_cases e : s = d
    · rw [if_pos e] at hs; exact absurd rfl hs
    · rw [if_neg e] at hs; rw [tallyAt_dev hs]; exact hg d s

/-- The credits of one round of the landings of an array. -/
theorem credits_round (k : Fin 4) (r : ℕ) (c : Dev nD) :
    (Pipeline.launchCred (fun d => ∑ s : Dev nD, if s = d then 0 else tallyAt (dcell s k d) r N) c : sProp (MM F)) ⊢ credits c k r := by
  rw [credit_exchange (fun s d => dcell s k d) (fun _ _ => rfl), Pipeline.cred_finsetSum]
  unfold credits
  rw [sep_all c]
  have h : (bigSep (peers c all) fun s : Fin 32 => (cred (if s = c then 0 else tallyAt (dcell c k s) r N) : sProp (MM F)))
      = bigSep (peers c all) fun s => cred (tallyAt (dcell c k s) r N) :=
    bigSep_congr fun s hs => by rw [if_neg (mem_peers.mp hs).2]
  rw [h]
  exact sep_elim_right

/-- The credit of the barrier: a unit from each of 31 peers. -/
theorem credits_bar (c : Dev nD) :
    (Pipeline.launchCred (fun d => ∑ e : Dev nD, if e = d then 0 else tallyAt (barCell e) 0 1) c : sProp (MM F)) ⊢ cred (tallyAt (barCell c) 0 31) := by
  rw [credit_exchange (fun s _ => barCell s) (fun _ _ => rfl)]
  refine Entails.of_eq (congrArg cred ?_)
  rw [← Finset.sum_erase (s := Finset.univ) (a := c) (f := fun s : Dev nD => if s = c then (0 : CellTallies nD τ sig ℕ) else tallyAt (barCell c) 0 1) (if_pos rfl), Finset.sum_congr rfl fun s hs => if_neg (Finset.ne_of_mem_erase hs)]
  funext g; ext i
  rw [Finset.sum_apply, Finsupp.finsetSum_apply, Finset.sum_const, Finset.card_erase_of_mem (Finset.mem_univ _), tallyAt_apply, tallyAt_apply]
  by_cases h : g = barCell c ∧ i = 0
  · rw [if_pos h, if_pos h]; rfl
  · rw [if_neg h, if_neg h]; rfl

/-- A device's launch credit is all it will wait for. -/
theorem credits_start (c : Dev nD) : (Pipeline.launchCred owedAtStart c : sProp (MM F)) ⊢ startCred c := by
  rw [owed_split, Pipeline.launchCred_add, Pipeline.launchCred_add, Pipeline.launchCred_add, Pipeline.launchCred_add, Pipeline.launchCred_add]
  unfold startCred
  iintro ⟨⟨H0, H1, H2⟩, ⟨⟨H3, H4⟩, HB⟩⟩
  isplitl [HB]; · iapply (credits_bar c); iexact HB
  isplitl [H0 H1 H2]
  · isplitl [H0]; · iapply (credits_round 2 0 c); iexact H0
    isplitl [H1]; · iapply (credits_round 2 1 c); iexact H1
    iapply (credits_round 2 2 c); iexact H2
  isplitl [H3]; · iapply (credits_round 3 0 c); iexact H3
  iapply (credits_round 3 1 c); iexact H4

end Cert.Exchange
-- ==== Proof.Ghost.lean ====
/-
The exchange's ghost state at launch: its cells and tokens, dealt to the devices, and the cells' invariants made from
the semaphores of all devices at once.
-/
module

public import proofs.«01_k».proof.Proof.Credit

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Separating conjunctions over small index types -/

/-- A separating product over an option type: the case of nothing, and the others. -/
theorem sep_option {I : Type} [Fintype I] [DecidableEq I] (Φ : Option I → sProp (MM F)) :
    bigSep Finset.univ Φ = iprop(Φ none ∗ bigSep Finset.univ fun i => Φ (some i)) := by
  have h : (Finset.univ : Finset (Option I)).erase none = Finset.univ.map ⟨some, Option.some_injective I⟩ := by
    ext x; rcases x with _ | i <;> simp
  rw [sep_erase (Finset.mem_univ none), h, BI.bigSep_map]; rfl
/-- A separating product over three members, written out. -/
theorem sep_three (Φ : Fin 3 → sProp (MM F)) : bigSep Finset.univ Φ = iprop(Φ 0 ∗ Φ 1 ∗ Φ 2) := bigSep_univ_eq_bigSepL [0, 1, 2] (by decide) (by decide) Φ
/-- A separating product over four members, written out. -/
theorem sep_four (Φ : Fin 4 → sProp (MM F)) : bigSep Finset.univ Φ = iprop(Φ 0 ∗ Φ 1 ∗ Φ 2 ∗ Φ 3) := bigSep_univ_eq_bigSepL [0, 1, 2, 3] (by decide) (by decide) Φ

/-- A persistent fact beside every conjunct. -/
theorem sep_with {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Cells and tokens -/

/-- All cells of the exchange. -/
def cells : Finset (GSem nD τ sig) := Finset.univ.map ⟨kcell, kcell_inj⟩

/-- The cell device `c` pays by its copy to device `s`, array by array. -/
def payCell (c : Dev nD) (k : Fin 4) (s : Fin 32) : GSem nD τ sig := match k with
  | 0 => dcell c 0 s
  | 1 => dcell c 1 s
  | 2 => dcell s 2 c
  | 3 => dcell s 3 c

/-- What a device pays: the barrier of a device, or a round of a copy. -/
abbrev Pay : Type := Dev nD ⊕ (Fin 4 × Fin 3 × Fin 32)

/-- The token of a payment. -/
def tokOf (x : Dev nD × Pay) : GSem nD τ sig × ℕ × Fin 32 := match x.2 with
  | .inl d => (barCell d, 0, x.1)
  | .inr (k, r, s) => (payCell x.1 k s, r.val, 0)

/-- A device, a family and a peer are determined by the cell that device pays. -/
theorem payCell_inj {c c' : Dev nD} {k k' : Fin 4} {s s' : Fin 32} (h : payCell c k s = payCell c' k' s') : c = c' ∧ k = k' ∧ s = s' := by
  have hk : k = k' := by
    fin_cases k <;> fin_cases k' <;> first | rfl | exact absurd (congrArg Prod.snd (kcell_inj h)) (by simp)
  subst hk
  fin_cases k
  all_goals
    have e := Prod.ext_iff.mp (kcell_inj h)
    have e2 := congrArg Prod.snd (Option.some.inj e.2)
    first
      | exact ⟨e.1, rfl, e2⟩
      | exact ⟨e2, rfl, e.1⟩
/-- No barrier cell is among the cells paid by a copy. -/
theorem payCell_bar {c d : Dev nD} {k : Fin 4} {s : Fin 32} (h : barCell d = payCell c k s) : False := by
  fin_cases k <;> exact absurd (congrArg Prod.snd (kcell_inj h)) (by simp)

/-- Different payments have different tokens. -/
theorem tokOf_inj : Function.Injective tokOf := by
  rintro ⟨c, d | ⟨k, r, s⟩⟩ ⟨c', d' | ⟨k', r', s'⟩⟩ h
  · have h1 : d = d' := congrArg Prod.fst (kcell_inj (congrArg Prod.fst h))
    have h2 : c = c' := congrArg (fun x => x.2.2) h
    subst h1 h2; rfl
  · exact (payCell_bar (congrArg Prod.fst h)).elim
  · exact (payCell_bar (congrArg Prod.fst h).symm).elim
  · obtain ⟨h1, h2, h3⟩ := payCell_inj (congrArg Prod.fst h)
    have h4 : r.val = r'.val := congrArg (fun x => x.2.1) h
    have h5 := Fin.ext h4
    subst h1 h2 h3 h5; rfl

/-- The tokens of all payments of all devices. -/
def toks : Finset (GSem nD τ sig × ℕ × Fin 32) := Finset.univ.map ⟨tokOf, tokOf_inj⟩

/-- The tokens of all a device pays. -/
def payToks (c : Dev nD) : sProp (MM F) := bigSep Finset.univ fun t : Pay => dutyTok ER (tokOf (c, t)).1 (tokOf (c, t)).2.1 (tokOf (c, t)).2.2
/-- The tokens of one round of an array's copies. -/
def roundToks (c : Dev nD) (k : Fin 4) (r : ℕ) : sProp (MM F) := bigSep (peers c all) fun s => dutyTok ER (payCell c k s) r 0

/-- The tokens of one family and one round, from those of every peer. -/
theorem roundToks_intro (c : Dev nD) (k : Fin 4) (r : ℕ) :
    (bigSep Finset.univ fun s : Fin 32 => dutyTok ER (payCell c k s) r 0) ⊢ roundToks (F := F) c k r := by
  unfold roundToks; rw [sep_all c]; exact sep_elim_right
/-- The tokens of one family, round by round. -/
theorem arrayToks_intro (c : Dev nD) (k : Fin 4) :
    (bigSep Finset.univ fun x : Fin 3 × Fin 32 => dutyTok ER (payCell c k x.2) x.1.val 0)
      ⊢ iprop(roundToks (F := F) c k 0 ∗ roundToks c k 1 ∗ roundToks c k 2) := by
  rw [bigSep_univ_prod, sep_three]
  exact BIClass.sep_mono (roundToks_intro c k 0) (BIClass.sep_mono (roundToks_intro c k 1) (roundToks_intro c k 2))
/-- The tokens of one layer's scatter: those for its departures and for its arrivals. -/
theorem rsToks_intro (c : Dev nD) (r : ℕ) : iprop(roundToks c 0 r ∗ roundToks c 2 r) ⊢ rsToks (F := F) c r :=
  Entails.of_eq (bigSep_sep' _ _ _).symm
/-- The tokens of one layer's gather: those for its departures and for its arrivals. -/
theorem agToks_intro (c : Dev nD) (r : ℕ) : iprop(roundToks c 1 r ∗ roundToks c 3 r) ⊢ agToks (F := F) c r :=
  Entails.of_eq (bigSep_sep' _ _ _).symm

/-- A device's tokens, sorted. -/
theorem payToks_split (c : Dev nD) :
    payToks (F := F) c ⊢ iprop((bigSep (peers c all) fun d => dutyTok ER (barCell d) 0 c) ∗ (rsToks c 0 ∗ rsToks c 1 ∗ rsToks c 2) ∗ (agToks c 0 ∗ agToks c 1)) := by
  have h : payToks (F := F) c = iprop((bigSep Finset.univ fun d : Dev nD => dutyTok ER (barCell d) 0 c)
      ∗ bigSep Finset.univ fun k : Fin 4 => bigSep Finset.univ fun x : Fin 3 × Fin 32 => dutyTok ER (payCell c k x.2) x.1.val 0) := by
    unfold payToks; rw [bigSep_univ_sum, bigSep_univ_prod (α := Fin 4)]; rfl
  rw [h, sep_four, sep_all c]
  iintro ⟨⟨-, HB⟩, H0, H1, H2, H3⟩
  icases (arrayToks_intro c 0) $$ H0 with ⟨H00, H01, H02⟩
  icases (arrayToks_intro c 1) $$ H1 with ⟨H10, H11, -⟩
  icases (arrayToks_intro c 2) $$ H2 with ⟨H20, H21, H22⟩
  icases (arrayToks_intro c 3) $$ H3 with ⟨H30, H31, -⟩
  isplitl [HB]; · iexact HB
  isplitl [H00 H01 H02 H20 H21 H22]
  · isplitl [H00 H20]; · iapply (rsToks_intro c 0); isplitl [H00] <;> iassumption
    isplitl [H01 H21]; · iapply (rsToks_intro c 1); isplitl [H01] <;> iassumption
    iapply (rsToks_intro c 2); isplitl [H02] <;> iassumption
  isplitl [H10 H30]; · iapply (agToks_intro c 0); isplitl [H10] <;> iassumption
  iapply (agToks_intro c 1); isplitl [H11] <;> iassumption

/-! ## The semaphores -/

/-- The kernel's own semaphores: four arrays of 32. -/
def osem : Fin 4 × Fin 32 → SemLoc sig := fun x => .dma (dsem x.1 x.2)

/-- The kernel's own semaphores on a device, all at zero. -/
abbrev ownSems (c : Dev nD) : sProp (MM F) := Pipeline.ownSems0 (Ix := ℕ) (Name := ℕ) (U := UU) (Lvl := ℕ) (Val := Elt F) (τ := τ) osem c

/-- The only semaphore that outlives the kernel is the barrier's. -/
theorem unscoped_eq (c : Dev nD) : (unscopedSems0 c : sProp (MM F)) = semVal (barCell c) 0 := by
  unfold unscopedSems0; rw [bigSep_eq_bigSepL_of_eq [SemLoc.reg barS] (by decide) (by decide)]; rfl

/-- They and the barrier are a device's cells. -/
theorem sems_eq (c : Dev nD) : (bigSep Finset.univ fun x : Role => semVal (kcell (c, x)) 0 : sProp (MM F)) = iprop(unscopedSems0 c ∗ ownSems c) := by
  rw [sep_option, unscoped_eq]; rfl

section
variable (P : ℕ → Dev nD → Slab F)

/-- What the launch deals a device: its cells' states, its positions and that its cells have begun, its tokens. -/
def G (c : Dev nD) : sProp (MM F) :=
  iprop((bigSep Finset.univ fun x : Role => roundState ER (Rd P) (kcell (c, x)) 0)
    ∗ (bigSep Finset.univ fun x : Role => iprop(atPos ER (kcell (c, x)) 0 ∅ 0 ∗ reached ER (kcell (c, x)) 0)) ∗ payToks c)

/-- The initial ghost state of the exchange, dealt out to the devices. -/
theorem fund_exchange : BI.own (ER (initOf cells toks)) ⊢ (|==> bigSep Finset.univ (G P) : sProp (MM F)) := by
  have hX (Φ : GSem nD τ sig → sProp (MM F)) : bigSep cells Φ = bigSep Finset.univ fun c : Dev nD => bigSep Finset.univ fun x : Role => Φ (kcell (c, x)) := by
    unfold cells; rw [BI.bigSep_map, bigSep_univ_prod]; rfl
  have hT : bigSep toks (fun x => (dutyTok ER x.1 x.2.1 x.2.2 : sProp (MM F))) = bigSep Finset.univ fun c : Dev nD => payToks c := by
    unfold toks; rw [BI.bigSep_map, bigSep_univ_prod]; rfl
  iintro HX
  imod (Rounds.fund ER (Rd P) cells toks) $$ HX with ⟨Hst, Hr, Hat, Htok⟩
  imodintro
  ihave Hst' := (Entails.of_eq (hX fun g => roundState ER (Rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells: their invariants from the semaphores at zero. -/
theorem core_alloc (c : Dev nD) :
    iprop(ownSems c ∗ unscopedSems0 c ∗ G P c)
      ⊢ |={Set.univ}=> iprop((bigSep Finset.univ fun x : Role => iprop(∃ κ : ℕ, cellInv ER (Rd P) κ (kcell (c, x))))
          ∗ (bigSep Finset.univ fun x : Role => iprop(atPos ER (kcell (c, x)) 0 ∅ 0 ∗ reached ER (kcell (c, x)) 0)) ∗ payToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x : Role => semVal (kcell (c, x)) 0) ∗ bigSep Finset.univ fun x : Role => roundState ER (Rd P) (kcell (c, x)) 0)
      ⊢ (|={Set.univ}=> bigSep Finset.univ fun x : Role => iprop(∃ κ : ℕ, cellInv ER (Rd P) κ (kcell (c, x))) : sProp (MM F)) from by
        rw [← bigSep_sep']
        exact (bigSep_mono fun x _ => (Rounds.body_intro ER (Rd P) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The positions of a device on the cells for itself, where nothing ever happens. -/
def ownPos (c : Dev nD) : sProp (MM F) := bigSep Finset.univ fun k : Fin 4 => atPos ER (dcell c k c) 0 ∅ 0

/-- What the devices' launch makes of it, device by device. -/
def G' (c : Dev nD) : sProp (MM F) :=
  iprop(∃ K : Dev nD × Role → ℕ, (bigSep Finset.univ fun x => cellInv ER (Rd P) (K x) (kcell x)) ∗ startGhost c ∗ ownPos c)

/-- What all devices may use: the invariants, and that every cell has begun. -/
def records (K : Dev nD × Role → ℕ) : sProp (MM F) :=
  iprop((bigSep Finset.univ fun x => cellInv ER (Rd P) (K x) (kcell x)) ∗ bigSep Finset.univ fun x : Dev nD × Role => reached ER (kcell x) 0)
instance records_persistent (K : Dev nD × Role → ℕ) : BI.Persistent (records P K) := by unfold records; infer_instance

/-- Every cell has reached its first round. -/
theorem reached_at (x : Dev nD × Role) :
    (bigSep Finset.univ fun x : Dev nD × Role => (reached ER (kcell x) 0 : sProp (MM F))) ⊢ reached ER (kcell x) 0 :=
  bigSep_elim (Finset.mem_univ x)

/-- That every cell has begun, for the cells named by the members of a set. -/
theorem reached_all {I : Type} [DecidableEq I] (S : Finset I) (g : I → Dev nD × Role) :
    (bigSep Finset.univ fun x : Dev nD × Role => (reached ER (kcell x) 0 : sProp (MM F))) ⊢ bigSep S fun i => reached ER (kcell (g i)) 0 :=
  (BI.bigSep_of_persistent S _).trans (bigSep_mono fun i _ => reached_at (g i))

/-- A device's positions, sorted. -/
theorem positions_split (c : Dev nD) :
    (bigSep Finset.univ fun x : Role => (atPos ER (kcell (c, x)) 0 ∅ 0 : sProp (MM F)))
      ⊢ iprop(atPos ER (barCell c) 0 ∅ 0 ∗ (pos c 0 0 ∗ pos c 1 0 ∗ pos c 2 0 ∗ pos c 3 0) ∗ ownPos c) := by
  have h : (bigSep Finset.univ fun k : Fin 4 => bigSep Finset.univ fun s : Fin 32 => (atPos ER (kcell (c, some (k, s))) 0 ∅ 0 : sProp (MM F)))
      = iprop((bigSep Finset.univ fun k : Fin 4 => atPos ER (dcell c k c) 0 ∅ 0) ∗ bigSep Finset.univ fun k : Fin 4 => pos c k 0) := by
    rw [← bigSep_sep']; exact bigSep_congr fun k _ => sep_all c _
  rw [sep_option, bigSep_univ_prod, h, sep_four fun k => pos c k 0]
  unfold ownPos
  iintro ⟨HB, HO, HP⟩
  isplitl [HB]; · iexact HB
  isplitl [HP]; · iexact HP
  iexact HO

/-- A device's share of the ghost state, from the shared records, its positions and its tokens. -/
theorem ghost_intro (K : Dev nD × Role → ℕ) (c : Dev nD) :
    iprop(records P K ∗ (bigSep Finset.univ fun x : Role => atPos ER (kcell (c, x)) 0 ∅ 0) ∗ payToks c) ⊢ G' P c := by
  unfold records G' startGhost came
  iintro ⟨⟨#HI, #HR⟩, Hat, Htok⟩
  icases (positions_split c) $$ Hat with ⟨HB, HP, HO⟩
  icases (payToks_split c) $$ Htok with ⟨HtB, HtR, HtA⟩
  iexists K
  isplitr; · iexact HI
  isplitr [HO]
  · isplitl [HB]; · iexact HB
    isplitl [HP]; · iexact HP
    isplitr
    · isplitr; · iapply (reached_all (peers c all) fun s => (c, some (0, s))); iexact HR
      isplitr; · iapply (reached_all (peers c all) fun s => (c, some (1, s))); iexact HR
      isplitr; · iapply (reached_all (peers c all) fun s => (c, some (2, s))); iexact HR
      iapply (reached_all (peers c all) fun s => (c, some (3, s))); iexact HR
    isplitl [HtB]
    · isplitl [HtB]; · iexact HtB
      iapply (reached_all (peers c all) fun d => (d, none)); iexact HR
    isplitl [HtR] <;> iassumption
  iexact HO

/-- The cells' invariants and the devices' positions and tokens, gathered into one share for each device. -/
theorem regroup :
    (bigSep Finset.univ fun c : Dev nD => iprop((bigSep Finset.univ fun x : Role => iprop(∃ κ : ℕ, cellInv ER (Rd P) κ (kcell (c, x))))
          ∗ (bigSep Finset.univ fun x : Role => iprop(atPos ER (kcell (c, x)) 0 ∅ 0 ∗ reached ER (kcell (c, x)) 0)) ∗ payToks c) : sProp (MM F))
      ⊢ bigSep Finset.univ (G' P) := by
  rw [bigSep_sep', bigSep_sep', ← bigSep_univ_prod (fun x : Dev nD × Role => iprop(∃ κ : ℕ, cellInv ER (Rd P) κ (kcell x))),
    bigSep_congr (s := Finset.univ) (fun (c : Dev nD) _ => bigSep_sep' Finset.univ (fun x : Role => (atPos ER (kcell (c, x)) 0 ∅ 0 : sProp (MM F))) (fun x => reached ER (kcell (c, x)) 0)),
    bigSep_sep', ← bigSep_univ_prod (fun x : Dev nD × Role => (reached ER (kcell x) 0 : sProp (MM F)))]
  iintro ⟨HI, ⟨Hat, #HR⟩, Htok⟩
  ihave HK := (BI.bigSep_exists_pi Finset.univ (fun (x : Dev nD × Role) (κ : ℕ) => (cellInv ER (Rd P) κ (kcell x) : sProp (MM F)))) $$ HI
  icases HK with ⟨%K, #HI⟩
  iapply (sep_with (R := records P K) fun c _ => ghost_intro P K c)
  isplitr
  · unfold records; isplitl; · iexact HI
    iexact HR
  · rw [bigSep_sep']
    isplitl [Hat] <;> iassumption

/-- All devices' semaphores at once become the exchange's invariants and every device's start. -/
theorem glob : (bigSep Finset.univ fun c : Dev nD => iprop(ownSems c ∗ unscopedSems0 c ∗ G P c) : sProp (MM F))
    ⊢ |={Set.univ}=> bigSep Finset.univ (G' P) :=
  ((bigSep_mono fun c _ => core_alloc P c).trans (bigSep_fupd _ _)).trans (BI.fupd_mono (regroup P))

end

end Cert.Exchange
-- ==== Proof.Closing.lean ====
/-
The end of a run: the cells closed, so that every semaphore is at zero and the device's again, and the exchange's
buffers whole again.
-/
module

public import proofs.«01_k».proof.Proof.Ghost

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (P : ℕ → Dev nD → Slab F) (K : Dev nD × Role → ℕ)

/-- The barrier closed. -/
theorem close_bar (c : Dev nD) : iprop(ctx P K ∗ atPos ER (barCell c) 1 ∅ 0) ⊢ |={Set.univ}=> semVal (barCell c) 0 :=
  (sep_mono_left (ctx_inv P K (c, none))).trans
    (Rounds.cell_close ER (Rd P) (Set.mem_univ (K (c, none))) (fun h => h) (R := 1) fun r hr => duties_bar_later P c r hr)

/-- A semaphore for a peer closed after its last round. -/
theorem close_peer (c : Dev nD) (k : Fin 4) (s : Fin 32) :
    iprop(ctx P K ∗ atPos ER (dcell c k s) (rounds k) ∅ 0) ⊢ |={Set.univ}=> semVal (dcell c k s) 0 :=
  (sep_mono_left (ctx_inv P K (c, some (k, s)))).trans
    (Rounds.cell_close ER (Rd P) (Set.mem_univ (K (c, some (k, s)))) (fun h => h) (R := rounds k) fun r hr => duties_dma_later P c k s r hr)
/-- The semaphore for the device itself closed: it has no round. -/
theorem close_own (c : Dev nD) (k : Fin 4) :
    iprop(ctx P K ∗ atPos ER (dcell c k c) 0 ∅ 0) ⊢ |={Set.univ}=> semVal (dcell c k c) 0 :=
  (sep_mono_left (ctx_inv P K (c, some (k, c)))).trans
    (Rounds.cell_close ER (Rd P) (Set.mem_univ (K (c, some (k, c)))) (fun h => h) (R := 0) fun r _ => duties_own P c k r)

/-- An array closed. -/
theorem close_array (c : Dev nD) (k : Fin 4) :
    iprop(ctx P K ∗ atPos ER (dcell c k c) 0 ∅ 0 ∗ pos c k (rounds k)) ⊢ |={Set.univ}=> bigSep Finset.univ fun s : Fin 32 => semVal (dcell c k s) 0 := by
  iintro ⟨#HC, HO, HP⟩
  imod (close_own P K c k) $$ [HO] with HO
  · isplitr; · iexact HC
    iexact HO
  imod (show iprop(ctx P K ∗ pos c k (rounds k)) ⊢ |={Set.univ}=> bigSep (peers c all) fun s : Fin 32 => semVal (dcell c k s) 0 from
    (sep_with (R := ctx P K) fun s _ => close_peer P K c k s).trans (bigSep_fupd _ _)) $$ [HP] with HP
  · isplitr; · iexact HC
    iexact HP
  imodintro
  rw [sep_all c]
  isplitl [HO] <;> iassumption

/-- All of a device's cells closed. -/
theorem close_all (c : Dev nD) :
    iprop(ctx P K ∗ atPos ER (barCell c) 1 ∅ 0 ∗ ownPos c ∗ pos c 0 3 ∗ pos c 1 2 ∗ pos c 2 3 ∗ pos c 3 2)
      ⊢ |={Set.univ}=> iprop(unscopedSems0 c ∗ ownSems c) := by
  have h : (ownSems c : sProp (MM F)) = iprop((bigSep Finset.univ fun s : Fin 32 => semVal (dcell c 0 s) 0) ∗ (bigSep Finset.univ fun s : Fin 32 => semVal (dcell c 1 s) 0)
      ∗ (bigSep Finset.univ fun s : Fin 32 => semVal (dcell c 2 s) 0) ∗ bigSep Finset.univ fun s : Fin 32 => semVal (dcell c 3 s) 0) := by
    unfold ownSems Pipeline.ownSems0; rw [bigSep_univ_prod, sep_four]; rfl
  rw [h, unscoped_eq]
  unfold ownPos
  rw [sep_four]
  iintro ⟨#HC, HB, ⟨Ho0, Ho1, Ho2, Ho3⟩, H0, H1, H2, H3⟩
  imod (close_bar P K c) $$ [HB] with HB
  · isplitr; · iexact HC
    iexact HB
  imod (close_array P K c 0) $$ [Ho0 H0] with H0
  · isplitr; · iexact HC
    isplitl [Ho0]; · iexact Ho0
    iexact H0
  imod (close_array P K c 1) $$ [Ho1 H1] with H1
  · isplitr; · iexact HC
    isplitl [Ho1]; · iexact Ho1
    iexact H1
  imod (close_array P K c 2) $$ [Ho2 H2] with H2
  · isplitr; · iexact HC
    isplitl [Ho2]; · iexact Ho2
    iexact H2
  imod (close_array P K c 3) $$ [Ho3 H3] with H3
  · isplitr; · iexact HC
    isplitl [Ho3]; · iexact Ho3
    iexact H3
  imodintro
  isplitl [HB]; · iexact HB
  isplitl [H0]; · iexact H0
  isplitl [H1]; · iexact H1
  isplitl [H2] <;> iassumption

/-! ## The buffers -/

/-- All the slots of the buffer of products together are the whole buffer. -/
theorem part_whole (c : Dev nD) (f : Slab F) :
    (bigSep Finset.univ fun s => partPts c s f) = (((c : Thread nD τ).loc cc0_scratch0) ↦{fullShare} f : sProp (MM F)) := by
  rw [partPts_slots, slots_univ]
/-- All the slots of the scatter's buffer together are the whole buffer. -/
theorem rs_whole (c : Dev nD) (f : Slab F) :
    (bigSep Finset.univ fun s => rsPts c s f) = (((c : Thread nD τ).loc cc0_scratch2) ↦{fullShare} f : sProp (MM F)) := by
  rw [rsPts_slots, slots_univ]
/-- All the slots of the gather's buffer together are the whole buffer. -/
theorem ag_whole (c : Dev nD) (f : Slab F) :
    (bigSep Finset.univ fun s => agPts c s f) = (((c : Thread nD τ).loc cc0_scratch3) ↦{fullShare} f : sProp (MM F)) := by
  rw [agPts_slots, slots_univ]

/-- Slots at any contents, each its own, are the buffer at some contents. -/
theorem ag_glue (c : Dev nD) : (bigSep Finset.univ fun s => agAny c s) ⊢ (∃ f, bigSep Finset.univ fun s => agPts (F := F) c s f) := by
  unfold agAny
  iintro H
  have hne : Nonempty (Slab F) := ⟨fun _ => Scalar.ofBits .bf16 0⟩
  ihave H := (BI.bigSep_exists_pi (Y := fun _ : Fin 32 => Slab F) Finset.univ fun (s : Fin 32) (f : Slab F) => agPts c s f) $$ H
  icases H with ⟨%g, H⟩
  iexists fun i => g (slotOf i) i
  have h : (bigSep Finset.univ fun s => agPts (F := F) c s (g s)) = bigSep Finset.univ fun s => agPts (F := F) c s fun i => g (slotOf i) i :=
    bigSep_congr fun s _ => pointsTo_congr fun i hi => by rw [slotOf_of_mem hi]
  rw [← h]
  iexact H

/-- The buffers the launch gives are those the kernel starts with, -/
theorem buffers_intro (c : Dev nD) : (Pipeline.scopedRest cfg0.spec c : sProp (MM F)) ⊢ buffers c := by
  rw [scopedRest0_eq]
  unfold buffers redHeld
  iintro ⟨⟨%f0, H0⟩, ⟨%f1, H1⟩, ⟨%f2, H2⟩, ⟨%f3, H3⟩⟩
  isplitl [H0]; · iexists f0; rw [part_whole]; iexact H0
  isplitl [H1]; · iexists f1; iexact H1
  isplitl [H2]; · iexists f2; rw [rs_whole]; iexact H2
  iexists f3; rw [ag_whole]; iexact H3

/-- and those it ends with it can give back. -/
theorem buffers_exit (c : Dev nD) : buffers c ⊢ (Pipeline.scopedRest cfg0.spec c : sProp (MM F)) := by
  rw [scopedRest0_eq]
  unfold buffers redHeld
  iintro ⟨⟨%f0, H0⟩, ⟨%f1, H1⟩, ⟨%f2, H2⟩, ⟨%f3, H3⟩⟩
  isplitl [H0]; · iexists f0; iapply (Entails.of_eq (part_whole c f0)); iexact H0
  isplitl [H1]; · iexists f1; iexact H1
  isplitl [H2]; · iexists f2; iapply (Entails.of_eq (rs_whole c f2)); iexact H2
  iexists f3; iapply (Entails.of_eq (ag_whole c f3)); iexact H3

/-- What the kernel leaves: its positions after the last rounds, and the buffers. -/
theorem finished_split (c : Dev nD) :
    iprop(finished P c ∗ bigSep (peers c all) fun s => agAny c s) ⊢ iprop((pos c 0 3 ∗ pos c 1 2 ∗ pos c 2 3 ∗ pos c 3 2) ∗ buffers c) := by
  unfold finished buffers
  iintro ⟨⟨Hr, Hp, Hd, Ha, Hpos⟩, Hag⟩
  isplitl [Hpos]; · iexact Hpos
  isplitl [Hp]; · iexists _; iexact Hp
  isplitl [Hd]; · iexact Hd
  isplitl [Hr]; · iexact Hr
  iapply (ag_glue c)
  rw [sep_all c]
  isplitl [Ha] <;> iassumption

end

end Cert.Exchange
-- ==== Proof.Run.lean ====
/-
The run of the whole program from a memory with its semaphores at zero: every device's result, its arguments
unchanged, and every semaphore at zero again. For any float values.
-/
module

public import proofs.«01_k».proof.Proof.Closing
public import proofs.«01_k».proof.Proof.Gen.KernelIdeal.Points

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The contents -/

/-- The partial products of the layers, device by device, from the operand and every device's weights. -/
def prods (x : Dev nD → FVec F S256x256 .bf16) (w : ℕ → Dev nD → FVec F S256x512 .bf16) (o : ℕ → Dev nD → FVec F S512x256 .bf16) : ℕ → Dev nD → Slab F
  | 0 => fun c => halves (k0_pay3 (x c) (w 0 c) (o 0 c)) (k0_pay5 (k0_pay4 (k0_pay2 (x c)) (w 0 c) (o 0 c)))
  | r + 1 => fun c =>
      let g : Slab F := agB (fun _ => prods x w o r) 0
      halves (k0_pay9 ((agM : Memref sig .tc .vmem S32x8x256 .bf16).view.readAt (Elt F) loR.toLoadRect g) (w (r + 1) c) (o (r + 1) c))
        (k0_pay10 ((agM : Memref sig .tc .vmem S32x8x256 .bf16).view.readAt (Elt F) hiR.toLoadRect g) (w (r + 1) c) (o (r + 1) c))

section
variable (m : (ℓ : Loc nD τ sig) → Buf (Elt F) ℓ) (ρ : Dev nD → PrngReg)

/-- The operand of a device, and its weights of a layer. -/
def argX (c : Dev nD) : FVec F S256x256 .bf16 := m ((c : Thread nD τ).loc main_arg0)
/-- The inner weights of layer `r` on a device. -/
def argW (r : ℕ) (c : Dev nD) : FVec F S256x512 .bf16 := match r with
  | 0 => m ((c : Thread nD τ).loc main_arg1)
  | 1 => m ((c : Thread nD τ).loc main_arg3)
  | _ => m ((c : Thread nD τ).loc main_arg5)
/-- The outer weights of layer `r` on a device. -/
def argO (r : ℕ) (c : Dev nD) : FVec F S512x256 .bf16 := match r with
  | 0 => m ((c : Thread nD τ).loc main_arg2)
  | 1 => m ((c : Thread nD τ).loc main_arg4)
  | _ => m ((c : Thread nD τ).loc main_arg6)

/-- The partial products of this run. -/
def PP : ℕ → Dev nD → Slab F := prods (argX m) (argW m) (argO m)
/-- The result of a device. -/
def result (c : Dev nD) : FVec F S8x256 .f32 := k0_pay1 (k0_pay17 (rsB (PP m) 2 c))

/-! ## The pipeline's data -/

/-- The state a run starts from: the given memory, with every semaphore at zero. -/
def s₀ : MemSt nD τ sig (Elt F) := ⟨m, fun _ => 0, ρ⟩

/-- What a device's body starts from: its share of the exchange, its credits, the levels; and its buffers. -/
def start (c : Dev nD) : sProp (MM F) := iprop(G' (PP m) c ∗ startCred c ∗ levAts L lv)
/-- What a device holds before its only grid step. -/
def Φ₀ (c : Dev nD) : sProp (MM F) := iprop(start m c ∗ buffers c)
/-- What it ends with: all its semaphores at zero, and its buffers. -/
def Φ₁ (c : Dev nD) : sProp (MM F) := iprop((unscopedSems0 c ∗ ownSems c) ∗ buffers c)

/-- The data of the pipeline's proof: the arrays, what is left in the output, and the assertions around the grid step. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_arg4)
    | ⟨5, _⟩ => m ((c : Thread nD τ).loc main_arg5)
    | ⟨6, _⟩ => m ((c : Thread nD τ).loc main_arg6)
    | ⟨7, _⟩ => result m c
  Φ t := match t with
    | ⟨0, _⟩ => Φ₀ m c
    | ⟨_ + 1, _⟩ => Φ₁ c
  q _ := fullShare
  owed t := match t with
    | ⟨0, _⟩ => owedAtStart c
    | ⟨_ + 1, _⟩ => 0

/-! ## The body -/

/-- A staging buffer at given contents. -/
abbrev stg (c : Dev nD) (b : Ref sig .tc) (X : b.ty.Contents (Elt F)) : sProp (MM F) :=
  iprop(∃ f : Buf (Elt F) ((c : Thread nD τ).loc b), ⌜f = X⌝ ∗ (((c : Thread nD τ).loc b) ↦{fullShare} f))

/-- Owning a whole buffer, in the notation of the staging buffers. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp (MM F)) = stg c b X := by
  unfold owns; simp only [Memref.view_whole, View.read_whole, View.set_whole]

/-- The offsets of a block at the origin. -/
theorem zeros : (![0, 0] : Fin 2 → Nat) = fun _ => 0 := funext fun a => by fin_cases a <;> rfl

/-- A fetched window's staging buffer holds the argument. -/
theorem before_0 (c : Dev nD) (d) : (dats m ρ 0 c).before (cfg := cfg0) (0 : Fin 8) t0_0 d = m ((c : Thread nD τ).loc main_arg0) := by
  unfold Dat.before; rw [if_pos (fetch0_0 t0_0)]
  show ((cfg0.win 0).blk t0_0).view.read (Elt F) (m ((c : Thread nD τ).loc main_arg0)) = _
  exact Memref.read_access_unit_zero (Elt F) main_arg0 (off := fun a => (cfg0.win 0).index t0_0 a * (cfg0.win 0).size a) (funext fun a => Nat.zero_mul _) _ _
/-- The kernel finds the first layer's inner weights in their staging buffer. -/
theorem before_1 (c : Dev nD) (d) : (dats m ρ 0 c).before (cfg := cfg0) (1 : Fin 8) t0_0 d = m ((c : Thread nD τ).loc main_arg1) := by
  unfold Dat.before; rw [if_pos (fetch0_1 t0_0)]
  show ((cfg0.win 1).blk t0_0).view.read (Elt F) (m ((c : Thread nD τ).loc main_arg1)) = _
  exact Memref.read_access_unit_zero (Elt F) main_arg1 (off := fun a => (cfg0.win 1).index t0_0 a * (cfg0.win 1).size a) (funext fun a => Nat.zero_mul _) _ _
/-- The kernel finds the first layer's outer weights in their staging buffer. -/
theorem before_2 (c : Dev nD) (d) : (dats m ρ 0 c).before (cfg := cfg0) (2 : Fin 8) t0_0 d = m ((c : Thread nD τ).loc main_arg2) := by
  unfold Dat.before; rw [if_pos (fetch0_2 t0_0)]
  show ((cfg0.win 2).blk t0_0).view.read (Elt F) (m ((c : Thread nD τ).loc main_arg2)) = _
  exact Memref.read_access_unit_zero (Elt F) main_arg2 (off := fun a => (cfg0.win 2).index t0_0 a * (cfg0.win 2).size a) (funext fun a => Nat.zero_mul _) _ _
/-- The kernel finds the second layer's inner weights in their staging buffer. -/
theorem before_3 (c : Dev nD) (d) : (dats m ρ 0 c).before (cfg := cfg0) (3 : Fin 8) t0_0 d = m ((c : Thread nD τ).loc main_arg3) := by
  unfold Dat.before; rw [if_pos (fetch0_3 t0_0)]
  show ((cfg0.win 3).blk t0_0).view.read (Elt F) (m ((c : Thread nD τ).loc main_arg3)) = _
  exact Memref.read_access_unit_zero (Elt F) main_arg3 (off := fun a => (cfg0.win 3).index t0_0 a * (cfg0.win 3).size a) (funext fun a => Nat.zero_mul _) _ _
/-- The kernel finds the second layer's outer weights in their staging buffer. -/
theorem before_4 (c : Dev nD) (d) : (dats m ρ 0 c).before (cfg := cfg0) (4 : Fin 8) t0_0 d = m ((c : Thread nD τ).loc main_arg4) := by
  unfold Dat.before; rw [if_pos (fetch0_4 t0_0)]
  show ((cfg0.win 4).blk t0_0).view.read (Elt F) (m ((c : Thread nD τ).loc main_arg4)) = _
  exact Memref.read_access_unit_zero (Elt F) main_arg4 (off := fun a => (cfg0.win 4).index t0_0 a * (cfg0.win 4).size a) (funext fun a => Nat.zero_mul _) _ _
/-- The kernel finds the third layer's inner weights in their staging buffer. -/
theorem before_5 (c : Dev nD) (d) : (dats m ρ 0 c).before (cfg := cfg0) (5 : Fin 8) t0_0 d = m ((c : Thread nD τ).loc main_arg5) := by
  unfold Dat.before; rw [if_pos (fetch0_5 t0_0)]
  show ((cfg0.win 5).blk t0_0).view.read (Elt F) (m ((c : Thread nD τ).loc main_arg5)) = _
  exact Memref.read_access_unit_zero (Elt F) main_arg5 (off := fun a => (cfg0.win 5).index t0_0 a * (cfg0.win 5).size a) (funext fun a => Nat.zero_mul _) _ _
/-- The kernel finds the third layer's outer weights in their staging buffer. -/
theorem before_6 (c : Dev nD) (d) : (dats m ρ 0 c).before (cfg := cfg0) (6 : Fin 8) t0_0 d = m ((c : Thread nD τ).loc main_arg6) := by
  unfold Dat.before; rw [if_pos (fetch0_6 t0_0)]
  show ((cfg0.win 6).blk t0_0).view.read (Elt F) (m ((c : Thread nD τ).loc main_arg6)) = _
  exact Memref.read_access_unit_zero (Elt F) main_arg6 (off := fun a => (cfg0.win 6).index t0_0 a * (cfg0.win 6).size a) (funext fun a => Nat.zero_mul _) _ _

/-- What the body is given at the launch's one point, and what it must leave. -/
def bodyPre (c : Dev nD) : sProp (MM F) :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
/-- What a device holds when its body has run. -/
def bodyPost (c : Dev nD) : sProp (MM F) :=
  iprop(Φ₁ c ∗ (dats m ρ 0 c).owesAt 0 t0_0.succ
    ∗ stg c cc0_stg0_0 (m ((c : Thread nD τ).loc main_arg0)) ∗ stg c cc0_stg1_0 (m ((c : Thread nD τ).loc main_arg1))
    ∗ stg c cc0_stg2_0 (m ((c : Thread nD τ).loc main_arg2)) ∗ stg c cc0_stg3_0 (m ((c : Thread nD τ).loc main_arg3))
    ∗ stg c cc0_stg4_0 (m ((c : Thread nD τ).loc main_arg4)) ∗ stg c cc0_stg5_0 (m ((c : Thread nD τ).loc main_arg5))
    ∗ stg c cc0_stg6_0 (m ((c : Thread nD τ).loc main_arg6)) ∗ stg c cc0_stg7_0 (result m c))

/-- The staged weights of a layer, as the kernel holds them. -/
theorem weights0_eq (c : Dev nD) (w : FVec F S256x512 .bf16) (o : FVec F S512x256 .bf16) :
    weights c win0M wout0M w o = iprop(stg c cc0_stg1_0 w ∗ stg c cc0_stg2_0 o) := by
  unfold weights
  exact congrArg₂ _ (congrArg _ (funext fun f => by rw [show (win0M.view.readAt (Elt F) winR.toLoadRect f) = f from Memref.readAt_unit_zero (Elt F) cc0_stg1_0 zeros _ f]))
    (congrArg _ (funext fun f => by rw [show (wout0M.view.readAt (Elt F) woutR.toLoadRect f) = f from Memref.readAt_unit_zero (Elt F) cc0_stg2_0 zeros _ f]))
/-- The second layer's weights are the contents of two staging buffers. -/
theorem weights1_eq (c : Dev nD) (w : FVec F S256x512 .bf16) (o : FVec F S512x256 .bf16) :
    weights c win1M wout1M w o = iprop(stg c cc0_stg3_0 w ∗ stg c cc0_stg4_0 o) := by
  unfold weights
  exact congrArg₂ _ (congrArg _ (funext fun f => by rw [show (win1M.view.readAt (Elt F) winR.toLoadRect f) = f from Memref.readAt_unit_zero (Elt F) cc0_stg3_0 zeros _ f]))
    (congrArg _ (funext fun f => by rw [show (wout1M.view.readAt (Elt F) woutR.toLoadRect f) = f from Memref.readAt_unit_zero (Elt F) cc0_stg4_0 zeros _ f]))
/-- The third layer's weights are the contents of two staging buffers. -/
theorem weights2_eq (c : Dev nD) (w : FVec F S256x512 .bf16) (o : FVec F S512x256 .bf16) :
    weights c win2M wout2M w o = iprop(stg c cc0_stg5_0 w ∗ stg c cc0_stg6_0 o) := by
  unfold weights
  exact congrArg₂ _ (congrArg _ (funext fun f => by rw [show (win2M.view.readAt (Elt F) winR.toLoadRect f) = f from Memref.readAt_unit_zero (Elt F) cc0_stg5_0 zeros _ f]))
    (congrArg _ (funext fun f => by rw [show (wout2M.view.readAt (Elt F) woutR.toLoadRect f) = f from Memref.readAt_unit_zero (Elt F) cc0_stg6_0 zeros _ f]))

/-- The kernel, from what the body is given to what it must leave. -/
theorem sound_kernel (c : Dev nD) : bodyPre m ρ c ⊢ Runs c (kernel c) fun _ => iprop(|={Set.univ}=> bodyPost m ρ c) := by
  unfold bodyPre Φ₀ start G' Dat.owesAt Pipeline.owesWithin
  iintro ⟨⟨⟨⟨%K, #HI, Hg, Hpos⟩, Hcr, #HL⟩, Hbuf⟩, ⟨%W, %hW, HO⟩, ⟨%d0, %f0, %h0, H0⟩, ⟨%d1, H1⟩, ⟨%d2, H2⟩, ⟨%d3, H3⟩, ⟨%d4, H4⟩, ⟨%d5, H5⟩, ⟨%d6, H6⟩, ⟨%d7, %f7, %h7, H7⟩⟩
  rw [before_1, before_2, before_3, before_4, before_5, before_6]
  rw [before_0] at h0; subst h0
  rw [show (dats m ρ 0 c).owed t0_0.castSucc = owedAtStart c from rfl]
  iapply (wp_kernel (PP m) K c (argX m c) (fun r => argW m r c) (fun r => argO m r c) rfl (fun _ => rfl) _) $$ [Hg Hcr Hbuf HO H0 H1 H2 H3 H4 H5 H6 H7]
  · isplitr
    · unfold ctx; isplitr <;> iassumption
    isplitl [Hg]; · iexact Hg
    isplitl [Hcr]; · iexact Hcr
    isplitl [Hbuf]; · iexact Hbuf
    isplitr [HO H7]
    · unfold operands; rw [weights0_eq, weights1_eq, weights2_eq]
      isplitl [H0]; · iexact H0
      isplitl [H1 H2]; · (isplitl [H1]; · iexact H1); iexact H2
      isplitl [H3 H4]; · (isplitl [H3]; · iexact H3); iexact H4
      (isplitl [H5]; · iexact H5); iexact H6
    isplitl [H7]; · iexists f7; unfold outHeld; iexact H7
    unfold owesE; iexists W; iexact HO
  iintro ⟨Hfin, Hag, Hbar, Hops, Hout, HO⟩
  ihave Hs := (finished_split (PP m) c) $$ [Hfin Hag]
  · isplitl [Hfin] <;> iassumption
  icases Hs with ⟨⟨P0, P1, P2, P3⟩, Hbuf⟩
  imod (close_all (PP m) K c) $$ [Hbar Hpos P0 P1 P2 P3] with Hz
  · isplitr
    · unfold ctx; isplitr <;> iassumption
    isplitl [Hbar]; · iexact Hbar
    isplitl [Hpos]; · iexact Hpos
    isplitl [P0]; · iexact P0
    isplitl [P1]; · iexact P1
    isplitl [P2]; · iexact P2
    iexact P3
  imodintro
  unfold bodyPost Φ₁ Dat.owesAt Pipeline.owesWithin operands owesE outHeld
  rw [weights0_eq, weights1_eq, weights2_eq, show (dats m ρ 0 c).owed t0_0.succ = 0 from rfl]
  icases Hops with ⟨H0, ⟨H1, H2⟩, ⟨H3, H4⟩, H5, H6⟩
  icases HO with ⟨%W', HO⟩
  isplitl [Hz Hbuf]; · isplitl [Hz] <;> iassumption
  isplitl [HO]
  · iexists W'
    isplitr; · ipureintro; exact fun _ _ => Or.inl trivial
    iexact HO
  isplitl [H0]
  · iexists _; isplitr; · (ipureintro; rfl)
    iexact H0
  isplitl [H1]; · iexact H1
  isplitl [H2]; · iexact H2
  isplitl [H3]; · iexact H3
  isplitl [H4]; · iexact H4
  isplitl [H5]; · iexact H5
  isplitl [H6]; · iexact H6
  iexists _; isplitr; · (ipureintro; rfl)
  iexact Hout

/-- What the launch asks of a device's body. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  show bodyPre m ρ c ⊢ wp frame (wpE (defs₀ (F := F)) 𝒱₀ c none) Set.univ (here (cc0_body (F := F))) (fun _ => bodyPost m ρ c)
  rw [body_eq, wp_deviceId]
  exact BIBase.Entails.trans (sound_kernel m ρ c) (wp_fupd frame _ Set.univ _ _)

end

end Cert.Exchange
-- ==== Proof.Launching.lean ====
/-
The launch of the exchange kernel on every device, and the run of the whole program. For any float values.
-/
module

public import proofs.«01_k».proof.Proof.Run
public import Idealize.ShloMosaic.Lib.Pipeline.CollectiveSegs
public import Idealize.ShloMosaic.Lib.Pipeline.Value

@[expose] public section

set_option synthInstance.maxSize 4096
set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The launch -/

section
variable (m : (ℓ : Loc nD τ sig) → Buf (Elt F) ℓ) (ρ : Dev nD → PrngReg)

/-- What a device has when its kernel starts, from the arrays it was given and its share of the ghost state. -/
theorem start_intro (c : Dev nD) :
    iprop(Pipeline.unscopedRestP Pipeline.Prefetch.none cfg0.spec c (fun b => m ((c : Thread nD τ).loc b)) ∗ levAts L lv
        ∗ Pipeline.launchCred owedAtStart c ∗ prngReg c (ρ c) ∗ G' (PP m) c)
      ⊢ |={Set.univ}=> iprop(start m c ∗ emp) := by
  iintro ⟨-, Hlev, Hcr, -, HG⟩
  ihave Hc := (credits_start (F := F) c) $$ Hcr
  imodintro
  unfold start
  isplitl
  · isplitl [HG]; · iexact HG
    isplitl [Hc]; · iexact Hc
    iexact Hlev
  · iempintro

/-- The assertion before the only grid step, from what the device starts with and its scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (buffers_intro c); iexact Hr

/-- The assertion after the only grid step gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨Hu, Ho⟩, Hr⟩
  isplitl [Hu]; · iexact Hu
  isplitl [Ho]; · iexact Ho
  iapply (buffers_exit c); iexact Hr

/-- Every window's array is held whole. -/
theorem share_eq (c : Dev nD) (w : Fin cfg0.W) : (dats m ρ 0 c).share w = fullShare := by unfold Dat.share; split <;> rfl

/-- The kernel's own semaphores are pairwise different. -/
theorem osem_inj : Function.Injective osem := by
  rintro ⟨k, s⟩ ⟨k', s'⟩ h
  obtain ⟨rfl, rfl⟩ := dsem_inj (SemLoc.dma.inj h)
  rfl

/-- The kernel's own semaphores are scoped, all different, and none is a staging semaphore. -/
theorem ownSemFacts : Pipeline.OwnSemFacts cfg0.spec osem where
  isScoped := by decide +kernel
  inj := osem_inj
  disj := by decide +kernel

/-- The staging semaphores have no part in the exchange. -/
theorem lv_stage (c : Dev nD) : ∀ (w : Fin cfg0.W) (s : Fin (cfg0.win w).nbuf), role (.dma ((cfg0.win w).sem s)) = none := by decide +kernel

/-- The waits of the staging copies are below everything owed. -/
theorem waits (c : Dev nD) : (levAts L lv : sProp (MM F)) ⊢ Pipeline.cellsWaits cfgs (dats m ρ) (0 : ℕ) 0 c :=
  Pipeline.cellsWaits_intro cfgs (dats m ρ) (0 : ℕ) 0 c fun w s t => by
    refine mayWait (n := 0) c _ (r := 0) (by omega) (by unfold lv; rw [lv_stage c w s]) ?_
    rcases t with ⟨_ | _, ht⟩
    · exact above_atStart c
    · exact above_zero 0

/-- The launch's ghost state: the staging cells' and the exchange's. -/
def u₀ : UU := (initOf (Pipeline.cells cfgs cellOf_inj) (Pipeline.launchToks cfgs cellOf_inj), initOf cells toks)

/-- What every final state satisfies: each device's arrays at what the pipeline's data compute. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- Every weakly fair run of the program, from any memory with its semaphores at zero, ends; and every final state has
    each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAtStart) (howed₀ := fun _ => rfl) (howedN := fun _ => rfl)
    (L := L) (lv := lv) (hL := L_of_ne) (hwaits := waits m ρ)
    (G := G (PP m)) (G' := G' (PP m)) (u₀ := u₀)
    (hu₀ := by
      unfold u₀
      iintro Hu
      ihave H := (ownU_pair _ _) $$ Hu
      icases H with ⟨HP, HX⟩
      imod (fund_exchange (PP m)) $$ HX with HG
      imodintro
      isplitl [HP] <;> iassumption)
    (hglob := glob (PP m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- An argument keeps its contents. -/
theorem arrAt_0 (c : Dev nD) : (dats m ρ 0 c).arrAt (0 : Fin 8) cfg0.N = m ((c : Thread nD τ).loc main_arg0) := (dats m ρ 0 c).arrAt_in (0 : Fin 8) rfl _
/-- The array of the first layer's inner weights is unchanged at the end. -/
theorem arrAt_1 (c : Dev nD) : (dats m ρ 0 c).arrAt (1 : Fin 8) cfg0.N = m ((c : Thread nD τ).loc main_arg1) := (dats m ρ 0 c).arrAt_in (1 : Fin 8) rfl _
/-- The array of the first layer's outer weights is unchanged at the end. -/
theorem arrAt_2 (c : Dev nD) : (dats m ρ 0 c).arrAt (2 : Fin 8) cfg0.N = m ((c : Thread nD τ).loc main_arg2) := (dats m ρ 0 c).arrAt_in (2 : Fin 8) rfl _
/-- The array of the second layer's inner weights is unchanged at the end. -/
theorem arrAt_3 (c : Dev nD) : (dats m ρ 0 c).arrAt (3 : Fin 8) cfg0.N = m ((c : Thread nD τ).loc main_arg3) := (dats m ρ 0 c).arrAt_in (3 : Fin 8) rfl _
/-- The array of the second layer's outer weights is unchanged at the end. -/
theorem arrAt_4 (c : Dev nD) : (dats m ρ 0 c).arrAt (4 : Fin 8) cfg0.N = m ((c : Thread nD τ).loc main_arg4) := (dats m ρ 0 c).arrAt_in (4 : Fin 8) rfl _
/-- The array of the third layer's inner weights is unchanged at the end. -/
theorem arrAt_5 (c : Dev nD) : (dats m ρ 0 c).arrAt (5 : Fin 8) cfg0.N = m ((c : Thread nD τ).loc main_arg5) := (dats m ρ 0 c).arrAt_in (5 : Fin 8) rfl _
/-- The array of the third layer's outer weights is unchanged at the end. -/
theorem arrAt_6 (c : Dev nD) : (dats m ρ 0 c).arrAt (6 : Fin 8) cfg0.N = m ((c : Thread nD τ).loc main_arg6) := (dats m ρ 0 c).arrAt_in (6 : Fin 8) rfl _

/-- What the output's window writes back is its block of the result. -/
theorem flushed_eq (c : Dev nD) (t : Fin cfg0.N) : (dats m ρ 0 c).flushed (7 : Fin 8) t = ((cfg0.win 7).blk t).view.read (Elt F) (result m c) := by
  obtain rfl := fin_N0 t
  refine Eq.trans ?_ (Memref.read_access_unit_zero (Elt F) main_v1 (off := fun a => (cfg0.win 7).index t0_0 a * (cfg0.win 7).size a)
    (funext fun a => Nat.zero_mul _) (by decide) (result m c)).symm
  rfl

/-- Every element of the output is in a block that is written back. -/
theorem cover (i : S8x256.Idx) : ∃ t : Fin cfg0.N, (cfg0.win 7).flush t = true ∧ i ∈ ((cfg0.win 7).blk t).view.set := by
  refine ⟨t0_0, flush0_7 _, ?_⟩
  show i ∈ ((View.whole main_v1).slice (win0_7.rect t0_0)).set
  rw [View.set_slice_whole, Rect.mem_set_unit]
  intro a
  exact ⟨by show 0 * _ ≤ _; omega, by show _ < 0 * _ + _; rw [Nat.zero_mul, Nat.zero_add]; exact (i a).isLt⟩

/-- The result array of a device ends at the kernel's result. -/
theorem arrAt_7 (c : Dev nD) : (dats m ρ 0 c).arrAt (7 : Fin 8) cfg0.N = result m c :=
  (dats m ρ 0 c).arrAt_eq_of_cover 7 (result m c) (fun t _ => flushed_eq m ρ c t) cover

/-- Every weakly fair run ends with each device's result, its arguments unchanged, and every semaphore at zero. -/
theorem run_result : θ_run defs (onTc (τ := τ) (main (F := F))) (s₀ m ρ) fun r =>
    ((∀ c : Dev nD, r.2.mem ((c : Thread nD τ).loc main_v1) = result m c)
      ∧ ∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
    ∧ r.2.sem = fun _ => 0 :=
  (θ_run _ _ _).mono (fun r h => ⟨⟨fun c => (h.1 c 7).trans (arrAt_7 m ρ c), fun c => ⟨(h.1 c 0).trans (arrAt_0 m ρ c),
    (h.1 c 1).trans (arrAt_1 m ρ c), (h.1 c 2).trans (arrAt_2 m ρ c), (h.1 c 3).trans (arrAt_3 m ρ c), (h.1 c 4).trans (arrAt_4 m ρ c),
    (h.1 c 5).trans (arrAt_5 m ρ c), (h.1 c 6).trans (arrAt_6 m ρ c)⟩⟩, h.2⟩) (run_main m ρ)

end

end Cert.Exchange
-- ==== Proof.Frames.lean ====
/-
The frames: each program runs to its end from any memory with its semaphores at zero, its arguments unchanged and its
semaphores at zero again.
-/
module

public import proofs.«01_k».proof.Defs
public import proofs.«01_k».proof.Proof.Gen.Kernel
public import proofs.«01_k».proof.Proof.Gen.ReferenceIdeal.Run
public import proofs.«01_k».proof.Proof.Launching

@[expose] public section

set_option maxRecDepth 65536

noncomputable section

namespace Cert.Exchange

open Idealize.ShloMosaic Idealize.SL.Sem

/-- The kernel read at the extended reals. -/
theorem frame_kernelIdeal : Cert.quiescent_KernelIdeal := fun m ρ _ =>
  (θ_run (Cert.KernelIdeal.defs (F := Ideal)) _ _).mono (fun _ h => ⟨h.1.2, h.2⟩) (run_result (F := Ideal) m ρ)

/-- The reference declares no semaphore, and no operation of it writes an argument. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The two kernels' body tables are one: label by label, the functions have the same text. -/
theorem defs_bodies : Cert.Kernel.defs₀ (F := Bits) = Cert.KernelIdeal.defs₀ (F := Bits) := by
  unfold Cert.Kernel.defs₀ Cert.KernelIdeal.defs₀
  congr 1
  funext l a
  match l, a with
  | 0, (t, s) => rfl

/-- The two kernels' tables of bodies and pipelines are one. -/
theorem defs_same : Cert.Kernel.defs (F := Bits) = Cert.KernelIdeal.defs (F := Bits) :=
  congrArg (Pipeline.defs (Cert.KernelIdeal.pcfgs (F := Bits))) defs_bodies

/-- The two kernels' entry points are one. -/
theorem main_same : Cert.Kernel.main (F := Bits) = Cert.KernelIdeal.main (F := Bits) := rfl

/-- The kernel at the machine's floats: its text is the idealized kernel's, so its run is that one's at other floats. -/
theorem frame_kernel : Cert.quiescent_Kernel := fun m ρ _ => by
  rw [defs_same, main_same]
  exact (θ_run (Cert.KernelIdeal.defs (F := Bits)) _ _).mono (fun _ h => ⟨h.1.2, h.2⟩) (run_result (F := Bits) m ρ)

end Cert.Exchange
-- ==== Proof.Products.lean ====
/-
What one device's products hold over the extended reals: at each row and column the sum over the device's hidden
units of the rectified inner product with the row, times the second weight. Then the sum over the devices.
-/
module

public import proofs.«01_k».proof.Proof.Run
public import Idealize.ShloMosaic.Lib.MatmulPlain
public import Idealize.ShloMosaic.Lib.ValueIdx
public import Idealize.ShloMosaic.Lib.ValueLayout
public import Idealize.ShloMosaic.Lib.Pipeline.Value
public import Idealize.ShloMosaic.PureOps.Ideal.Laws

@[expose] public section

set_option maxRecDepth 65536

noncomputable section

namespace Cert.Exchange

open Cert.KernelIdeal Cert.KernelIdeal.Gen
open Idealize.ShloMosaic Idealize.ShloMosaic.ValueIdx
open Idealize.SL.Sem
open scoped BigOperators

/-- One device's share of a layer at a row of the operand and a column: its 512 hidden units, rectified, times the
    second weight. -/
def share (w : FVec Ideal S256x512 .bf16) (o : FVec Ideal S512x256 .bf16) (r : Fin 256 → EReal) (q : Fin 256) : EReal :=
  ∑ h : Fin 512, max (∑ k : Fin 256, r k * w (ix2 k h)) 0 * o (ix2 h q)

/-- The products of 128 rows, laid out as 16 slots of eight rows, as the kernel computes them. -/
def mlp (v : FVec Ideal S128x256 .bf16) (w : FVec Ideal S256x512 .bf16) (o : FVec Ideal S512x256 .bf16) : FVec Ideal S16x8x256 .bf16 :=
  truncf .bf16 (shapeCast S16x8x256 (matmul dot_S128x512_S512x256_S128x256_1_0_0_1_n_n none
    (truncf .bf16 (maximumf (matmul dot_S128x256_S256x512_S128x512_1_0_0_1_n_n none v w (constant S128x512 .f32 0x00000000#32))
      (broadcast S128x512 (Scalar.ofBits .f32 0x00000000#32))) bitsLt_bf16_f32) o (constant S128x256 .f32 0x00000000#32))
    shapeCasts_S128x256_S16x8x256) bitsLt_bf16_f32

/-- The first product at a row and a hidden unit. -/
theorem first_apply (v : FVec Ideal S128x256 .bf16) (w : FVec Ideal S256x512 .bf16) (i : Fin 128) (h : Fin 512) :
    matmul dot_S128x256_S256x512_S128x512_1_0_0_1_n_n none v w (constant S128x512 .f32 0x00000000#32) (ix2 i h)
      = ∑ k : Fin 256, v (ix2 i k) * w (ix2 k h) :=
  (Ideal.matmul_plain_apply (M := 128) (K := 256) (N := 512) none v w (constant S128x512 .f32 0x00000000#32) i h).trans
    ((congrArg (· + _) Ideal.ofBits_zero_f32).trans (zero_add _))

/-- The second product at a row and a column. -/
theorem second_apply (v : FVec Ideal S128x512 .bf16) (o : FVec Ideal S512x256 .bf16) (i : Fin 128) (q : Fin 256) :
    matmul dot_S128x512_S512x256_S128x256_1_0_0_1_n_n none v o (constant S128x256 .f32 0x00000000#32) (ix2 i q)
      = ∑ h : Fin 512, v (ix2 i h) * o (ix2 h q) :=
  (Ideal.matmul_plain_apply (M := 128) (K := 512) (N := 256) none v o (constant S128x256 .f32 0x00000000#32) i q).trans
    ((congrArg (· + _) Ideal.ofBits_zero_f32).trans (zero_add _))

/-- Row `p` of slot `s` of 16 is row `8 s + p` of 128. -/
def rowLo (s : Fin 16) (p : Fin 8) : Fin 128 := ⟨8 * s.val + p.val, by omega⟩

/-- 128 rows seen as 16 slots of eight, and back. -/
theorem cast_slots {α : Type} (x : S128x256.Idx → α) (s : Fin 16) (p : Fin 8) (q : Fin 256) :
    shapeCast S16x8x256 x shapeCasts_S128x256_S16x8x256 (ix3 s p q) = x (ix2 (rowLo s p) q) := by
  refine shapeCast_apply x _ _ _ ?_
  rw [Shape.rowMajor_val_two, Shape.rowMajor_val_three]
  show (8 * s.val + p.val) * 256 + q.val = (s.val * 8 + p.val) * 256 + q.val
  omega
/-- Sixteen blocks of eight rows laid out as 128 rows: row `p` of block `s`, as an element. -/
theorem cast_rows {α : Type} (x : S16x8x256.Idx → α) (s : Fin 16) (p : Fin 8) (q : Fin 256) :
    shapeCast S128x256 x shapeCasts_S16x8x256_S128x256 (ix2 (rowLo s p) q) = x (ix3 s p q) := by
  refine shapeCast_apply x _ _ _ ?_
  rw [Shape.rowMajor_val_two, Shape.rowMajor_val_three]
  show (s.val * 8 + p.val) * 256 + q.val = (8 * s.val + p.val) * 256 + q.val
  omega

/-- The products at a slot, a row and a column are the device's share at that row of the operand. -/
theorem mlp_apply (v : FVec Ideal S128x256 .bf16) (w : FVec Ideal S256x512 .bf16) (o : FVec Ideal S512x256 .bf16)
    (s : Fin 16) (p : Fin 8) (q : Fin 256) :
    mlp v w o (ix3 s p q) = share w o (fun k => v (ix2 (rowLo s p) k)) q := by
  refine (cast_slots _ s p q).trans ((second_apply _ o _ q).trans (Finset.sum_congr rfl fun h _ => ?_))
  refine congrArg (· * o (ix2 h q)) ?_
  show max (matmul dot_S128x256_S256x512_S128x512_1_0_0_1_n_n none v w (constant S128x512 .f32 0x00000000#32) (ix2 (rowLo s p) h))
    (Ideal.ofBits .f32 0x00000000#32) = _
  rw [first_apply, Ideal.ofBits_zero_f32]

/-! ## The kernel's products -/

/-- Row `p` of slot `s` of 32 is row `8 s + p` of 256. -/
def row (s : Fin 32) (p : Fin 8) : Fin 256 := ⟨8 * s.val + p.val, by omega⟩
/-- A slot of the first half, of the second half, among the 32. -/
def loSlot (s : Fin 16) : Fin 32 := ⟨s.val, by omega⟩
/-- Slot `s` of the upper half, among all the slots. -/
def hiSlot (s : Fin 16) : Fin 32 := ⟨16 + s.val, by omega⟩

/-- The first layer's products of the first half, of the second half. -/
theorem first_lo (x : FVec Ideal S256x256 .bf16) (w : FVec Ideal S256x512 .bf16) (o : FVec Ideal S512x256 .bf16) (s : Fin 16) (p : Fin 8)
    (q : Fin 256) : k0_pay3 (F := Ideal) x w o (ix3 s p q) = share w o (fun k => x (ix2 (row (loSlot s) p) k)) q := by
  have e : k0_pay3 (F := Ideal) x w o = mlp (extractStridedSlice S128x256 ![0, 0] x slices_S256x256_o0_0_S128x256) w o := by
    unfold k0_pay3 k0_pay2 mlp
    simp only [shapeCast_self]
  rw [e, mlp_apply]
  refine congrArg (share w o · q) (funext fun k => ?_)
  exact slice2_axis0_apply 0 x _ (rowLo s p) k (row (loSlot s) p) (Nat.zero_add _).symm
/-- The first layer's product for the upper half: row `p` of slot `s` is the device's share for that row of the input. -/
theorem first_hi (x : FVec Ideal S256x256 .bf16) (w : FVec Ideal S256x512 .bf16) (o : FVec Ideal S512x256 .bf16) (s : Fin 16) (p : Fin 8)
    (q : Fin 256) : k0_pay5 (F := Ideal) (k0_pay4 (k0_pay2 x) w o) (ix3 s p q) = share w o (fun k => x (ix2 (row (hiSlot s) p) k)) q := by
  have e : k0_pay5 (F := Ideal) (k0_pay4 (k0_pay2 x) w o) = mlp (extractStridedSlice S128x256 ![128, 0] x slices_S256x256_o128_0_S128x256) w o := by
    unfold k0_pay5 k0_pay4 k0_pay2 mlp
    simp only [shapeCast_self]
  rw [e, mlp_apply]
  refine congrArg (share w o · q) (funext fun k => ?_)
  exact slice2_axis0_apply 128 x _ (rowLo s p) k (row (hiSlot s) p)
    (show 8 * (16 + s.val) + p.val = 128 + (8 * s.val + p.val) by omega)

/-- A later layer's products of a half, from the sixteen slots of the gathered operand. -/
theorem later_lo (g : FVec Ideal S16x8x256 .bf16) (w : FVec Ideal S256x512 .bf16) (o : FVec Ideal S512x256 .bf16) (s : Fin 16) (p : Fin 8)
    (q : Fin 256) : k0_pay9 (F := Ideal) g w o (ix3 s p q) = share w o (fun k => g (ix3 s p k)) q := by
  have e : k0_pay9 (F := Ideal) g w o = mlp (shapeCast S128x256 g shapeCasts_S16x8x256_S128x256) w o := by
    unfold k0_pay9 mlp
    simp only [shapeCast_self]
  rw [e, mlp_apply]
  exact congrArg (share w o · q) (funext fun k => cast_rows g s p k)
/-- A later layer's product for the upper half: row `p` of slot `s` is the device's share for that gathered row. -/
theorem later_hi (g : FVec Ideal S16x8x256 .bf16) (w : FVec Ideal S256x512 .bf16) (o : FVec Ideal S512x256 .bf16) (s : Fin 16) (p : Fin 8)
    (q : Fin 256) : k0_pay10 (F := Ideal) g w o (ix3 s p q) = share w o (fun k => g (ix3 s p k)) q := by
  have e : k0_pay10 (F := Ideal) g w o = mlp (shapeCast S128x256 g shapeCasts_S16x8x256_S128x256) w o := by
    unfold k0_pay10 mlp
    simp only [shapeCast_self]
  rw [e, mlp_apply]
  exact congrArg (share w o · q) (funext fun k => cast_rows g s p k)

/-! ## The slots -/

/-- A buffer given by its halves, read at a slot of the one or of the other. -/
theorem halves_apply (a b : FVec Ideal S16x8x256 .bf16) (φ : Fin 32 → EReal) (s : Fin 32) (p : Fin 8) (q : Fin 256)
    (ha : ∀ t : Fin 16, a (ix3 t p q) = φ (loSlot t)) (hb : ∀ t : Fin 16, b (ix3 t p q) = φ (hiSlot t)) :
    halves a b (ix3 s p q) = φ s := by
  unfold halves
  by_cases h : s.val < 16
  · rw [dif_pos (show ((ix3 s p q : S32x8x256.Idx) 0).val < 16 from h)]
    refine (congrArg a (?_ : _ = ix3 (⟨s.val, h⟩ : Fin 16) p q)).trans (ha _)
    exact funext fun x => match x with | ⟨0, _⟩ => rfl | ⟨1, _⟩ => rfl | ⟨2, _⟩ => rfl
  · rw [dif_neg (show ¬ ((ix3 s p q : S32x8x256.Idx) 0).val < 16 from h)]
    have hs : s.val - 16 < 16 := by omega
    refine (congrArg b (?_ : _ = ix3 (⟨s.val - 16, hs⟩ : Fin 16) p q)).trans ((hb _).trans (congrArg φ (Fin.ext ?_)))
    · exact funext fun x => match x with | ⟨0, _⟩ => rfl | ⟨1, _⟩ => rfl | ⟨2, _⟩ => rfl
    · show 16 + (s.val - 16) = s.val
      omega

/-- The halves of the gathered buffer, as a later layer loads them. -/
theorem load_lo (g : Slab Ideal) (s : Fin 16) (p : Fin 8) (k : Fin 256) :
    (agM : Memref sig .tc .vmem S32x8x256 .bf16).view.readAt (Elt Ideal) loR.toLoadRect g (ix3 s p k) = g (ix3 (loSlot s) p k) := by
  refine congrArg g (funext fun a => Fin.ext ((Rect.emb_apply loR _ a).trans ?_))
  rw [Rect.stride_unit, Nat.one_mul, Rect.off_unit]
  match a with
  | ⟨0, _⟩ => exact Nat.zero_add _
  | ⟨1, _⟩ => exact Nat.zero_add _
  | ⟨2, _⟩ => exact Nat.zero_add _
/-- Loading the upper half of the gather's buffer, by elements. -/
theorem load_hi (g : Slab Ideal) (s : Fin 16) (p : Fin 8) (k : Fin 256) :
    (agM : Memref sig .tc .vmem S32x8x256 .bf16).view.readAt (Elt Ideal) hiR.toLoadRect g (ix3 s p k) = g (ix3 (hiSlot s) p k) := by
  refine congrArg g (funext fun a => Fin.ext ((Rect.emb_apply hiR _ a).trans ?_))
  rw [Rect.stride_unit, Nat.one_mul, Rect.off_unit]
  match a with
  | ⟨0, _⟩ => rfl
  | ⟨1, _⟩ => exact Nat.zero_add _
  | ⟨2, _⟩ => exact Nat.zero_add _

/-! ## The sums over the devices -/

/-- The received slots summed: every device's part of this device's slot. -/
theorem sum_slots (v : FVec Ideal S32x8x256 .f32) (p : Fin 8) (q : Fin 256) : k0_pay1 v (ix2 p q) = ∑ d : Fin 32, v (ix3 d p q) := by
  refine (Ideal.multiReduction_add_single v _ reduces_S32x8x256_S8x256 (.inl rfl) rfl (ix2 p q)).trans ?_
  refine Finset.sum_congr rfl fun d _ => congrArg v ?_
  exact funext fun a => match a with | ⟨0, _⟩ => rfl | ⟨1, _⟩ => rfl | ⟨2, _⟩ => rfl

/-- What a device received at slot `d` is device `d`'s products at this device's slot. -/
theorem received (P : ℕ → Dev nD → Slab Ideal) (l : ℕ) (c : Dev nD) (d : Fin 32) (p : Fin 8) (q : Fin 256) :
    rsB P l c (ix3 d p q) = P l d (ix3 (c : Fin 32) p q) := by
  unfold rsB
  refine congrArg₂ (P l) (Fin.ext rfl) (funext fun a => Fin.ext ((place_val _ _ a).trans ?_))
  match a with
  | ⟨0, _⟩ => exact Nat.add_zero _
  | ⟨1, _⟩ => exact Nat.zero_add _
  | ⟨2, _⟩ => exact Nat.zero_add _

/-- A device's reduced rows. -/
theorem reduced (P : ℕ → Dev nD → Slab Ideal) (l : ℕ) (c : Dev nD) (p : Fin 8) (q : Fin 256) :
    redB P l c (ix2 p q) = ∑ d : Dev nD, P l d (ix3 (c : Fin 32) p q) := by
  have e : redB P l c (ix2 p q) = k0_pay1 (k0_pay17 (rsB P l c)) (ix2 p q) := by
    unfold redB k0_pay7
    simp only [shapeCast_self]
    rfl
  rw [e, sum_slots]
  exact Finset.sum_congr rfl fun d _ => received P l c d p q

/-- The gathered rows. -/
theorem gathered (P : ℕ → Dev nD → Slab Ideal) (l : ℕ) (s : Fin 32) (p : Fin 8) (q : Fin 256) :
    agB P l (ix3 s p q) = ∑ d : Dev nD, P l d (ix3 s p q) := by
  have e : agB P l (ix3 s p q) = redB P l s (ix2 p q) := by
    unfold agB k0_pay8
    refine (shapeCast_addUnit_apply _ (redB P l (slotOf (ix3 s p q))) _ (tail (ix3 s p q))).trans ?_
    exact congrArg₂ (redB P l) (Fin.ext rfl) (funext fun a => match a with | ⟨0, _⟩ => rfl | ⟨1, _⟩ => rfl)
  rw [e, reduced]

/-! ## The layers -/

/-- The operand of layer `r`, row by row: the launch's operand, then the devices' shares of the layer before, summed. -/
def hidden (x : Fin 256 → Fin 256 → EReal) (w : ℕ → Dev nD → FVec Ideal S256x512 .bf16) (o : ℕ → Dev nD → FVec Ideal S512x256 .bf16) :
    ℕ → Fin 256 → Fin 256 → EReal
  | 0 => x
  | r + 1 => fun i q => ∑ d : Dev nD, share (w r d) (o r d) (hidden x w o r i) q

/-- Layer `r`'s products on a device are its shares of the layer's operand. -/
theorem prods_apply (x : FVec Ideal S256x256 .bf16) (w : ℕ → Dev nD → FVec Ideal S256x512 .bf16) (o : ℕ → Dev nD → FVec Ideal S512x256 .bf16)
    (r : ℕ) : ∀ (c : Dev nD) (s : Fin 32) (p : Fin 8) (q : Fin 256),
      prods (fun _ => x) w o r c (ix3 s p q) = share (w r c) (o r c) (hidden (fun i k => x (ix2 i k)) w o r (row s p)) q := by
  induction r with
  | zero =>
    intro c s p q
    exact halves_apply _ _ (fun t => share (w 0 c) (o 0 c) (fun k => x (ix2 (row t p) k)) q) s p q
      (fun t => first_lo x _ _ t p q) (fun t => first_hi x _ _ t p q)
  | succ r ih =>
    intro c s p q
    have hg : ∀ (t : Fin 32) (k : Fin 256), agB (fun _ => prods (fun _ => x) w o r) 0 (ix3 t p k)
        = hidden (fun i k => x (ix2 i k)) w o (r + 1) (row t p) k := fun t k =>
      (gathered _ 0 t p k).trans (Finset.sum_congr rfl fun d _ => ih d t p k)
    exact halves_apply _ _ (fun t => share (w (r + 1) c) (o (r + 1) c) (hidden (fun i k => x (ix2 i k)) w o (r + 1) (row t p)) q) s p q
      (fun t => (later_lo _ _ _ t p q).trans (congrArg (share _ _ · q) (funext fun k => (load_lo _ t p k).trans (hg _ k))))
      (fun t => (later_hi _ _ _ t p q).trans (congrArg (share _ _ · q) (funext fun k => (load_hi _ t p k).trans (hg _ k))))

/-- A device's result is its eight rows of the third layer, where every device starts from the same operand. -/
theorem result_apply (m : (ℓ : Loc nD τ sig) → Buf (Elt Ideal) ℓ) (x : FVec Ideal S256x256 .bf16) (hx : ∀ c, argX m c = x)
    (c : Dev nD) (p : Fin 8) (q : Fin 256) :
    result m c (ix2 p q) = hidden (fun i k => x (ix2 i k)) (argW m) (argO m) 3 (row c p) q := by
  have hp : PP m = prods (fun _ => x) (argW m) (argO m) := by unfold PP; rw [show argX m = fun _ => x from funext hx]
  unfold result
  rw [hp]
  refine (sum_slots _ p q).trans (Finset.sum_congr rfl fun d _ => ?_)
  exact (received _ 2 c d p q).trans (prods_apply x _ _ 2 d c p q)

end Cert.Exchange
-- ==== Proof.Layers.lean ====
/-
The reference over the extended reals: each of its three layers is the sum, over the 32 devices, of the devices' shares
at the same row, the weights being cut into the devices' blocks. So the whole is the kernel's, row by row.
-/
module

public import proofs.«01_k».proof.Proof.Products
public import proofs.«01_k».proof.Proof.Gen.ReferenceIdeal.Run
public import proofs.«01_k».proof.Proof.Gen.ReferenceIdeal.Read
public import Idealize.ShloMosaic.Lib.Layout

@[expose] public section

set_option maxRecDepth 65536

noncomputable section

namespace Cert.Exchange

open Cert.KernelIdeal Cert.KernelIdeal.Gen
open Idealize.ShloMosaic Idealize.ShloMosaic.ValueIdx
open Idealize.SL.Sem
open scoped BigOperators
open Cert.ReferenceIdeal.Read

/-- The first weights' columns, the second weights' rows are cut into 32 blocks of 512. -/
theorem tiles_in : Layout.Tiles S256x512 ⟨2, ![256, 16384]⟩ 1 32 := by decide
/-- A layer's outer weights are cut by rows over the devices. -/
theorem tiles_out : Layout.Tiles S512x256 ⟨2, ![16384, 256]⟩ 0 32 := by decide

/-- The word of zero is zero. -/
theorem zero_word : Ideal.ofBits .bf16 0x0000#16 = 0 := by simp [Ideal.ofBits, Ideal.ieee]

/-- The whole layer at a row and a column: all 16384 hidden units, rectified, times the second weight. -/
theorem layer_apply (x : FVec Ideal ⟨2, ![256, 256]⟩ .bf16) (w : FVec Ideal ⟨2, ![256, 16384]⟩ .bf16) (o : FVec Ideal ⟨2, ![16384, 256]⟩ .bf16)
    (i q : Fin 256) : val_main_v9 (F := Ideal) x w o (ix2 i q)
      = ∑ h : Fin 16384, max (∑ k : Fin 256, x (ix2 i k) * w (ix2 k h)) 0 * o (ix2 h q) := by
  refine (val_main_v8_apply x w o (ix2 i q)).trans (Finset.sum_congr rfl fun h _ => ?_)
  refine congrArg₂ (· * ·) ?_ (congrArg o ?_)
  · refine congrArg₂ max ((val_main_v2_apply x w _).trans (Finset.sum_congr rfl fun k _ => congrArg₂ (· * ·) (congrArg x ?_) (congrArg w ?_))) ?_
    · exact funext fun a => match a with | ⟨0, _⟩ => rfl | ⟨1, _⟩ => rfl
    · exact funext fun a => match a with | ⟨0, _⟩ => rfl | ⟨1, _⟩ => rfl
    · exact (val_main_v4_apply _).trans zero_word
  · exact funext fun a => match a with | ⟨0, _⟩ => rfl | ⟨1, _⟩ => rfl

/-- The hidden units, device by device. -/
theorem sum_units (f : Fin 16384 → EReal) :
    ∑ h : Fin 16384, f h = ∑ d : Fin 32, ∑ u : Fin 512, f ⟨d.val * 512 + u.val, by omega⟩ := by
  rw [← Equiv.sum_comp (finProdFinEquiv (m := 32) (n := 512)) f, Fintype.sum_prod_type]
  refine Finset.sum_congr rfl fun d _ => Finset.sum_congr rfl fun u _ => congrArg f (Fin.ext ?_)
  show u.val + 512 * d.val = d.val * 512 + u.val
  omega

/-- The whole layer is the sum of the shares of the devices' blocks of the weights. -/
theorem layer_shares (x : FVec Ideal ⟨2, ![256, 256]⟩ .bf16) (w : FVec Ideal ⟨2, ![256, 16384]⟩ .bf16) (o : FVec Ideal ⟨2, ![16384, 256]⟩ .bf16)
    (i q : Fin 256) : val_main_v9 (F := Ideal) x w o (ix2 i q)
      = ∑ d : Fin 32, share (Layout.block S256x512 ⟨2, ![256, 16384]⟩ 1 32 d w tiles_in) (Layout.block S512x256 ⟨2, ![16384, 256]⟩ 0 32 d o tiles_out)
          (fun k => x (ix2 i k)) q := by
  rw [layer_apply, sum_units]
  refine Finset.sum_congr rfl fun d _ => Finset.sum_congr rfl fun u _ => ?_
  refine congrArg₂ (· * ·) (congrArg (max · 0) (Finset.sum_congr rfl fun k _ => congrArg (x (ix2 i k) * ·) (congrArg w ?_))) (congrArg o ?_)
  · exact funext fun a => match a with | ⟨0, _⟩ => rfl | ⟨1, _⟩ => rfl
  · exact funext fun a => match a with | ⟨0, _⟩ => rfl | ⟨1, _⟩ => rfl

/-- The reference's three layers are one function, applied three times. -/
theorem reference_layers (x : FVec Ideal ⟨2, ![256, 256]⟩ .bf16) (w₀ : FVec Ideal ⟨2, ![256, 16384]⟩ .bf16) (o₀ : FVec Ideal ⟨2, ![16384, 256]⟩ .bf16)
    (w₁ : FVec Ideal ⟨2, ![256, 16384]⟩ .bf16) (o₁ : FVec Ideal ⟨2, ![16384, 256]⟩ .bf16)
    (w₂ : FVec Ideal ⟨2, ![256, 16384]⟩ .bf16) (o₂ : FVec Ideal ⟨2, ![16384, 256]⟩ .bf16) :
    val_main_v30 (F := Ideal) x w₀ o₀ w₁ o₁ w₂ o₂
      = val_main_v9 (F := Ideal) (val_main_v9 (F := Ideal) (val_main_v9 (F := Ideal) x w₀ o₀) w₁ o₁) w₂ o₂ := rfl

/-- The reference at a row and a column is the third layer of the shares, for weights cut into the devices' blocks. -/
theorem reference_apply (x : FVec Ideal ⟨2, ![256, 256]⟩ .bf16) (w₀ : FVec Ideal ⟨2, ![256, 16384]⟩ .bf16) (o₀ : FVec Ideal ⟨2, ![16384, 256]⟩ .bf16)
    (w₁ : FVec Ideal ⟨2, ![256, 16384]⟩ .bf16) (o₁ : FVec Ideal ⟨2, ![16384, 256]⟩ .bf16)
    (w₂ : FVec Ideal ⟨2, ![256, 16384]⟩ .bf16) (o₂ : FVec Ideal ⟨2, ![16384, 256]⟩ .bf16)
    (w : ℕ → Dev nD → FVec Ideal S256x512 .bf16) (o : ℕ → Dev nD → FVec Ideal S512x256 .bf16)
    (hw₀ : ∀ d, w 0 d = Layout.block S256x512 ⟨2, ![256, 16384]⟩ 1 32 d w₀ tiles_in)
    (ho₀ : ∀ d, o 0 d = Layout.block S512x256 ⟨2, ![16384, 256]⟩ 0 32 d o₀ tiles_out)
    (hw₁ : ∀ d, w 1 d = Layout.block S256x512 ⟨2, ![256, 16384]⟩ 1 32 d w₁ tiles_in)
    (ho₁ : ∀ d, o 1 d = Layout.block S512x256 ⟨2, ![16384, 256]⟩ 0 32 d o₁ tiles_out)
    (hw₂ : ∀ d, w 2 d = Layout.block S256x512 ⟨2, ![256, 16384]⟩ 1 32 d w₂ tiles_in)
    (ho₂ : ∀ d, o 2 d = Layout.block S512x256 ⟨2, ![16384, 256]⟩ 0 32 d o₂ tiles_out) (i q : Fin 256) :
    val_main_v30 (F := Ideal) x w₀ o₀ w₁ o₁ w₂ o₂ (ix2 i q) = hidden (fun i k => x (ix2 i k)) w o 3 i q := by
  have step : ∀ (r : ℕ) (y : FVec Ideal ⟨2, ![256, 256]⟩ .bf16) (W : FVec Ideal ⟨2, ![256, 16384]⟩ .bf16) (O : FVec Ideal ⟨2, ![16384, 256]⟩ .bf16),
      (∀ d, w r d = Layout.block S256x512 ⟨2, ![256, 16384]⟩ 1 32 d W tiles_in) →
      (∀ d, o r d = Layout.block S512x256 ⟨2, ![16384, 256]⟩ 0 32 d O tiles_out) →
      (∀ i k, y (ix2 i k) = hidden (fun i k => x (ix2 i k)) w o r i k) →
      ∀ i k, val_main_v9 (F := Ideal) y W O (ix2 i k) = hidden (fun i k => x (ix2 i k)) w o (r + 1) i k := by
    intro r y W O hW hO hy i k
    refine (layer_shares y W O i k).trans (Finset.sum_congr rfl fun d _ => ?_)
    rw [hW d, hO d]
    exact congrArg (share _ _ · k) (funext fun l => hy i l)
  rw [reference_layers]
  exact step 2 _ _ _ hw₂ ho₂ (step 1 _ _ _ hw₁ ho₁ (step 0 _ _ _ hw₀ ho₀ fun _ _ => rfl)) i q

end Cert.Exchange
-- ==== Proof.Equation.lean ====
/-
The value claim: over the extended reals, from the devices' parts of the reference's arguments, every device ends with
its eight rows of the reference's result.
-/
module

public import proofs.«01_k».proof.Defs
public import proofs.«01_k».proof.Proof.Launching
public import proofs.«01_k».proof.Proof.Layers

@[expose] public section

set_option maxRecDepth 65536

noncomputable section

namespace Cert.Exchange

open Cert.KernelIdeal Cert.KernelIdeal.Gen
open Idealize.ShloMosaic Idealize.ShloMosaic.ValueIdx
open Idealize.SL.Sem
open scoped BigOperators
open Cert.ReferenceIdeal.Read

/-- The result's rows are cut into 32 blocks of eight. -/
theorem tiles_result : Layout.Tiles S8x256 ⟨2, ![256, 256]⟩ 0 32 := by decide

/-- A device's result is its block of the reference's, where the devices hold their parts of the reference's arguments. -/
theorem result_block (m : (ℓ : Loc nD τ sig) → Buf (Elt Ideal) ℓ)
    (x : FVec Ideal ⟨2, ![256, 256]⟩ .bf16) (w₀ : FVec Ideal ⟨2, ![256, 16384]⟩ .bf16) (o₀ : FVec Ideal ⟨2, ![16384, 256]⟩ .bf16)
    (w₁ : FVec Ideal ⟨2, ![256, 16384]⟩ .bf16) (o₁ : FVec Ideal ⟨2, ![16384, 256]⟩ .bf16)
    (w₂ : FVec Ideal ⟨2, ![256, 16384]⟩ .bf16) (o₂ : FVec Ideal ⟨2, ![16384, 256]⟩ .bf16)
    (hx : ∀ c, argX m c = x)
    (hw₀ : ∀ d, argW m 0 d = Layout.block S256x512 ⟨2, ![256, 16384]⟩ 1 32 d w₀ tiles_in)
    (ho₀ : ∀ d, argO m 0 d = Layout.block S512x256 ⟨2, ![16384, 256]⟩ 0 32 d o₀ tiles_out)
    (hw₁ : ∀ d, argW m 1 d = Layout.block S256x512 ⟨2, ![256, 16384]⟩ 1 32 d w₁ tiles_in)
    (ho₁ : ∀ d, argO m 1 d = Layout.block S512x256 ⟨2, ![16384, 256]⟩ 0 32 d o₁ tiles_out)
    (hw₂ : ∀ d, argW m 2 d = Layout.block S256x512 ⟨2, ![256, 16384]⟩ 1 32 d w₂ tiles_in)
    (ho₂ : ∀ d, argO m 2 d = Layout.block S512x256 ⟨2, ![16384, 256]⟩ 0 32 d o₂ tiles_out) (c : Dev nD) :
    result m c = Layout.block S8x256 ⟨2, ![256, 256]⟩ 0 32 c (val_main_v30 (F := Ideal) x w₀ o₀ w₁ o₁ w₂ o₂) tiles_result := by
  funext i
  obtain ⟨p, q, rfl⟩ : ∃ (p : Fin 8) (q : Fin 256), i = ix2 p q := ⟨i 0, i 1, eq_ix2 i⟩
  refine (result_apply m x hx c p q).trans
    ((reference_apply x w₀ o₀ w₁ o₁ w₂ o₂ (argW m) (argO m) hw₀ ho₀ hw₁ ho₁ hw₂ ho₂ (row c p) q).symm.trans ?_)
  refine congrArg (val_main_v30 (F := Ideal) x w₀ o₀ w₁ o₁ w₂ o₂) (funext fun a => Fin.ext ?_)
  match a with
  | ⟨0, _⟩ => show 8 * (c : ℕ) + p.val = (c : ℕ) * 8 + p.val; omega
  | ⟨1, _⟩ => rfl

/-- The reference's argument `b` in a memory. -/
abbrev given (m' : (ℓ : Loc Cert.ReferenceIdeal.nD Cert.ReferenceIdeal.τ Cert.ReferenceIdeal.sig) → Buf (Elt Ideal) ℓ)
    (b : Ref Cert.ReferenceIdeal.sig .tc) := m' (((0 : Dev Cert.ReferenceIdeal.nD).tc : Thread Cert.ReferenceIdeal.nD Cert.ReferenceIdeal.τ).loc b)

/-- The reference's result from its arguments in a memory. -/
def whole (m' : (ℓ : Loc Cert.ReferenceIdeal.nD Cert.ReferenceIdeal.τ Cert.ReferenceIdeal.sig) → Buf (Elt Ideal) ℓ) :
    FVec Ideal ⟨2, ![256, 256]⟩ .f32 :=
  val_main_v30 (F := Ideal) (given m' Cert.ReferenceIdeal.main_arg0) (given m' Cert.ReferenceIdeal.main_arg1)
    (given m' Cert.ReferenceIdeal.main_arg2) (given m' Cert.ReferenceIdeal.main_arg3) (given m' Cert.ReferenceIdeal.main_arg4)
    (given m' Cert.ReferenceIdeal.main_arg5) (given m' Cert.ReferenceIdeal.main_arg6)

/-- The kernel and the reference compute one function over the extended reals. -/
theorem algebraic : Cert.algebraic_KernelIdeal_ReferenceIdeal := by
  intro m g m' g' _ h
  refine ⟨whole m', ?_, ?_⟩
  rotate_left
  · exact (θ_run (Cert.ReferenceIdeal.defs (F := Ideal)) _ _).mono
      (fun r h => ⟨(h 0).1.trans (val_main_v30_eq ..), (h 0).2⟩) (Cert.ReferenceIdeal.Value.run (F := Ideal) m' g')
  · exact (θ_run (defs (F := Ideal)) _ _).mono
      (fun r hr c => ⟨(hr.1.1 c).trans (result_block m _ _ _ _ _ _ _ (fun d => (h d).1) (fun d => (h d).2.1) (fun d => (h d).2.2.1)
        (fun d => (h d).2.2.2.1) (fun d => (h d).2.2.2.2.1) (fun d => (h d).2.2.2.2.2.1) (fun d => (h d).2.2.2.2.2.2) c), hr.1.2 c⟩)
      (run_result (F := Ideal) m g)

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_kernelIdeal, Cert.Exchange.frame_reference, trivial,
  Cert.Exchange.algebraic⟩

end Cert.Proof

end
